-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v29)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)) →
    ∃ (v0 : (c : Dev Cert.Kernel3Ideal.nD) → Buf (Elt Ideal) ((c.tc : Thread Cert.Kernel3Ideal.nD Cert.Kernel3Ideal.τ).loc Cert.Kernel3Ideal.main_v70_0)) (v1 : (c : Dev Cert.Kernel3Ideal.nD) → Buf (Elt Ideal) ((c.tc : Thread Cert.Kernel3Ideal.nD Cert.Kernel3Ideal.τ).loc Cert.Kernel3Ideal.main_v70_1)) (v2 : (c : Dev Cert.Kernel3Ideal.nD) → Buf (Elt Ideal) ((c.tc : Thread Cert.Kernel3Ideal.nD Cert.Kernel3Ideal.τ).loc Cert.Kernel3Ideal.main_v70_2)) (v3 : (c : Dev Cert.Kernel3Ideal.nD) → Buf (Elt Ideal) ((c.tc : Thread Cert.Kernel3Ideal.nD Cert.Kernel3Ideal.τ).loc Cert.Kernel3Ideal.main_v70_3)) (v4 : (c : Dev Cert.Kernel3Ideal.nD) → Buf (Elt Ideal) ((c.tc : Thread Cert.Kernel3Ideal.nD Cert.Kernel3Ideal.τ).loc Cert.Kernel3Ideal.main_v70_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v70_0) = v0 c
          ∧ r.2.mem ((c.tc : Thread Cert.Kernel3Ideal.nD Cert.Kernel3Ideal.τ).loc Cert.Kernel3Ideal.main_v70_1) = v1 c
          ∧ r.2.mem ((c.tc : Thread Cert.Kernel3Ideal.nD Cert.Kernel3Ideal.τ).loc Cert.Kernel3Ideal.main_v70_2) = v2 c
          ∧ r.2.mem ((c.tc : Thread Cert.Kernel3Ideal.nD Cert.Kernel3Ideal.τ).loc Cert.Kernel3Ideal.main_v70_3) = v3 c
          ∧ r.2.mem ((c.tc : Thread Cert.Kernel3Ideal.nD Cert.Kernel3Ideal.τ).loc Cert.Kernel3Ideal.main_v70_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v173) = v1 c
          ∧ r.2.mem ((c.tc : Thread Cert.Reference3Ideal.nD Cert.Reference3Ideal.τ).loc Cert.Reference3Ideal.main_v175) = v2 c
          ∧ r.2.mem ((c.tc : Thread Cert.Reference3Ideal.nD Cert.Reference3Ideal.τ).loc Cert.Reference3Ideal.main_v177) = v3 c
          ∧ r.2.mem ((c.tc : Thread Cert.Reference3Ideal.nD Cert.Reference3Ideal.τ).loc Cert.Reference3Ideal.main_v179) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S8x8x4096x256 : Shape := ⟨4, ![8, 8, 4096, 256]⟩
abbrev S8x8x4096x128 : Shape := ⟨4, ![8, 8, 4096, 128]⟩
abbrev S8x4096x128 : Shape := ⟨3, ![8, 4096, 128]⟩
abbrev S_ : Shape := ⟨0, ![]⟩
abbrev S8x1x4096x128 : Shape := ⟨4, ![8, 1, 4096, 128]⟩

class Facts : Prop where
  slices_S8x8x4096x256_S8x8x4096x128_0_0_0_0 : S8x8x4096x256.Slices ![0, 0, 0, 0] S8x8x4096x128
  bitsLt_bf16_f32 : FTy.bits .bf16 < FTy.bits .f32
  bcast_S_S8x8x4096x128 : S_.BroadcastsInDim S8x8x4096x128 (![] : Fin 0 → Fin S8x8x4096x128.rank)
  slices_S8x8x4096x256_S8x8x4096x128_0_0_0_128 : S8x8x4096x256.Slices ![0, 0, 0, 128] S8x8x4096x128
  bcast_S_S8x4096x128 : S_.BroadcastsInDim S8x4096x128 (![] : Fin 0 → Fin S8x4096x128.rank)
  bcast_S8x4096x128_S8x1x4096x128_0_2_3 : S8x4096x128.BroadcastsInDim S8x1x4096x128 (![0, 2, 3] : Fin 3 → Fin S8x1x4096x128.rank)
  bcast_S8x1x4096x128_S8x8x4096x128_0_1_2_3 : S8x1x4096x128.BroadcastsInDim S8x8x4096x128 (![0, 1, 2, 3] : Fin 4 → Fin S8x8x4096x128.rank)

variable [Facts]

def fn_part1 {F : FTy → Type} [FloatOps F] (main_v15 : IVec S8x8x4096x128 1) (main_v19 : IVec S8x4096x128 1) : IVec S8x8x4096x128 1 :=
  let main_v20 : IVec S8x1x4096x128 1 := broadcastInDim S8x1x4096x128 ![0, 2, 3] bcast_S8x4096x128_S8x1x4096x128_0_2_3 main_v19
  let main_v21 : IVec S8x8x4096x128 1 := broadcastInDim S8x8x4096x128 ![0, 1, 2, 3] bcast_S8x1x4096x128_S8x8x4096x128_0_1_2_3 main_v20
  let main_v22 : IVec S8x8x4096x128 1 := andi main_v15 main_v21
  main_v22

def fn {F : FTy → Type} [FloatOps F] (main_arg0 : FVec F S8x8x4096x256 .bf16) (main_arg1 : FVec F S8x8x4096x128 .bf16) (main_arg2 : FVec F S8x4096x128 .bf16) (main_arg3 : FVec F S8x8x4096x128 .bf16) : IVec S8x8x4096x128 1 :=
  let main_v0 : FVec F S8x8x4096x128 .bf16 := (extractStridedSlice S8x8x4096x128 ![0, 0, 0, 0] · slices_S8x8x4096x256_S8x8x4096x128_0_0_0_0) main_arg0
  let main_v1 : FVec F S8x8x4096x128 .f32 := (extf .f32 · bitsLt_bf16_f32) main_v0
  let main_v2 : FVec F S8x8x4096x128 .f32 := Host.absf main_v1
  let main_cst : FVec F S_ .f32 := constant S_ .f32 0x7F800000#32
  let main_v3 : FVec F S8x8x4096x128 .f32 := broadcastInDim S8x8x4096x128 ![] bcast_S_S8x8x4096x128 main_cst
  let main_v4 : IVec S8x8x4096x128 1 := cmpf .olt main_v2 main_v3
  let main_v5 : FVec F S8x8x4096x128 .bf16 := (extractStridedSlice S8x8x4096x128 ![0, 0, 0, 128] · slices_S8x8x4096x256_S8x8x4096x128_0_0_0_128) main_arg0
  let main_v6 : FVec F S8x8x4096x128 .f32 := (extf .f32 · bitsLt_bf16_f32) main_v5
  let main_v7 : FVec F S8x8x4096x128 .f32 := Host.absf main_v6
  let main_cst_0 : FVec F S_ .f32 := constant S_ .f32 0x7F800000#32
  let main_v8 : FVec F S8x8x4096x128 .f32 := broadcastInDim S8x8x4096x128 ![] bcast_S_S8x8x4096x128 main_cst_0
  let main_v9 : IVec S8x8x4096x128 1 := cmpf .olt main_v7 main_v8
  let main_v10 : IVec S8x8x4096x128 1 := andi main_v4 main_v9
  let main_v11 : FVec F S8x8x4096x128 .f32 := (extf .f32 · bitsLt_bf16_f32) main_arg1
  let main_v12 : FVec F S8x8x4096x128 .f32 := Host.absf main_v11
  let main_cst_1 : FVec F S_ .f32 := constant S_ .f32 0x7F800000#32
  let main_v13 : FVec F S8x8x4096x128 .f32 := broadcastInDim S8x8x4096x128 ![] bcast_S_S8x8x4096x128 main_cst_1
  let main_v14 : IVec S8x8x4096x128 1 := cmpf .olt main_v12 main_v13
  let main_v15 : IVec S8x8x4096x128 1 := andi main_v10 main_v14
  let main_v16 : FVec F S8x4096x128 .f32 := (extf .f32 · bitsLt_bf16_f32) main_arg2
  let main_v17 : FVec F S8x4096x128 .f32 := Host.absf main_v16
  let main_cst_2 : FVec F S_ .f32 := constant S_ .f32 0x7F800000#32
  let main_v18 : FVec F S8x4096x128 .f32 := broadcastInDim S8x4096x128 ![] bcast_S_S8x4096x128 main_cst_2
  let main_v19 : IVec S8x4096x128 1 := cmpf .olt main_v17 main_v18
  fn_part1 (F := F) main_v15 main_v19
-- ==== Kernel.lean ====
abbrev S8x8x4096x256 : Shape := ⟨4, ![8, 8, 4096, 256]⟩
abbrev S8x8x4096x128 : Shape := ⟨4, ![8, 8, 4096, 128]⟩
abbrev S8x4096x128 : Shape := ⟨3, ![8, 4096, 128]⟩
abbrev S8x4096x1024 : Shape := ⟨3, ![8, 4096, 1024]⟩
abbrev S1x1x4096x256 : Shape := ⟨4, ![1, 1, 4096, 256]⟩
abbrev S1x1x4096x128 : Shape := ⟨4, ![1, 1, 4096, 128]⟩
abbrev S1x4096x128 : Shape := ⟨3, ![1, 4096, 128]⟩
abbrev S2x512x1024 : Shape := ⟨3, ![2, 512, 1024]⟩
abbrev S2x512x128 : Shape := ⟨3, ![2, 512, 128]⟩
abbrev S2x512x256 : Shape := ⟨3, ![2, 512, 256]⟩
abbrev S1024x128 : Shape := ⟨2, ![1024, 128]⟩
abbrev S1x1x512x128 : Shape := ⟨4, ![1, 1, 512, 128]⟩
abbrev S512x128 : Shape := ⟨2, ![512, 128]⟩
abbrev S1x512x128 : Shape := ⟨3, ![1, 512, 128]⟩
abbrev S512x256 : Shape := ⟨2, ![512, 256]⟩
abbrev S1x1x256x256 : Shape := ⟨4, ![1, 1, 256, 256]⟩
abbrev S256x256 : Shape := ⟨2, ![256, 256]⟩
abbrev S1x256x256 : Shape := ⟨3, ![1, 256, 256]⟩
abbrev S256x512 : Shape := ⟨2, ![256, 512]⟩
abbrev S1x256x512 : Shape := ⟨3, ![1, 256, 512]⟩
abbrev S1x1x1024x128 : Shape := ⟨4, ![1, 1, 1024, 128]⟩
abbrev S1x1024x128 : Shape := ⟨3, ![1, 1024, 128]⟩
abbrev S1024x256 : Shape := ⟨2, ![1024, 256]⟩
abbrev S768x256 : Shape := ⟨2, ![768, 256]⟩
abbrev S256x768 : Shape := ⟨2, ![256, 768]⟩
abbrev S1x256x768 : Shape := ⟨3, ![1, 256, 768]⟩
abbrev S256x1024 : Shape := ⟨2, ![256, 1024]⟩
abbrev S1x256x1024 : Shape := ⟨3, ![1, 256, 1024]⟩
abbrev S256 : Shape := ⟨1, ![256]⟩
abbrev S256x1 : Shape := ⟨2, ![256, 1]⟩
abbrev S256x128 : Shape := ⟨2, ![256, 128]⟩
abbrev S1x1x256x128 : Shape := ⟨4, ![1, 1, 256, 128]⟩
abbrev S1x256x128 : Shape := ⟨3, ![1, 256, 128]⟩
abbrev S1x1x512x256 : Shape := ⟨4, ![1, 1, 512, 256]⟩
abbrev S512x1024 : Shape := ⟨2, ![512, 1024]⟩
abbrev S1x512x1024 : Shape := ⟨3, ![1, 512, 1024]⟩
abbrev S1x1x768x128 : Shape := ⟨4, ![1, 1, 768, 128]⟩
abbrev S768x128 : Shape := ⟨2, ![768, 128]⟩
abbrev S512 : Shape := ⟨1, ![512]⟩
abbrev S512x1 : Shape := ⟨2, ![512, 1]⟩
abbrev S1x512x256 : Shape := ⟨3, ![1, 512, 256]⟩

abbrev nBuf : Space → Nat
  | .hbm => 5
  | .vmem => 13
  | .smem => 0
  | _ => 0

abbrev bufTy : (tb : Table) → Fin (tcTables nBuf tb) → BufTy
  | .hbm, ⟨0, _⟩ => ⟨S8x8x4096x256, .bf16⟩
  | .hbm, ⟨1, _⟩ => ⟨S8x8x4096x128, .bf16⟩
  | .hbm, ⟨2, _⟩ => ⟨S8x4096x128, .bf16⟩
  | .hbm, ⟨3, _⟩ => ⟨S8x8x4096x128, .bf16⟩
  | .hbm, ⟨4, _⟩ => ⟨S8x4096x1024, .bf16⟩
  | .local _ .vmem, ⟨0, _⟩ => ⟨S1x1x4096x256, .bf16⟩
  | .local _ .vmem, ⟨1, _⟩ => ⟨S1x1x4096x256, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x4096x128, .bf16⟩
  | .local _ .vmem, ⟨9, _⟩ => ⟨S1x4096x128, .bf16⟩
  | .local _ .vmem, ⟨10, _⟩ => ⟨S2x512x1024, .f32⟩
  | .local _ .vmem, ⟨11, _⟩ => ⟨S2x512x128, .f32⟩
  | .local _ .vmem, ⟨12, _⟩ => ⟨S2x512x256, .f32⟩
  | _, _ => ⟨S8x8x4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x8x4096x256 : Shape := ⟨4, ![8, 8, 4096, 256]⟩
abbrev S8x8x4096x128 : Shape := ⟨4, ![8, 8, 4096, 128]⟩
abbrev S8x4096x128 : Shape := ⟨3, ![8, 4096, 128]⟩
abbrev S8x8x4096x4096 : Shape := ⟨4, ![8, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x8x128 : Shape := ⟨4, ![8, 4096, 8, 128]⟩
abbrev S8x4096x1024 : Shape := ⟨3, ![8, 4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x8x4096x256, .bf16⟩
  | .hbm, ⟨1, _⟩ => ⟨S8x8x4096x128, .bf16⟩
  | .hbm, ⟨2, _⟩ => ⟨S8x4096x128, .bf16⟩
  | .hbm, ⟨3, _⟩ => ⟨S8x8x4096x128, .bf16⟩
  | .hbm, ⟨4, _⟩ => ⟨S8x8x4096x256, .f32⟩
  | .hbm, ⟨5, _⟩ => ⟨S8x8x4096x128, .f32⟩
  | .hbm, ⟨6, _⟩ => ⟨S8x4096x128, .f32⟩
  | .hbm, ⟨7, _⟩ => ⟨S8x8x4096x128, .f32⟩
  | .hbm, ⟨8, _⟩ => ⟨S8x8x4096x128, .f32⟩
  | .hbm, ⟨9, _⟩ => ⟨S8x8x4096x128, .f32⟩
  | .hbm, ⟨10, _⟩ => ⟨S8x8x4096x4096, .f32⟩
  | .hbm, ⟨11, _⟩ => ⟨S8x8x4096x4096, .f32⟩
  | .hbm, ⟨12, _⟩ => ⟨S8x8x4096x4096, .f32⟩
  | .hbm, ⟨13, _⟩ => ⟨S_, .f32⟩
  | .hbm, ⟨14, _⟩ => ⟨S_, .f32⟩
  | .hbm, ⟨15, _⟩ => ⟨S8x8x4096x4096, .f32⟩
  | .hbm, ⟨16, _⟩ => ⟨S8x8x4096x4096, .f32⟩
  | .hbm, ⟨17, _⟩ => ⟨S4096, .i32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x8x4096x4096, .i1⟩
  | .hbm, ⟨27, _⟩ => ⟨S8x8x4096x4096, .f32⟩
  | .hbm, ⟨28, _⟩ => ⟨S8x8x4096x4096, .f32⟩
  | .hbm, ⟨29, _⟩ => ⟨S_, .f32⟩
  | .hbm, ⟨30, _⟩ => ⟨S8x8x4096, .f32⟩
  | .hbm, ⟨31, _⟩ => ⟨S_, .f32⟩
  | .hbm, ⟨32, _⟩ => ⟨S8x8x4096, .f32⟩
  | .hbm, ⟨33, _⟩ => ⟨S8x8x4096, .f32⟩
  | .hbm, ⟨34, _⟩ => ⟨S8x8x4096x1, .f32⟩
  | .hbm, ⟨35, _⟩ => ⟨S8x8x4096x4096, .f32⟩
  | .hbm, ⟨36, _⟩ => ⟨S8x8x4096x4096, .f32⟩
  | .hbm, ⟨37, _⟩ => ⟨S8x8x4096x4096, .f32⟩
  | .hbm, ⟨38, _⟩ => ⟨S_, .f32⟩
  | .hbm, ⟨39, _⟩ => ⟨S8x8x4096, .f32⟩
  | .hbm, ⟨40, _⟩ => ⟨S8x8x4096x1, .f32⟩
  | .hbm, ⟨41, _⟩ => ⟨S8x8x4096x4096, .f32⟩
  | .hbm, ⟨42, _⟩ => ⟨S8x8x4096x4096, .f32⟩
  | .hbm, ⟨43, _⟩ => ⟨S8x8x128x4096, .f32⟩
  | .hbm, ⟨44, _⟩ => ⟨S8x4096x8x128, .f32⟩
  | .hbm, ⟨45, _⟩ => ⟨S8x4096x1024, .f32⟩
  | .hbm, ⟨46, _⟩ => ⟨S8x4096x1024, .bf16⟩
  | _, _ => ⟨S8x8x4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Kernel2.lean ====
abbrev S8x4096x1024 : Shape := ⟨3, ![8, 4096, 1024]⟩
abbrev S32768x1024 : Shape := ⟨2, ![32768, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1x1024 : Shape := ⟨2, ![1, 1024]⟩
abbrev S1024 : Shape := ⟨1, ![1024]⟩
abbrev S1024x1024 : Shape := ⟨2, ![1024, 1024]⟩
abbrev S1x1024x4096 : Shape := ⟨3, ![1, 1024, 4096]⟩
abbrev S1x4096x1024 : Shape := ⟨3, ![1, 4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 39
  | .vmem => 13
  | .smem => 0
  | _ => 0

abbrev bufTy : (tb : Table) → Fin (tcTables nBuf tb) → BufTy
  | .hbm, ⟨0, _⟩ => ⟨S8x4096x1024, .bf16⟩
  | .hbm, ⟨1, _⟩ => ⟨S32768x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1x1024x1024, .f32⟩
  | .hbm, ⟨9, _⟩ => ⟨S2x1024x4096, .bf16⟩
  | .hbm, ⟨10, _⟩ => ⟨S2x4096x1024, .bf16⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1x1024, .f32⟩
  | .hbm, ⟨24, _⟩ => ⟨S1024, .f32⟩
  | .hbm, ⟨25, _⟩ => ⟨S1x1024, .f32⟩
  | .hbm, ⟨26, _⟩ => ⟨S1x1024, .f32⟩
  | .hbm, ⟨27, _⟩ => ⟨S1024, .f32⟩
  | .hbm, ⟨28, _⟩ => ⟨S1x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S32768x1024, .bf16⟩
  | .hbm, ⟨36, _⟩ => ⟨S1024x1024, .f32⟩
  | .hbm, ⟨37, _⟩ => ⟨S1024x1024, .bf16⟩
  | .hbm, ⟨38, _⟩ => ⟨S32768x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024x4096, .bf16⟩
  | .local _ .vmem, ⟨8, _⟩ => ⟨S1x4096x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S8x4096x1024 : Shape := ⟨3, ![8, 4096, 1024]⟩
abbrev S32768x1024 : Shape := ⟨2, ![32768, 1024]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x1024 : Shape := ⟨3, ![1, 1024, 1024]⟩
abbrev S1024x1024 : Shape := ⟨2, ![1024, 1024]⟩
abbrev S_ : Shape := ⟨0, ![]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩

abbrev nBuf : Space → Nat
  | .hbm => 97
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S32768x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024x4096, .f32⟩
  | .hbm, ⟨7, _⟩ => ⟨S2x4096x1024, .f32⟩
  | .hbm, ⟨8, _⟩ => ⟨S1x1024x1024, .f32⟩
  | .hbm, ⟨9, _⟩ => ⟨S8x4096x1024, .f32⟩
  | .hbm, ⟨10, _⟩ => ⟨S32768x1024, .f32⟩
  | .hbm, ⟨11, _⟩ => ⟨S1024x1024, .f32⟩
  | .hbm, ⟨12, _⟩ => ⟨S32768x1024, .f32⟩
  | .hbm, ⟨13, _⟩ => ⟨S_, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S_, .f32⟩
  | .hbm, ⟨31, _⟩ => ⟨S32768, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1024, .f32⟩
  | .hbm, ⟨37, _⟩ => ⟨S32768x1024, .f32⟩
  | .hbm, ⟨38, _⟩ => ⟨S_, .f32⟩
  | .hbm, ⟨39, _⟩ => ⟨S32768x1, .f32⟩
  | .hbm, ⟨40, _⟩ => ⟨S32768x1, .f32⟩
  | .hbm, ⟨41, _⟩ => ⟨S32768x1, .f32⟩
  | .hbm, ⟨42, _⟩ => ⟨S32768x1024, .f32⟩
  | .hbm, ⟨43, _⟩ => ⟨S32768x1024, .f32⟩
  | .hbm, ⟨44, _⟩ => ⟨S1x1024, .f32⟩
  | .hbm, ⟨45, _⟩ => ⟨S32768x1024, .f32⟩
  | .hbm, ⟨46, _⟩ => ⟨S32768x1024, .f32⟩
  | .hbm, ⟨47, _⟩ => ⟨S1x1024, .f32⟩
  | .hbm, ⟨48, _⟩ => ⟨S32768x1024, .f32⟩
  | .hbm, ⟨49, _⟩ => ⟨S32768x1024, .f32⟩
  | .hbm, ⟨50, _⟩ => ⟨S1x1024x4096, .f32⟩
  | .hbm, ⟨51, _⟩ => ⟨S1024x4096, .f32⟩
  | .hbm, ⟨52, _⟩ => ⟨S32768x4096, .f32⟩
  | .hbm, ⟨53, _⟩ => ⟨S_, .f32⟩
  | .hbm, ⟨54, _⟩ => ⟨S32768x4096, .f32⟩
  | .hbm, ⟨55, _⟩ => ⟨S32768x4096, .f32⟩
  | .hbm, ⟨56, _⟩ => ⟨S32768x4096, .f32⟩
  | .hbm, ⟨57, _⟩ => ⟨S1x4096x1024, .f32⟩
  | .hbm, ⟨58, _⟩ => ⟨S4096x1024, .f32⟩
  | .hbm, ⟨59, _⟩ => ⟨S32768x1024, .f32⟩
  | .hbm, ⟨60, _⟩ => ⟨S_, .f32⟩
  | .hbm, ⟨61, _⟩ => ⟨S32768x1024, .f32⟩
  | .hbm, ⟨62, _⟩ => ⟨S32768x1024, .f32⟩
  | .hbm, ⟨63, _⟩ => ⟨S32768x1024, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S1024, .f32⟩
  | .hbm, ⟨68, _⟩ => ⟨S_, .f32⟩
  | .hbm, ⟨69, _⟩ => ⟨S32768, .f32⟩
  | .hbm, ⟨70, _⟩ => ⟨S32768x1, .f32⟩
  | .hbm, ⟨71, _⟩ => ⟨S_, .f32⟩
  | .hbm, ⟨72, _⟩ => ⟨S32768x1, .f32⟩
  | .hbm, ⟨73, _⟩ => ⟨S32768x1, .f32⟩
  | .hbm, ⟨74, _⟩ => ⟨S32768x1024, .f32⟩
  | .hbm, ⟨75, _⟩ => ⟨S32768x1024, .f32⟩
  | .hbm, ⟨76, _⟩ => ⟨S32768x1024, .f32⟩
  | .hbm, ⟨77, _⟩ => ⟨S_, .f32⟩
  | .hbm, ⟨78, _⟩ => ⟨S32768, .f32⟩
  | .hbm, ⟨79, _⟩ => ⟨S32768x1, .f32⟩
  | .hbm, ⟨80, _⟩ => ⟨S_, .f32⟩
  | .hbm, ⟨81, _⟩ => ⟨S32768x1, .f32⟩
  | .hbm, ⟨82, _⟩ => ⟨S32768x1, .f32⟩
  | .hbm, ⟨83, _⟩ => ⟨S32768x1024, .f32⟩
  | .hbm, ⟨84, _⟩ => ⟨S32768x1024, .f32⟩
  | .hbm, ⟨85, _⟩ => ⟨S_, .f32⟩
  | .hbm, ⟨86, _⟩ => ⟨S32768x1, .f32⟩
  | .hbm, ⟨87, _⟩ => ⟨S32768x1, .f32⟩
  | .hbm, ⟨88, _⟩ => ⟨S32768x1, .f32⟩
  | .hbm, ⟨89, _⟩ => ⟨S32768x1024, .f32⟩
  | .hbm, ⟨90, _⟩ => ⟨S32768x1024, .f32⟩
  | .hbm, ⟨91, _⟩ => ⟨S1x1024, .f32⟩
  | .hbm, ⟨92, _⟩ => ⟨S32768x1024, .f32⟩
  | .hbm, ⟨93, _⟩ => ⟨S32768x1024, .f32⟩
  | .hbm, ⟨94, _⟩ => ⟨S1x1024, .f32⟩
  | .hbm, ⟨95, _⟩ => ⟨S32768x1024, .f32⟩
  | .hbm, ⟨96, _⟩ => ⟨S32768x1024, .f32⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_call0_cst : Ref sig .tc := ⟨.hbm, 53, rfl⟩
abbrev main_call0_v0 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_6 : Ref sig .tc := ⟨.hbm, 68, rfl⟩
abbrev main_v50 : Ref sig .tc := ⟨.hbm, 69, rfl⟩
abbrev main_v51 : Ref sig .tc := ⟨.hbm, 70, rfl⟩
abbrev main_cst_7 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_8 : Ref sig .tc := ⟨.hbm, 77, rfl⟩
abbrev main_v57 : Ref sig .tc := ⟨.hbm, 78, rfl⟩
abbrev main_v58 : Ref sig .tc := ⟨.hbm, 79, rfl⟩
abbrev main_cst_9 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096 : Shape := ⟨2, ![8, 4096]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x2048 : Shape := ⟨3, ![1, 1024, 2048]⟩
abbrev S1x1024x1024 : Shape := ⟨3, ![1, 1024, 1024]⟩
abbrev S1024x320 : Shape := ⟨2, ![1024, 320]⟩
abbrev S256 : Shape := ⟨1, ![256]⟩
abbrev S256x2048 : Shape := ⟨2, ![256, 2048]⟩
abbrev S1x1024x384 : Shape := ⟨3, ![1, 1024, 384]⟩
abbrev S1x384 : Shape := ⟨2, ![1, 384]⟩
abbrev S1x384x1536 : Shape := ⟨3, ![1, 384, 1536]⟩
abbrev S32768x1 : Shape := ⟨2, ![32768, 1]⟩
abbrev S32 : Shape := ⟨1, ![32]⟩
abbrev S_ : Shape := ⟨0, ![]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S32768x1024 : Shape := ⟨2, ![32768, 1024]⟩
abbrev S1x1024 : Shape := ⟨2, ![1, 1024]⟩
abbrev S1024 : Shape := ⟨1, ![1024]⟩
abbrev S1024x384 : Shape := ⟨2, ![1024, 384]⟩
abbrev S384x1536 : Shape := ⟨2, ![384, 1536]⟩
abbrev S1024x64 : Shape := ⟨2, ![1024, 64]⟩
abbrev S1024x256 : Shape := ⟨2, ![1024, 256]⟩
abbrev S1024x768 : Shape := ⟨2, ![1024, 768]⟩
abbrev S256x8x256 : Shape := ⟨3, ![256, 8, 256]⟩
abbrev S256x8x128 : Shape := ⟨3, ![256, 8, 128]⟩
abbrev S256x1024 : Shape := ⟨2, ![256, 1024]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S1024x2048 : Shape := ⟨2, ![1024, 2048]⟩
abbrev S1024x1024 : Shape := ⟨2, ![1024, 1024]⟩
abbrev S1x256 : Shape := ⟨2, ![1, 256]⟩
abbrev S384 : Shape := ⟨1, ![384]⟩
abbrev S8x8x4096x256 : Shape := ⟨4, ![8, 8, 4096, 256]⟩
abbrev S8x8x4096x128 : Shape := ⟨4, ![8, 8, 4096, 128]⟩
abbrev S8x4096x128 : Shape := ⟨3, ![8, 4096, 128]⟩
abbrev S512x1024 : Shape := ⟨2, ![512, 1024]⟩
abbrev S512x1 : Shape := ⟨2, ![512, 1]⟩
abbrev S1x1024x4096 : Shape := ⟨3, ![1, 1024, 4096]⟩
abbrev S1x4096x1024 : Shape := ⟨3, ![1, 4096, 1024]⟩
abbrev S1x8x512x256 : Shape := ⟨4, ![1, 8, 512, 256]⟩
abbrev S1x8x512x128 : Shape := ⟨4, ![1, 8, 512, 128]⟩
abbrev S1x512x128 : Shape := ⟨3, ![1, 512, 128]⟩
abbrev S256x1 : Shape := ⟨2, ![256, 1]⟩
abbrev S256x768 : Shape := ⟨2, ![256, 768]⟩
abbrev S256x128 : Shape := ⟨2, ![256, 128]⟩
abbrev S1x256x128 : Shape := ⟨3, ![1, 256, 128]⟩
abbrev S256x256 : Shape := ⟨2, ![256, 256]⟩
abbrev S256x384 : Shape := ⟨2, ![256, 384]⟩
abbrev S1x1x256x128 : Shape := ⟨4, ![1, 1, 256, 128]⟩
abbrev S256x1536 : Shape := ⟨2, ![256, 1536]⟩

abbrev nBuf : Space → Nat
  | .hbm => 95
  | .vmem => 30
  | .smem => 0
  | _ => 0

abbrev bufTy : (tb : Table) → Fin (tcTables nBuf tb) → BufTy
  | .hbm, ⟨0, _⟩ => ⟨S8x4096x1024, .bf16⟩
  | .hbm, ⟨1, _⟩ => ⟨S8x4096x1024, .f32⟩
  | .hbm, ⟨2, _⟩ => ⟨S8x4096, .i32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024x4096, .f32⟩
  | .hbm, ⟨8, _⟩ => ⟨S2x4096x1024, .f32⟩
  | .hbm, ⟨9, _⟩ => ⟨S1x1024x2048, .f32⟩
  | .hbm, ⟨10, _⟩ => ⟨S1x1024x1024, .f32⟩
  | .hbm, ⟨11, _⟩ => ⟨S1024x320, .f32⟩
  | .hbm, ⟨12, _⟩ => ⟨S256, .f32⟩
  | .hbm, ⟨13, _⟩ => ⟨S256x2048, .f32⟩
  | .hbm, ⟨14, _⟩ => ⟨S1x1024x384, .f32⟩
  | .hbm, ⟨15, _⟩ => ⟨S1x384, .f32⟩
  | .hbm, ⟨16, _⟩ => ⟨S1x384x1536, .f32⟩
  | .hbm, ⟨17, _⟩ => ⟨S8x4096, .f32⟩
  | .hbm, ⟨18, _⟩ => ⟨S32768x1, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S32, .f32⟩
  | .hbm, ⟨28, _⟩ => ⟨S64, .f32⟩
  | .hbm, ⟨29, _⟩ => ⟨S1x64, .f32⟩
  | .hbm, ⟨30, _⟩ => ⟨S2x64, .f32⟩
  | .hbm, ⟨31, _⟩ => ⟨S128, .f32⟩
  | .hbm, ⟨32, _⟩ => ⟨S1x128, .f32⟩
  | .hbm, ⟨33, _⟩ => ⟨S2x1024x4096, .bf16⟩
  | .hbm, ⟨34, _⟩ => ⟨S2x4096x1024, .bf16⟩
  | .hbm, ⟨35, _⟩ => ⟨S32768x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S1x1024, .f32⟩
  | .hbm, ⟨43, _⟩ => ⟨S1024, .f32⟩
  | .hbm, ⟨44, _⟩ => ⟨S1x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S1x1024, .f32⟩
  | .hbm, ⟨52, _⟩ => ⟨S1024, .f32⟩
  | .hbm, ⟨53, _⟩ => ⟨S1x1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1x1024, .f32⟩
  | .hbm, ⟨58, _⟩ => ⟨S1024, .f32⟩
  | .hbm, ⟨59, _⟩ => ⟨S1x1024, .f32⟩
  | .hbm, ⟨60, _⟩ => ⟨S1024x384, .f32⟩
  | .hbm, ⟨61, _⟩ => ⟨S384x1536, .f32⟩
  | .hbm, ⟨62, _⟩ => ⟨S_, .f32⟩
  | .hbm, ⟨63, _⟩ => ⟨S1024x64, .f32⟩
  | .hbm, ⟨64, _⟩ => ⟨S1024x256, .f32⟩
  | .hbm, ⟨65, _⟩ => ⟨S1024x64, .f32⟩
  | .hbm, ⟨66, _⟩ => ⟨S1024x768, .f32⟩
  | .hbm, ⟨67, _⟩ => ⟨S256x8x256, .f32⟩
  | .hbm, ⟨68, _⟩ => ⟨S256x8x128, .f32⟩
  | .hbm, ⟨69, _⟩ => ⟨S256x1024, .f32⟩
  | .hbm, ⟨70, _⟩ => ⟨S256x8x128, .f32⟩
  | .hbm, ⟨71, _⟩ => ⟨S256x1024, .f32⟩
  | .hbm, ⟨72, _⟩ => ⟨S256x2048, .f32⟩
  | .hbm, ⟨73, _⟩ => ⟨S384x8x192, .f32⟩
  | .hbm, ⟨74, _⟩ => ⟨S384x8x128, .f32⟩
  | .hbm, ⟨75, _⟩ => ⟨S384x1024, .f32⟩
  | .hbm, ⟨76, _⟩ => ⟨S384x8x64, .f32⟩
  | .hbm, ⟨77, _⟩ => ⟨S384x512, .f32⟩
  | .hbm, ⟨78, _⟩ => ⟨S384x1536, .f32⟩
  | .hbm, ⟨79, _⟩ => ⟨S1024x768, .bf16⟩
  | .hbm, ⟨80, _⟩ => ⟨S256x2048, .bf16⟩
  | .hbm, ⟨81, _⟩ => ⟨S384x1536, .bf16⟩
  | .hbm, ⟨82, _⟩ => ⟨S32768x1024, .bf16⟩
  | .hbm, ⟨83, _⟩ => ⟨S1024x2048, .f32⟩
  | .hbm, ⟨84, _⟩ => ⟨S1024x2048, .bf16⟩
  | .hbm, ⟨85, _⟩ => ⟨S1024x1024, .f32⟩
  | .hbm, ⟨86, _⟩ => ⟨S1024x1024, .bf16⟩
  | .hbm, ⟨87, _⟩ => ⟨S1x256, .f32⟩
  | .hbm, ⟨88, _⟩ => ⟨S384, .f32⟩
  | .hbm, ⟨89, _⟩ => ⟨S1x384, .f32⟩
  | .hbm, ⟨90, _⟩ => ⟨S32768x1024, .f32⟩
  | .hbm, ⟨91, _⟩ => ⟨S8x8x4096x256, .bf16⟩
  | .hbm, ⟨92, _⟩ => ⟨S8x8x4096x128, .bf16⟩
  | .hbm, ⟨93, _⟩ => ⟨S8x4096x128, .bf16⟩
  | .hbm, ⟨94, _⟩ => ⟨S8x8x4096x128, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S1024x2048, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1x1024x4096, .bf16⟩
  | .local _ .vmem, ⟨11, _⟩ => ⟨S1x4096x1024, .bf16⟩
  | .local _ .vmem, ⟨12, _⟩ => ⟨S1x1024, .f32⟩
  | .local _ .vmem, ⟨13, _⟩ => ⟨S1x1024, .f32⟩
  | .local _ .vmem, ⟨14, _⟩ => ⟨S1x128, .f32⟩
  | .local _ .vmem, ⟨15, _⟩ => ⟨S1024x768, .bf16⟩
  | .local _ .vmem, ⟨16, _⟩ => ⟨S1x256, .f32⟩
  | .local _ .vmem, ⟨17, _⟩ => ⟨S256x2048, .bf16⟩
  | .local _ .vmem, ⟨18, _⟩ => ⟨S1x384, .f32⟩
  | .local _ .vmem, ⟨19, _⟩ => ⟨S384x1536, .bf16⟩
  | .local _ .vmem, ⟨20, _⟩ => ⟨S512x1024, .f32⟩
  | .local _ .vmem, ⟨21, _⟩ => ⟨S512x1024, .f32⟩
  | .local _ .vmem, ⟨22, _⟩ => ⟨S1x8x512x256, .bf16⟩
  | .local _ .vmem, ⟨23, _⟩ => ⟨S1x8x512x256, .bf16⟩
  | .local _ .vmem, ⟨24, _⟩ => ⟨S1x8x512x128, .bf16⟩
  | .local _ .vmem, ⟨25, _⟩ => ⟨S1x8x512x128, .bf16⟩
  | .local _ .vmem, ⟨26, _⟩ => ⟨S1x512x128, .bf16⟩
  | .local _ .vmem, ⟨27, _⟩ => ⟨S1x512x128, .bf16⟩
  | .local _ .vmem, ⟨28, _⟩ => ⟨S1x8x512x128, .bf16⟩
  | .local _ .vmem, ⟨29, _⟩ => ⟨S1x8x512x128, .bf16⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_v5 : Ref sig .tc := ⟨.hbm, 23, rfl⟩
abbrev main_cst_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_1 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70_0 : Ref sig .tc := ⟨.hbm, 90, rfl⟩
abbrev main_v70_1 : Ref sig .tc := ⟨.hbm, 91, rfl⟩
abbrev main_v70_2 : Ref sig .tc := ⟨.hbm, 92, rfl⟩
abbrev main_v70_3 : Ref sig .tc := ⟨.hbm, 93, rfl⟩
abbrev main_v70_4 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg17_1 : Ref sig .tc := ⟨.vmem, 21, rfl⟩
abbrev cc0_stg18_0 : Ref sig .tc := ⟨.vmem, 22, rfl⟩
abbrev cc0_stg18_1 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem17_1 : DmaSem sig := 21
abbrev cc0_sem18_0 : DmaSem sig := 22
abbrev cc0_sem18_1 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S256x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x384 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S384x1536 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x8x512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x8x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x8x512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]
-- ==== Reference3Ideal.lean ====
abbrev S8x4096x1024 : Shape := ⟨3, ![8, 4096, 1024]⟩
abbrev S8x4096 : Shape := ⟨2, ![8, 4096]⟩
abbrev S2x1024 : Shape := ⟨2, ![2, 1024]⟩
abbrev S2x1024x4096 : Shape := ⟨3, ![2, 1024, 4096]⟩
abbrev S2x4096x1024 : Shape := ⟨3, ![2, 4096, 1024]⟩
abbrev S1x1024x2048 : Shape := ⟨3, ![1, 1024, 2048]⟩
abbrev S1x1024x1024 : Shape := ⟨3, ![1, 1024, 1024]⟩
abbrev S1024x320 : Shape := ⟨2, ![1024, 320]⟩
abbrev S256 : Shape := ⟨1, ![256]⟩
abbrev S256x2048 : Shape := ⟨2, ![256, 2048]⟩
abbrev S1x1024x384 : Shape := ⟨3, ![1, 1024, 384]⟩
abbrev S1x384 : Shape := ⟨2, ![1, 384]⟩
abbrev S1x384x1536 : Shape := ⟨3, ![1, 384, 1536]⟩
abbrev S32768x1024 : Shape := ⟨2, ![32768, 1024]⟩
abbrev S1024x2048 : Shape := ⟨2, ![1024, 2048]⟩
abbrev S32768x2048 : Shape := ⟨2, ![32768, 2048]⟩
abbrev S_ : Shape := ⟨0, ![]⟩
abbrev S1024x1024 : Shape := ⟨2, ![1024, 1024]⟩
abbrev S1x1024 : Shape := ⟨2, ![1, 1024]⟩
abbrev S1024 : Shape := ⟨1, ![1024]⟩
abbrev S32768 : Shape := ⟨1, ![32768]⟩
abbrev S32768x1 : Shape := ⟨2, ![32768, 1]⟩
abbrev S1x1024x4096 : Shape := ⟨3, ![1, 1024, 4096]⟩
abbrev S1024x4096 : Shape := ⟨2, ![1024, 4096]⟩
abbrev S32768x4096 : Shape := ⟨2, ![32768, 4096]⟩
abbrev S1x4096x1024 : Shape := ⟨3, ![1, 4096, 1024]⟩
abbrev S4096x1024 : Shape := ⟨2, ![4096, 1024]⟩
abbrev S32 : Shape := ⟨1, ![32]⟩
abbrev S1x32 : Shape := ⟨2, ![1, 32]⟩
abbrev S32768x32 : Shape := ⟨2, ![32768, 32]⟩
abbrev S32768x320 : Shape := ⟨2, ![32768, 320]⟩
abbrev S32768x256 : Shape := ⟨2, ![32768, 256]⟩
abbrev S32768x64 : Shape := ⟨2, ![32768, 64]⟩
abbrev S1x256 : Shape := ⟨2, ![1, 256]⟩
abbrev S8x4096x8x256 : Shape := ⟨4, ![8, 4096, 8, 256]⟩
abbrev S8x4096x8x128 : Shape := ⟨4, ![8, 4096, 8, 128]⟩
abbrev S1024x384 : Shape := ⟨2, ![1024, 384]⟩
abbrev S32768x384 : Shape := ⟨2, ![32768, 384]⟩
abbrev S384 : Shape := ⟨1, ![384]⟩
abbrev S384x1536 : Shape := ⟨2, ![384, 1536]⟩
abbrev S32768x1536 : Shape := ⟨2, ![32768, 1536]⟩
abbrev S32768x8x192 : Shape := ⟨3, ![32768, 8, 192]⟩
abbrev S32768x8x128 : Shape := ⟨3, ![32768, 8, 128]⟩
abbrev S32768x8x64 : Shape := ⟨3, ![32768, 8, 64]⟩
abbrev S32768x1x32 : Shape := ⟨3, ![32768, 1, 32]⟩
abbrev S32768x8x32 : Shape := ⟨3, ![32768, 8, 32]⟩
abbrev S32768x8x256 : Shape := ⟨3, ![32768, 8, 256]⟩
abbrev S32768x128 : Shape := ⟨2, ![32768, 128]⟩
abbrev S8x8x4096x256 : Shape := ⟨4, ![8, 8, 4096, 256]⟩
abbrev S8x8x4096x128 : Shape := ⟨4, ![8, 8, 4096, 128]⟩
abbrev S8x4096x128 : Shape := ⟨3, ![8, 4096, 128]⟩

abbrev nBuf : Space → Nat
  | .hbm => 224
  | .vmem => 0
  | .smem => 0
  | _ => 0

abbrev hbmTy0_0 (i : Nat) : BufTy := match i % 128 with
  | 0 => ⟨S8x4096x1024, .bf16⟩
  | 1 => ⟨S8x4096x1024, .f32⟩
  | 2 => ⟨S8x4096, .i32⟩
  | 3 => ⟨S2x1024, .f32⟩
  | 4 => ⟨S2x1024, .f32⟩
  | 5 => ⟨S2x1024, .f32⟩
  | 6 => ⟨S2x1024, .f32⟩
  | 7 => ⟨S2x1024x4096, .f32⟩
  | 8 => ⟨S2x4096x1024, .f32⟩
  | 9 => ⟨S1x1024x2048, .f32⟩
  | 10 => ⟨S1x1024x1024, .f32⟩
  | 11 => ⟨S1024x320, .f32⟩
  | 12 => ⟨S256, .f32⟩
  | 13 => ⟨S256x2048, .f32⟩
  | 14 => ⟨S1x1024x384, .f32⟩
  | 15 => ⟨S1x384, .f32⟩
  | 16 => ⟨S1x384x1536, .f32⟩
  | 17 => ⟨S32768x1024, .f32⟩
  | 18 => ⟨S8x4096x1024, .f32⟩
  | 19 => ⟨S32768x1024, .f32⟩
  | 20 => ⟨S1024x2048, .f32⟩
  | 21 => ⟨S32768x2048, .f32⟩
  | 22 => ⟨S32768x1024, .f32⟩
  | 23 => ⟨S32768x1024, .f32⟩
  | 24 => ⟨S32768x1024, .f32⟩
  | 25 => ⟨S32768x1024, .f32⟩
  | 26 => ⟨S_, .f32⟩
  | 27 => ⟨S32768x1024, .f32⟩
  | 28 => ⟨S32768x1024, .f32⟩
  | 29 => ⟨S_, .f32⟩
  | 30 => ⟨S32768x1024, .f32⟩
  | 31 => ⟨S32768x1024, .f32⟩
  | 32 => ⟨S32768x1024, .f32⟩
  | 33 => ⟨S1024x1024, .f32⟩
  | 34 => ⟨S32768x1024, .f32⟩
  | 35 => ⟨S_, .f32⟩
  | 36 => ⟨S32768x1024, .f32⟩
  | 37 => ⟨S32768x1024, .f32⟩
  | 38 => ⟨S32768x1024, .f32⟩
  | 39 => ⟨S1x1024, .f32⟩
  | 40 => ⟨S1024, .f32⟩
  | 41 => ⟨S1x1024, .f32⟩
  | 42 => ⟨S1024, .f32⟩
  | 43 => ⟨S_, .f32⟩
  | 44 => ⟨S32768, .f32⟩
  | 45 => ⟨S32768x1, .f32⟩
  | 46 => ⟨S_, .f32⟩
  | 47 => ⟨S32768x1, .f32⟩
  | 48 => ⟨S32768x1, .f32⟩
  | 49 => ⟨S32768x1024, .f32⟩
  | 50 => ⟨S32768x1024, .f32⟩
  | 51 => ⟨S32768x1024, .f32⟩
  | 52 => ⟨S_, .f32⟩
  | 53 => ⟨S32768, .f32⟩
  | 54 => ⟨S32768x1, .f32⟩
  | 55 => ⟨S_, .f32⟩
  | 56 => ⟨S32768x1, .f32⟩
  | 57 => ⟨S32768x1, .f32⟩
  | 58 => ⟨S32768x1024, .f32⟩
  | 59 => ⟨S32768x1024, .f32⟩
  | 60 => ⟨S_, .f32⟩
  | 61 => ⟨S32768x1, .f32⟩
  | 62 => ⟨S32768x1, .f32⟩
  | 63 => ⟨S32768x1, .f32⟩
  | 64 => ⟨S32768x1024, .f32⟩
  | 65 => ⟨S32768x1024, .f32⟩
  | 66 => ⟨S1x1024, .f32⟩
  | 67 => ⟨S32768x1024, .f32⟩
  | 68 => ⟨S32768x1024, .f32⟩
  | 69 => ⟨S1x1024, .f32⟩
  | 70 => ⟨S32768x1024, .f32⟩
  | 71 => ⟨S32768x1024, .f32⟩
  | 72 => ⟨S1x1024x4096, .f32⟩
  | 73 => ⟨S1024x4096, .f32⟩
  | 74 => ⟨S32768x4096, .f32⟩
  | 75 => ⟨S_, .f32⟩
  | 76 => ⟨S32768x4096, .f32⟩
  | 77 => ⟨S32768x4096, .f32⟩
  | 78 => ⟨S32768x4096, .f32⟩
  | 79 => ⟨S1x4096x1024, .f32⟩
  | 80 => ⟨S4096x1024, .f32⟩
  | 81 => ⟨S32768x1024, .f32⟩
  | 82 => ⟨S_, .f32⟩
  | 83 => ⟨S32768x1024, .f32⟩
  | 84 => ⟨S32768x1024, .f32⟩
  | 85 => ⟨S32768x1024, .f32⟩
  | 86 => ⟨S1x1024, .f32⟩
  | 87 => ⟨S1024, .f32⟩
  | 88 => ⟨S1x1024, .f32⟩
  | 89 => ⟨S1024, .f32⟩
  | 90 => ⟨S_, .f32⟩
  | 91 => ⟨S32768, .f32⟩
  | 92 => ⟨S32768x1, .f32⟩
  | 93 => ⟨S_, .f32⟩
  | 94 => ⟨S32768x1, .f32⟩
  | 95 => ⟨S32768x1, .f32⟩
  | 96 => ⟨S32768x1024, .f32⟩
  | 97 => ⟨S32768x1024, .f32⟩
  | 98 => ⟨S32768x1024, .f32⟩
  | 99 => ⟨S_, .f32⟩
  | 100 => ⟨S32768, .f32⟩
  | 101 => ⟨S32768x1, .f32⟩
  | 102 => ⟨S_, .f32⟩
  | 103 => ⟨S32768x1, .f32⟩
  | 104 => ⟨S32768x1, .f32⟩
  | 105 => ⟨S32768x1024, .f32⟩
  | 106 => ⟨S32768x1024, .f32⟩
  | 107 => ⟨S_, .f32⟩
  | 108 => ⟨S32768x1, .f32⟩
  | 109 => ⟨S32768x1, .f32⟩
  | 110 => ⟨S32768x1, .f32⟩
  | 111 => ⟨S32768x1024, .f32⟩
  | 112 => ⟨S32768x1024, .f32⟩
  | 113 => ⟨S1x1024, .f32⟩
  | 114 => ⟨S32768x1024, .f32⟩
  | 115 => ⟨S32768x1024, .f32⟩
  | 116 => ⟨S1x1024, .f32⟩
  | 117 => ⟨S32768x1024, .f32⟩
  | 118 => ⟨S32768x1024, .f32⟩
  | 119 => ⟨S32, .f32⟩
  | 120 => ⟨S32, .f32⟩
  | 121 => ⟨S_, .f32⟩
  | 122 => ⟨S32, .f32⟩
  | 123 => ⟨S32, .f32⟩
  | 124 => ⟨S_, .f32⟩
  | 125 => ⟨S32, .f32⟩
  | 126 => ⟨S32, .f32⟩
  | 127 => ⟨S8x4096, .f32⟩
  | _ => ⟨S8x4096x1024, .bf16⟩

abbrev hbmTy0_1 (i : Nat) : BufTy := match i % 128 with
  | 0 => ⟨S32768x1, .f32⟩
  | 1 => ⟨S1x32, .f32⟩
  | 2 => ⟨S32768x32, .f32⟩
  | 3 => ⟨S32768x32, .f32⟩
  | 4 => ⟨S32768x32, .f32⟩
  | 5 => ⟨S32768x32, .f32⟩
  | 6 => ⟨S32768x32, .f32⟩
  | 7 => ⟨S32768x320, .f32⟩
  | 8 => ⟨S32768x256, .f32⟩
  | 9 => ⟨S32768x64, .f32⟩
  | 10 => ⟨S32768x32, .f32⟩
  | 11 => ⟨S32768x32, .f32⟩
  | 12 => ⟨S32768x32, .f32⟩
  | 13 => ⟨S32768x32, .f32⟩
  | 14 => ⟨S32768x32, .f32⟩
  | 15 => ⟨S32768x32, .f32⟩
  | 16 => ⟨S32768x32, .f32⟩
  | 17 => ⟨S32768x32, .f32⟩
  | 18 => ⟨S32768x64, .f32⟩
  | 19 => ⟨S32768x256, .f32⟩
  | 20 => ⟨S_, .f32⟩
  | 21 => ⟨S32768, .f32⟩
  | 22 => ⟨S32768x1, .f32⟩
  | 23 => ⟨S_, .f32⟩
  | 24 => ⟨S32768x1, .f32⟩
  | 25 => ⟨S32768x1, .f32⟩
  | 26 => ⟨S_, .f32⟩
  | 27 => ⟨S32768x1, .f32⟩
  | 28 => ⟨S32768x1, .f32⟩
  | 29 => ⟨S32768x1, .f32⟩
  | 30 => ⟨S32768x256, .f32⟩
  | 31 => ⟨S32768x256, .f32⟩
  | 32 => ⟨S1x256, .f32⟩
  | 33 => ⟨S32768x256, .f32⟩
  | 34 => ⟨S32768x256, .f32⟩
  | 35 => ⟨S32768x2048, .f32⟩
  | 36 => ⟨S8x4096x8x256, .f32⟩
  | 37 => ⟨S8x4096x8x128, .f32⟩
  | 38 => ⟨S8x4096x8x128, .f32⟩
  | 39 => ⟨S1024x384, .f32⟩
  | 40 => ⟨S32768x384, .f32⟩
  | 41 => ⟨S384, .f32⟩
  | 42 => ⟨S32768x384, .f32⟩
  | 43 => ⟨S_, .f32⟩
  | 44 => ⟨S32768, .f32⟩
  | 45 => ⟨S32768x1, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x384, .f32⟩
  | 54 => ⟨S32768x384, .f32⟩
  | 55 => ⟨S1x384, .f32⟩
  | 56 => ⟨S32768x384, .f32⟩
  | 57 => ⟨S32768x384, .f32⟩
  | 58 => ⟨S384x1536, .f32⟩
  | 59 => ⟨S32768x1536, .f32⟩
  | 60 => ⟨S_, .f32⟩
  | 61 => ⟨S32768x1536, .f32⟩
  | 62 => ⟨S32768x1536, .f32⟩
  | 63 => ⟨S32768x8x192, .f32⟩
  | 64 => ⟨S32768x8x128, .f32⟩
  | 65 => ⟨S32768x8x64, .f32⟩
  | 66 => ⟨S32768x1x32, .f32⟩
  | 67 => ⟨S32768x1x32, .f32⟩
  | 68 => ⟨S32768x8x32, .f32⟩
  | 69 => ⟨S32768x8x32, .f32⟩
  | 70 => ⟨S32768x8x32, .f32⟩
  | 71 => ⟨S32768x8x32, .f32⟩
  | 72 => ⟨S32768x8x32, .f32⟩
  | 73 => ⟨S32768x8x32, .f32⟩
  | 74 => ⟨S32768x8x32, .f32⟩
  | 75 => ⟨S32768x8x32, .f32⟩
  | 76 => ⟨S32768x8x32, .f32⟩
  | 77 => ⟨S32768x8x32, .f32⟩
  | 78 => ⟨S32768x8x32, .f32⟩
  | 79 => ⟨S32768x8x32, .f32⟩
  | 80 => ⟨S32768x8x64, .f32⟩
  | 81 => ⟨S_, .f32⟩
  | 82 => ⟨S32768x8x64, .f32⟩
  | 83 => ⟨S32768x8x256, .f32⟩
  | 84 => ⟨S_, .f32⟩
  | 85 => ⟨S32768x64, .f32⟩
  | 86 => ⟨S32768x128, .f32⟩
  | 87 => ⟨S8x4096x8x256, .f32⟩
  | 88 => ⟨S8x8x4096x256, .f32⟩
  | 89 => ⟨S8x8x4096x256, .bf16⟩
  | 90 => ⟨S8x8x4096x128, .f32⟩
  | 91 => ⟨S8x8x4096x128, .bf16⟩
  | 92 => ⟨S8x4096x128, .f32⟩
  | 93 => ⟨S8x4096x128, .bf16⟩
  | 94 => ⟨S8x8x4096x128, .f32⟩
  | 95 => ⟨S8x8x4096x128, .bf16⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst : Ref sig .tc := ⟨.hbm, 26, rfl⟩
abbrev main_v9 : Ref sig .tc := ⟨.hbm, 27, rfl⟩
abbrev main_v10 : Ref sig .tc := ⟨.hbm, 28, rfl⟩
abbrev main_cst_0 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_1 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call0_cst : Ref sig .tc := ⟨.hbm, 75, rfl⟩
abbrev main_call0_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_7 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_8 : Ref sig .tc := ⟨.hbm, 90, rfl⟩
abbrev main_v62 : Ref sig .tc := ⟨.hbm, 91, rfl⟩
abbrev main_v63 : Ref sig .tc := ⟨.hbm, 92, rfl⟩
abbrev main_cst_9 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_10 : Ref sig .tc := ⟨.hbm, 99, rfl⟩
abbrev main_v69 : Ref sig .tc := ⟨.hbm, 100, rfl⟩
abbrev main_v70 : Ref sig .tc := ⟨.hbm, 101, rfl⟩
abbrev main_cst_11 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_12 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_13 : Ref sig .tc := ⟨.hbm, 121, rfl⟩
abbrev main_v88 : Ref sig .tc := ⟨.hbm, 122, rfl⟩
abbrev main_v89 : Ref sig .tc := ⟨.hbm, 123, rfl⟩
abbrev main_cst_14 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_15 : Ref sig .tc := ⟨.hbm, 148, rfl⟩
abbrev main_v113 : Ref sig .tc := ⟨.hbm, 149, rfl⟩
abbrev main_v114 : Ref sig .tc := ⟨.hbm, 150, rfl⟩
abbrev main_cst_16 : Ref sig .tc := ⟨.hbm, 151, rfl⟩
abbrev main_v115 : Ref sig .tc := ⟨.hbm, 152, rfl⟩
abbrev main_v116 : Ref sig .tc := ⟨.hbm, 153, rfl⟩
abbrev main_cst_17 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_cst_18 : Ref sig .tc := ⟨.hbm, 171, rfl⟩
abbrev main_v133 : Ref sig .tc := ⟨.hbm, 172, rfl⟩
abbrev main_v134 : Ref sig .tc := ⟨.hbm, 173, rfl⟩
abbrev main_cst_19 : Ref sig .tc := ⟨.hbm, 174, rfl⟩
abbrev main_v135 : Ref sig .tc := ⟨.hbm, 175, rfl⟩
abbrev main_v136 : Ref sig .tc := ⟨.hbm, 176, rfl⟩
abbrev main_cst_20 : Ref sig .tc := ⟨.hbm, 177, rfl⟩
abbrev main_v137 : Ref sig .tc := ⟨.hbm, 178, rfl⟩
abbrev main_v138 : Ref sig .tc := ⟨.hbm, 179, rfl⟩
abbrev main_v139 : Ref sig .tc := ⟨.hbm, 180, rfl⟩
abbrev main_v140 : Ref sig .tc := ⟨.hbm, 181, rfl⟩
abbrev main_v141 : Ref sig .tc := ⟨.hbm, 182, rfl⟩
abbrev main_v142 : Ref sig .tc := ⟨.hbm, 183, rfl⟩
abbrev main_v143 : Ref sig .tc := ⟨.hbm, 184, rfl⟩
abbrev main_v144 : Ref sig .tc := ⟨.hbm, 185, rfl⟩
abbrev main_v145 : Ref sig .tc := ⟨.hbm, 186, rfl⟩
abbrev main_v146 : Ref sig .tc := ⟨.hbm, 187, rfl⟩
abbrev main_cst_21 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_cst_22 : Ref sig .tc := ⟨.hbm, 209, rfl⟩
abbrev main_v167 : Ref sig .tc := ⟨.hbm, 210, rfl⟩
abbrev main_v168 : Ref sig .tc := ⟨.hbm, 211, rfl⟩
abbrev main_cst_23 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩

abbrev nD : Nat := 1
abbrev τ : Topo := Topo.v7x

variable {F : FTy → Type} [FloatOps F]
-- ==== Proof.Frame3Ideal.lean ====
/- The frame certificate of `proofs.«01_k».proof.Kernel3Ideal`: the program up to its one region, each window's block at a
   point, what each output's buffer holds after the body, the body's triple, the run, and the frame claim.
   The text is that of `Proof/Gen/Kernel3Ideal/Frame.lean`, with a larger step limit for `body_obligation`. -/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1320000 in
/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel3Ideal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## The body's accesses -/

abbrev r0_0 : Rect S512x1024 := Rect.unit (s := S512x1024) ![0, 0] S256x1024.size inb_S512x1024_S256x1024_0_0
abbrev r0_1 : Rect S1024x2048 := Rect.unit (s := S1024x2048) ![0, 0] S1024x2048.size inb_S1024x2048_S1024x2048_0_0
abbrev r0_2 : Rect S1024x1024 := Rect.unit (s := S1024x1024) ![0, 0] S1024x1024.size inb_S1024x1024_S1024x1024_0_0
abbrev r0_3 : Rect S512x1024 := Rect.unit (s := S512x1024) ![256, 0] S256x1024.size inb_S512x1024_S256x1024_256_0
abbrev r0_4 : Rect S1x1024 := Rect.unit (s := S1x1024) ![0, 0] S1x1024.size inb_S1x1024_S1x1024_0_0
abbrev r0_5 : Rect S1x1024x4096 := Rect.unit (s := S1x1024x4096) ![0, 0, 0] S1x1024x1024.size inb_S1x1024x4096_S1x1024x1024_0_0_0
abbrev r0_6 : Rect S1x4096x1024 := Rect.unit (s := S1x4096x1024) ![0, 0, 0] S1x1024x1024.size inb_S1x4096x1024_S1x1024x1024_0_0_0
abbrev r0_7 : Rect S1x1024x4096 := Rect.unit (s := S1x1024x4096) ![0, 0, 1024] S1x1024x1024.size inb_S1x1024x4096_S1x1024x1024_0_0_1024
abbrev r0_8 : Rect S1x4096x1024 := Rect.unit (s := S1x4096x1024) ![0, 1024, 0] S1x1024x1024.size inb_S1x4096x1024_S1x1024x1024_0_1024_0
abbrev r0_9 : Rect S1x1024x4096 := Rect.unit (s := S1x1024x4096) ![0, 0, 2048] S1x1024x1024.size inb_S1x1024x4096_S1x1024x1024_0_0_2048
abbrev r0_10 : Rect S1x4096x1024 := Rect.unit (s := S1x4096x1024) ![0, 2048, 0] S1x1024x1024.size inb_S1x4096x1024_S1x1024x1024_0_2048_0
abbrev r0_11 : Rect S1x1024x4096 := Rect.unit (s := S1x1024x4096) ![0, 0, 3072] S1x1024x1024.size inb_S1x1024x4096_S1x1024x1024_0_0_3072
abbrev r0_12 : Rect S1x4096x1024 := Rect.unit (s := S1x4096x1024) ![0, 3072, 0] S1x1024x1024.size inb_S1x4096x1024_S1x1024x1024_0_3072_0
abbrev r0_13 : Rect S1024x768 := Rect.unit (s := S1024x768) ![0, 0] S1024x768.size inb_S1024x768_S1024x768_0_0
abbrev r0_14 : Rect S512x1 := Rect.unit (s := S512x1) ![0, 0] S256x1.size inb_S512x1_S256x1_0_0
abbrev r0_15 : Rect S1x128 := Rect.unit (s := S1x128) ![0, 0] S1x128.size inb_S1x128_S1x128_0_0
abbrev r0_16 : Rect S1x512x128 := Rect.unit (s := S1x512x128) ![0, 0, 0] S1x256x128.size inb_S1x512x128_S1x256x128_0_0_0
abbrev r0_17 : Rect S1x256 := Rect.unit (s := S1x256) ![0, 0] S1x256.size inb_S1x256_S1x256_0_0
abbrev r0_18 : Rect S1x384 := Rect.unit (s := S1x384) ![0, 0] S1x384.size inb_S1x384_S1x384_0_0
abbrev r0_19 : Rect S256x2048 := Rect.unit (s := S256x2048) ![0, 0] S256x2048.size inb_S256x2048_S256x2048_0_0
abbrev r0_20 : Rect S512x1 := Rect.unit (s := S512x1) ![256, 0] S256x1.size inb_S512x1_S256x1_256_0
abbrev r0_21 : Rect S1x8x512x128 := Rect.unit (s := S1x8x512x128) ![0, 0, 0, 0] S1x1x256x128.size inb_S1x8x512x128_S1x1x256x128_0_0_0_0
abbrev r0_22 : Rect S1x8x512x128 := Rect.unit (s := S1x8x512x128) ![0, 1, 0, 0] S1x1x256x128.size inb_S1x8x512x128_S1x1x256x128_0_1_0_0
abbrev r0_23 : Rect S1x8x512x128 := Rect.unit (s := S1x8x512x128) ![0, 2, 0, 0] S1x1x256x128.size inb_S1x8x512x128_S1x1x256x128_0_2_0_0
abbrev r0_24 : Rect S1x8x512x128 := Rect.unit (s := S1x8x512x128) ![0, 3, 0, 0] S1x1x256x128.size inb_S1x8x512x128_S1x1x256x128_0_3_0_0
abbrev r0_25 : Rect S1x8x512x128 := Rect.unit (s := S1x8x512x128) ![0, 4, 0, 0] S1x1x256x128.size inb_S1x8x512x128_S1x1x256x128_0_4_0_0
abbrev r0_26 : Rect S1x8x512x128 := Rect.unit (s := S1x8x512x128) ![0, 5, 0, 0] S1x1x256x128.size inb_S1x8x512x128_S1x1x256x128_0_5_0_0
abbrev r0_27 : Rect S1x8x512x128 := Rect.unit (s := S1x8x512x128) ![0, 6, 0, 0] S1x1x256x128.size inb_S1x8x512x128_S1x1x256x128_0_6_0_0
abbrev r0_28 : Rect S1x8x512x128 := Rect.unit (s := S1x8x512x128) ![0, 7, 0, 0] S1x1x256x128.size inb_S1x8x512x128_S1x1x256x128_0_7_0_0
abbrev r0_29 : Rect S384x1536 := Rect.unit (s := S384x1536) ![0, 0] S384x1536.size inb_S384x1536_S384x1536_0_0
abbrev r0_30 : Rect S1x512x128 := Rect.unit (s := S1x512x128) ![0, 256, 0] S1x256x128.size inb_S1x512x128_S1x256x128_0_256_0
abbrev r0_31 : Rect S1x8x512x256 := Rect.unit (s := S1x8x512x256) ![0, 0, 0, 0] S1x1x256x128.size inb_S1x8x512x256_S1x1x256x128_0_0_0_0
abbrev r0_32 : Rect S1x8x512x256 := Rect.unit (s := S1x8x512x256) ![0, 1, 0, 0] S1x1x256x128.size inb_S1x8x512x256_S1x1x256x128_0_1_0_0
abbrev r0_33 : Rect S1x8x512x256 := Rect.unit (s := S1x8x512x256) ![0, 2, 0, 0] S1x1x256x128.size inb_S1x8x512x256_S1x1x256x128_0_2_0_0
abbrev r0_34 : Rect S1x8x512x256 := Rect.unit (s := S1x8x512x256) ![0, 3, 0, 0] S1x1x256x128.size inb_S1x8x512x256_S1x1x256x128_0_3_0_0
abbrev r0_35 : Rect S1x8x512x256 := Rect.unit (s := S1x8x512x256) ![0, 4, 0, 0] S1x1x256x128.size inb_S1x8x512x256_S1x1x256x128_0_4_0_0
abbrev r0_36 : Rect S1x8x512x256 := Rect.unit (s := S1x8x512x256) ![0, 5, 0, 0] S1x1x256x128.size inb_S1x8x512x256_S1x1x256x128_0_5_0_0
abbrev r0_37 : Rect S1x8x512x256 := Rect.unit (s := S1x8x512x256) ![0, 6, 0, 0] S1x1x256x128.size inb_S1x8x512x256_S1x1x256x128_0_6_0_0
abbrev r0_38 : Rect S1x8x512x256 := Rect.unit (s := S1x8x512x256) ![0, 7, 0, 0] S1x1x256x128.size inb_S1x8x512x256_S1x1x256x128_0_7_0_0
abbrev r0_39 : Rect S1x8x512x256 := Rect.unit (s := S1x8x512x256) ![0, 0, 0, 128] S1x1x256x128.size inb_S1x8x512x256_S1x1x256x128_0_0_0_128
abbrev r0_40 : Rect S1x8x512x256 := Rect.unit (s := S1x8x512x256) ![0, 1, 0, 128] S1x1x256x128.size inb_S1x8x512x256_S1x1x256x128_0_1_0_128
abbrev r0_41 : Rect S1x8x512x256 := Rect.unit (s := S1x8x512x256) ![0, 2, 0, 128] S1x1x256x128.size inb_S1x8x512x256_S1x1x256x128_0_2_0_128
abbrev r0_42 : Rect S1x8x512x256 := Rect.unit (s := S1x8x512x256) ![0, 3, 0, 128] S1x1x256x128.size inb_S1x8x512x256_S1x1x256x128_0_3_0_128
abbrev r0_43 : Rect S1x8x512x256 := Rect.unit (s := S1x8x512x256) ![0, 4, 0, 128] S1x1x256x128.size inb_S1x8x512x256_S1x1x256x128_0_4_0_128
abbrev r0_44 : Rect S1x8x512x256 := Rect.unit (s := S1x8x512x256) ![0, 5, 0, 128] S1x1x256x128.size inb_S1x8x512x256_S1x1x256x128_0_5_0_128
abbrev r0_45 : Rect S1x8x512x256 := Rect.unit (s := S1x8x512x256) ![0, 6, 0, 128] S1x1x256x128.size inb_S1x8x512x256_S1x1x256x128_0_6_0_128
abbrev r0_46 : Rect S1x8x512x256 := Rect.unit (s := S1x8x512x256) ![0, 7, 0, 128] S1x1x256x128.size inb_S1x8x512x256_S1x1x256x128_0_7_0_128
abbrev r0_47 : Rect S1x8x512x128 := Rect.unit (s := S1x8x512x128) ![0, 0, 256, 0] S1x1x256x128.size inb_S1x8x512x128_S1x1x256x128_0_0_256_0
abbrev r0_48 : Rect S1x8x512x128 := Rect.unit (s := S1x8x512x128) ![0, 1, 256, 0] S1x1x256x128.size inb_S1x8x512x128_S1x1x256x128_0_1_256_0
abbrev r0_49 : Rect S1x8x512x128 := Rect.unit (s := S1x8x512x128) ![0, 2, 256, 0] S1x1x256x128.size inb_S1x8x512x128_S1x1x256x128_0_2_256_0
abbrev r0_50 : Rect S1x8x512x128 := Rect.unit (s := S1x8x512x128) ![0, 3, 256, 0] S1x1x256x128.size inb_S1x8x512x128_S1x1x256x128_0_3_256_0
abbrev r0_51 : Rect S1x8x512x128 := Rect.unit (s := S1x8x512x128) ![0, 4, 256, 0] S1x1x256x128.size inb_S1x8x512x128_S1x1x256x128_0_4_256_0
abbrev r0_52 : Rect S1x8x512x128 := Rect.unit (s := S1x8x512x128) ![0, 5, 256, 0] S1x1x256x128.size inb_S1x8x512x128_S1x1x256x128_0_5_256_0
abbrev r0_53 : Rect S1x8x512x128 := Rect.unit (s := S1x8x512x128) ![0, 6, 256, 0] S1x1x256x128.size inb_S1x8x512x128_S1x1x256x128_0_6_256_0
abbrev r0_54 : Rect S1x8x512x128 := Rect.unit (s := S1x8x512x128) ![0, 7, 256, 0] S1x1x256x128.size inb_S1x8x512x128_S1x1x256x128_0_7_256_0
abbrev r0_55 : Rect S1x8x512x256 := Rect.unit (s := S1x8x512x256) ![0, 0, 256, 0] S1x1x256x128.size inb_S1x8x512x256_S1x1x256x128_0_0_256_0
abbrev r0_56 : Rect S1x8x512x256 := Rect.unit (s := S1x8x512x256) ![0, 1, 256, 0] S1x1x256x128.size inb_S1x8x512x256_S1x1x256x128_0_1_256_0
abbrev r0_57 : Rect S1x8x512x256 := Rect.unit (s := S1x8x512x256) ![0, 2, 256, 0] S1x1x256x128.size inb_S1x8x512x256_S1x1x256x128_0_2_256_0
abbrev r0_58 : Rect S1x8x512x256 := Rect.unit (s := S1x8x512x256) ![0, 3, 256, 0] S1x1x256x128.size inb_S1x8x512x256_S1x1x256x128_0_3_256_0
abbrev r0_59 : Rect S1x8x512x256 := Rect.unit (s := S1x8x512x256) ![0, 4, 256, 0] S1x1x256x128.size inb_S1x8x512x256_S1x1x256x128_0_4_256_0
abbrev r0_60 : Rect S1x8x512x256 := Rect.unit (s := S1x8x512x256) ![0, 5, 256, 0] S1x1x256x128.size inb_S1x8x512x256_S1x1x256x128_0_5_256_0
abbrev r0_61 : Rect S1x8x512x256 := Rect.unit (s := S1x8x512x256) ![0, 6, 256, 0] S1x1x256x128.size inb_S1x8x512x256_S1x1x256x128_0_6_256_0
abbrev r0_62 : Rect S1x8x512x256 := Rect.unit (s := S1x8x512x256) ![0, 7, 256, 0] S1x1x256x128.size inb_S1x8x512x256_S1x1x256x128_0_7_256_0
abbrev r0_63 : Rect S1x8x512x256 := Rect.unit (s := S1x8x512x256) ![0, 0, 256, 128] S1x1x256x128.size inb_S1x8x512x256_S1x1x256x128_0_0_256_128
abbrev r0_64 : Rect S1x8x512x256 := Rect.unit (s := S1x8x512x256) ![0, 1, 256, 128] S1x1x256x128.size inb_S1x8x512x256_S1x1x256x128_0_1_256_128
abbrev r0_65 : Rect S1x8x512x256 := Rect.unit (s := S1x8x512x256) ![0, 2, 256, 128] S1x1x256x128.size inb_S1x8x512x256_S1x1x256x128_0_2_256_128
abbrev r0_66 : Rect S1x8x512x256 := Rect.unit (s := S1x8x512x256) ![0, 3, 256, 128] S1x1x256x128.size inb_S1x8x512x256_S1x1x256x128_0_3_256_128
abbrev r0_67 : Rect S1x8x512x256 := Rect.unit (s := S1x8x512x256) ![0, 4, 256, 128] S1x1x256x128.size inb_S1x8x512x256_S1x1x256x128_0_4_256_128
abbrev r0_68 : Rect S1x8x512x256 := Rect.unit (s := S1x8x512x256) ![0, 5, 256, 128] S1x1x256x128.size inb_S1x8x512x256_S1x1x256x128_0_5_256_128
abbrev r0_69 : Rect S1x8x512x256 := Rect.unit (s := S1x8x512x256) ![0, 6, 256, 128] S1x1x256x128.size inb_S1x8x512x256_S1x1x256x128_0_6_256_128
abbrev r0_70 : Rect S1x8x512x256 := Rect.unit (s := S1x8x512x256) ![0, 7, 256, 128] S1x1x256x128.size inb_S1x8x512x256_S1x1x256x128_0_7_256_128

/-! ## What the body leaves in each output window's buffer -/

/-! ### Values of the body that the stores' payloads, spelt out, would write more than once

    Each is a vector the body binds (often a part call's result), stated over the input windows' blocks and
    numbered on from the skeleton's payload functions (`k0_pay145` …, after `k0_pay144`), so that
    `out0_W` and the values after it name it instead of spelling it out (`unfold_out out0_W` opens a canon
    with them, `unfold_payloads` opens them with the payloads); the comment after each is the printed function's
    name for the value (a count appended where that name is bound again). -/

def k0_pay145 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x2048 .f32 :=
  k0_pay3 (View.ld x0 r0_3) (View.ld x3 r0_1) -- `v22`
def k0_pay146 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S1x1024 .f32 :=
  k0_pay4 (View.ld x5 r0_4) -- `v24`
def k0_pay147 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S1x1024 .f32 :=
  k0_pay5 (View.ld x6 r0_4) -- `v26`
def k0_pay148 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1024 .f32 :=
  k0_pay6 (View.ld x0 r0_0) (View.ld x3 r0_1) (View.ld x1 r0_0) (View.ld x4 r0_2) -- `v32`
def k0_pay149 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256 .f32 :=
  k0_pay7 (View.ld x0 r0_0) (View.ld x3 r0_1) (View.ld x1 r0_0) (View.ld x4 r0_2) -- `v34`
def k0_pay150 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1024 .bf16 :=
  k0_pay9 (k0_pay146 x0 x1 x2 x3 x4 x5 x6 x7 x8 x9 x10 x11 x12 x13 x14 x15 x16) (k0_pay147 x0 x1 x2 x3 x4 x5 x6 x7 x8 x9 x10 x11 x12 x13 x14 x15 x16) (k0_pay148 x0 x1 x2 x3 x4 x5 x6 x7 x8 x9 x10 x11 x12 x13 x14 x15 x16) (k0_pay149 x0 x1 x2 x3 x4 x5 x6 x7 x8 x9 x10 x11 x12 x13 x14 x15 x16) -- `v47`
def k0_pay151 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1024 .f32 :=
  k0_pay11 (k0_pay145 x0 x1 x2 x3 x4 x5 x6 x7 x8 x9 x10 x11 x12 x13 x14 x15 x16) (View.ld x1 r0_3) (View.ld x4 r0_2) -- `v62`
def k0_pay152 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S1x1024 .f32 :=
  k0_pay13 (View.ld x5 r0_4) -- `v71`
def k0_pay153 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S1x1024 .f32 :=
  k0_pay14 (View.ld x6 r0_4) -- `v73`
def k0_pay154 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1 .f32 :=
  k0_pay15 (k0_pay145 x0 x1 x2 x3 x4 x5 x6 x7 x8 x9 x10 x11 x12 x13 x14 x15 x16) (View.ld x1 r0_3) (View.ld x4 r0_2) -- `v75`
def k0_pay155 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1024 .bf16 :=
  k0_pay17 (k0_pay151 x0 x1 x2 x3 x4 x5 x6 x7 x8 x9 x10 x11 x12 x13 x14 x15 x16) (k0_pay152 x0 x1 x2 x3 x4 x5 x6 x7 x8 x9 x10 x11 x12 x13 x14 x15 x16) (k0_pay153 x0 x1 x2 x3 x4 x5 x6 x7 x8 x9 x10 x11 x12 x13 x14 x15 x16) (k0_pay154 x0 x1 x2 x3 x4 x5 x6 x7 x8 x9 x10 x11 x12 x13 x14 x15 x16) -- `v94`
def k0_pay156 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1024 .f32 :=
  k0_pay23 (k0_pay150 x0 x1 x2 x3 x4 x5 x6 x7 x8 x9 x10 x11 x12 x13 x14 x15 x16) (k0_pay19 (k0_pay10 (k0_pay146 x0 x1 x2 x3 x4 x5 x6 x7 x8 x9 x10 x11 x12 x13 x14 x15 x16) (k0_pay147 x0 x1 x2 x3 x4 x5 x6 x7 x8 x9 x10 x11 x12 x13 x14 x15 x16) (k0_pay148 x0 x1 x2 x3 x4 x5 x6 x7 x8 x9 x10 x11 x12 x13 x14 x15 x16) (k0_pay149 x0 x1 x2 x3 x4 x5 x6 x7 x8 x9 x10 x11 x12 x13 x14 x15 x16)) (k0_pay12 (k0_pay146 x0 x1 x2 x3 x4 x5 x6 x7 x8 x9 x10 x11 x12 x13 x14 x15 x16) (k0_pay147 x0 x1 x2 x3 x4 x5 x6 x7 x8 x9 x10 x11 x12 x13 x14 x15 x16) (k0_pay148 x0 x1 x2 x3 x4 x5 x6 x7 x8 x9 x10 x11 x12 x13 x14 x15 x16) (k0_pay149 x0 x1 x2 x3 x4 x5 x6 x7 x8 x9 x10 x11 x12 x13 x14 x15 x16) (View.ld x7 r0_5)) (View.ld x8 r0_6)) (k0_pay21 (k0_pay150 x0 x1 x2 x3 x4 x5 x6 x7 x8 x9 x10 x11 x12 x13 x14 x15 x16) (View.ld x7 r0_7)) (View.ld x8 r0_8) (View.ld x7 r0_9) (View.ld x8 r0_10) -- `v144`
def k0_pay157 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1024 .f32 :=
  k0_pay26 (k0_pay150 x0 x1 x2 x3 x4 x5 x6 x7 x8 x9 x10 x11 x12 x13 x14 x15 x16) (k0_pay156 x0 x1 x2 x3 x4 x5 x6 x7 x8 x9 x10 x11 x12 x13 x14 x15 x16) (View.ld x7 r0_11) (View.ld x8 r0_12) -- `v166`
def k0_pay158 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S1x1024 .f32 :=
  k0_pay28 (View.ld x9 r0_4) -- `v175`
def k0_pay159 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S1x1024 .f32 :=
  k0_pay29 (View.ld x10 r0_4) -- `v177`
def k0_pay160 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1 .f32 :=
  k0_pay30 (k0_pay150 x0 x1 x2 x3 x4 x5 x6 x7 x8 x9 x10 x11 x12 x13 x14 x15 x16) (k0_pay156 x0 x1 x2 x3 x4 x5 x6 x7 x8 x9 x10 x11 x12 x13 x14 x15 x16) (View.ld x7 r0_11) (View.ld x8 r0_12) -- `v181`
def k0_pay161 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1024 .f32 :=
  k0_pay32 (k0_pay25 (k0_pay155 x0 x1 x2 x3 x4 x5 x6 x7 x8 x9 x10 x11 x12 x13 x14 x15 x16) (k0_pay22 (k0_pay155 x0 x1 x2 x3 x4 x5 x6 x7 x8 x9 x10 x11 x12 x13 x14 x15 x16) (k0_pay18 (k0_pay151 x0 x1 x2 x3 x4 x5 x6 x7 x8 x9 x10 x11 x12 x13 x14 x15 x16) (k0_pay152 x0 x1 x2 x3 x4 x5 x6 x7 x8 x9 x10 x11 x12 x13 x14 x15 x16) (k0_pay153 x0 x1 x2 x3 x4 x5 x6 x7 x8 x9 x10 x11 x12 x13 x14 x15 x16) (k0_pay154 x0 x1 x2 x3 x4 x5 x6 x7 x8 x9 x10 x11 x12 x13 x14 x15 x16)) (k0_pay20 (k0_pay151 x0 x1 x2 x3 x4 x5 x6 x7 x8 x9 x10 x11 x12 x13 x14 x15 x16) (k0_pay152 x0 x1 x2 x3 x4 x5 x6 x7 x8 x9 x10 x11 x12 x13 x14 x15 x16) (k0_pay153 x0 x1 x2 x3 x4 x5 x6 x7 x8 x9 x10 x11 x12 x13 x14 x15 x16) (k0_pay154 x0 x1 x2 x3 x4 x5 x6 x7 x8 x9 x10 x11 x12 x13 x14 x15 x16) (View.ld x7 r0_5)) (View.ld x8 r0_6) (View.ld x7 r0_7) (View.ld x8 r0_8)) (k0_pay24 (View.ld x7 r0_9)) (constant S256x1024 .f32 0x00000000#32) (View.ld x8 r0_10)) (k0_pay27 (k0_pay155 x0 x1 x2 x3 x4 x5 x6 x7 x8 x9 x10 x11 x12 x13 x14 x15 x16) (View.ld x7 r0_11)) (View.ld x8 r0_12) -- `v202`
def k0_pay162 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x768 .f32 :=
  k0_pay33 (k0_pay157 x0 x1 x2 x3 x4 x5 x6 x7 x8 x9 x10 x11 x12 x13 x14 x15 x16) (k0_pay158 x0 x1 x2 x3 x4 x5 x6 x7 x8 x9 x10 x11 x12 x13 x14 x15 x16) (k0_pay159 x0 x1 x2 x3 x4 x5 x6 x7 x8 x9 x10 x11 x12 x13 x14 x15 x16) (k0_pay160 x0 x1 x2 x3 x4 x5 x6 x7 x8 x9 x10 x11 x12 x13 x14 x15 x16) (View.ld x12 r0_13) -- `v206`
def k0_pay163 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay34 (View.ld x2 r0_14) (View.ld x11 r0_15) -- `v213`
def k0_pay164 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : IVec S256x128 1 :=
  k0_pay35 -- `v218`
def k0_pay165 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : IVec S256x128 1 :=
  k0_pay36 -- `v220`
def k0_pay166 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay37 (View.ld x2 r0_14) (View.ld x11 r0_15) -- `v221`
def k0_pay167 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay38 (k0_pay163 x0 x1 x2 x3 x4 x5 x6 x7 x8 x9 x10 x11 x12 x13 x14 x15 x16) -- `v222`
def k0_pay168 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x2048 .f32 :=
  k0_pay44 (k0_pay41 (k0_pay162 x0 x1 x2 x3 x4 x5 x6 x7 x8 x9 x10 x11 x12 x13 x14 x15 x16)) (k0_pay42 (View.ld x13 r0_17)) (View.ld x14 r0_19) -- `v293`
def k0_pay169 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x768 .f32 :=
  k0_pay45 (k0_pay39 (k0_pay161 x0 x1 x2 x3 x4 x5 x6 x7 x8 x9 x10 x11 x12 x13 x14 x15 x16) (View.ld x9 r0_4) (View.ld x10 r0_4)) (View.ld x12 r0_13) -- `v297`
def k0_pay170 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay46 (View.ld x2 r0_20) -- `v302`
def k0_pay171 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay47 (View.ld x11 r0_15) -- `v303`
def k0_pay172 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : IVec S256x128 1 :=
  k0_pay49 -- `v309`
def k0_pay173 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : IVec S256x128 1 :=
  k0_pay50 -- `v311`
def k0_pay174 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay51 (k0_pay170 x0 x1 x2 x3 x4 x5 x6 x7 x8 x9 x10 x11 x12 x13 x14 x15 x16) (k0_pay171 x0 x1 x2 x3 x4 x5 x6 x7 x8 x9 x10 x11 x12 x13 x14 x15 x16) -- `v312`
def k0_pay175 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay52 (k0_pay170 x0 x1 x2 x3 x4 x5 x6 x7 x8 x9 x10 x11 x12 x13 x14 x15 x16) (k0_pay171 x0 x1 x2 x3 x4 x5 x6 x7 x8 x9 x10 x11 x12 x13 x14 x15 x16) -- `v313`
def k0_pay176 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1536 .f32 :=
  k0_pay72 (k0_pay71 (k0_pay43 (k0_pay162 x0 x1 x2 x3 x4 x5 x6 x7 x8 x9 x10 x11 x12 x13 x14 x15 x16) (View.ld x15 r0_18)) (View.ld x16 r0_29)) (Scalar.ofBits .f32 0x3DD53B95#32) -- `v398`
def k0_pay177 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x384 .bf16 :=
  k0_pay76 (k0_pay75 (k0_pay169 x0 x1 x2 x3 x4 x5 x6 x7 x8 x9 x10 x11 x12 x13 x14 x15 x16) (View.ld x15 r0_18)) -- `v441`
def k0_pay178 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x2048 .f32 :=
  k0_pay77 (k0_pay74 (k0_pay169 x0 x1 x2 x3 x4 x5 x6 x7 x8 x9 x10 x11 x12 x13 x14 x15 x16) (View.ld x13 r0_17)) (View.ld x14 r0_19) -- `v444`
def k0_pay179 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x1536 .f32 :=
  k0_pay120 (k0_pay177 x0 x1 x2 x3 x4 x5 x6 x7 x8 x9 x10 x11 x12 x13 x14 x15 x16) (View.ld x16 r0_29) -- `v649`
def k0_pay180 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay130 (k0_pay179 x0 x1 x2 x3 x4 x5 x6 x7 x8 x9 x10 x11 x12 x13 x14 x15 x16) -- `v690`
def k0_pay181 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : FVec F S256x128 .f32 :=
  k0_pay131 (k0_pay179 x0 x1 x2 x3 x4 x5 x6 x7 x8 x9 x10 x11 x12 x13 x14 x15 x16) -- `v691`

/-- Window 17's staging buffer after the body, from the input windows' blocks: its 2 stores as pieces, LAST
    FIRST (Lib/Pipeline/FrameBody.lean `View.canon`; the payloads are the skeleton's and the values stated above). -/
def out0_17 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : Vec F S512x1024 .f32 :=
  View.canon [⟨r0_3, k0_pay39 (k0_pay161 x0 x1 x2 x3 x4 x5 x6 x7 x8 x9 x10 x11 x12 x13 x14 x15 x16) (View.ld x9 r0_4) (View.ld x10 r0_4)⟩,
    ⟨r0_0, k0_pay31 (k0_pay157 x0 x1 x2 x3 x4 x5 x6 x7 x8 x9 x10 x11 x12 x13 x14 x15 x16) (k0_pay158 x0 x1 x2 x3 x4 x5 x6 x7 x8 x9 x10 x11 x12 x13 x14 x15 x16) (k0_pay159 x0 x1 x2 x3 x4 x5 x6 x7 x8 x9 x10 x11 x12 x13 x14 x15 x16) (k0_pay160 x0 x1 x2 x3 x4 x5 x6 x7 x8 x9 x10 x11 x12 x13 x14 x15 x16)⟩]

/-- Its stores tile the buffer (checked by evaluation), so they cover it. -/
theorem cover0_17 (p0 : Vec F S256x1024 .f32) (p1 : Vec F S256x1024 .f32) (y : S512x1024.Idx) :
    ∃ pc ∈ ([⟨r0_3, p0⟩, ⟨r0_0, p1⟩] : List (View.Piece (Elt F) S512x1024 .f32)), y ∈ pc.1.set :=
  View.cover_of_tiled [⟨r0_3, p0⟩, ⟨r0_0, p1⟩] S256x1024.size (by rfl) y

/-- Window 18's staging buffer after the body, from the input windows' blocks: its 32 stores as pieces, LAST
    FIRST (Lib/Pipeline/FrameBody.lean `View.canon`; the payloads are the skeleton's and the values stated above). -/
def out0_18 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : Vec F S1x8x512x256 .bf16 :=
  View.canon [⟨r0_70, k0_pay2 (k0_pay173 x0 x1 x2 x3 x4 x5 x6 x7 x8 x9 x10 x11 x12 x13 x14 x15 x16) (k0_pay143 (k0_pay172 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay179 x0 x1 x2 x3 x4 x5 x6 x7 x8 x9 x10 x11 x12 x13 x14 x15 x16))⟩,
    ⟨r0_69, k0_pay1 (k0_pay144 (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay179 x0 x1 x2 x3 x4 x5 x6 x7 x8 x9 x10 x11 x12 x13 x14 x15 x16))⟩,
    ⟨r0_68, k0_pay141 (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay179 x0 x1 x2 x3 x4 x5 x6 x7 x8 x9 x10 x11 x12 x13 x14 x15 x16)⟩,
    ⟨r0_67, k0_pay140 (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay179 x0 x1 x2 x3 x4 x5 x6 x7 x8 x9 x10 x11 x12 x13 x14 x15 x16)⟩,
    ⟨r0_66, k0_pay138 (k0_pay137 (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay179 x0 x1 x2 x3 x4 x5 x6 x7 x8 x9 x10 x11 x12 x13 x14 x15 x16))⟩,
    ⟨r0_65, k0_pay136 (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay179 x0 x1 x2 x3 x4 x5 x6 x7 x8 x9 x10 x11 x12 x13 x14 x15 x16)⟩,
    ⟨r0_64, k0_pay134 (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay180 x0 x1 x2 x3 x4 x5 x6 x7 x8 x9 x10 x11 x12 x13 x14 x15 x16) (k0_pay181 x0 x1 x2 x3 x4 x5 x6 x7 x8 x9 x10 x11 x12 x13 x14 x15 x16) 32#32⟩,
    ⟨r0_63, k0_pay133 (k0_pay172 x0 x1 x2 x3 x4 x5 x6 x7 x8 x9 x10 x11 x12 x13 x14 x15 x16) (k0_pay173 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16) (k0_pay180 x0 x1 x2 x3 x4 x5 x6 x7 x8 x9 x10 x11 x12 x13 x14 x15 x16) (k0_pay181 x0 x1 x2 x3 x4 x5 x6 x7 x8 x9 x10 x11 x12 x13 x14 x15 x16) 32#32⟩,
    ⟨r0_62, k0_pay129 (k0_pay179 x0 x1 x2 x3 x4 x5 x6 x7 x8 x9 x10 x11 x12 x13 x14 x15 x16)⟩,
    ⟨r0_61, k0_pay128 (k0_pay179 x0 x1 x2 x3 x4 x5 x6 x7 x8 x9 x10 x11 x12 x13 x14 x15 x16)⟩,
    ⟨r0_60, k0_pay127 (k0_pay179 x0 x1 x2 x3 x4 x5 x6 x7 x8 x9 x10 x11 x12 x13 x14 x15 x16)⟩,
    ⟨r0_59, k0_pay126 (k0_pay179 x0 x1 x2 x3 x4 x5 x6 x7 x8 x9 x10 x11 x12 x13 x14 x15 x16)⟩,
    ⟨r0_58, k0_pay125 (k0_pay179 x0 x1 x2 x3 x4 x5 x6 x7 x8 x9 x10 x11 x12 x13 x14 x15 x16)⟩,
    ⟨r0_57, k0_pay124 (k0_pay123 (k0_pay177 x0 x1 x2 x3 x4 x5 x6 x7 x8 x9 x10 x11 x12 x13 x14 x15 x16) (View.ld x16 r0_29))⟩,
    ⟨r0_56, k0_pay122 (k0_pay177 x0 x1 x2 x3 x4 x5 x6 x7 x8 x9 x10 x11 x12 x13 x14 x15 x16) (View.ld x16 r0_29)⟩,
    ⟨r0_55, k0_pay121 (k0_pay177 x0 x1 x2 x3 x4 x5 x6 x7 x8 x9 x10 x11 x12 x13 x14 x15 x16) (View.ld x16 r0_29)⟩,
    ⟨r0_46, k0_pay100 (k0_pay164 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16)⟩,
    ⟨r0_45, k0_pay99 (k0_pay164 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16)⟩,
    ⟨r0_44, k0_pay97 (k0_pay165 x0 x1 x2 x3 x4 x5 x6 x7 x8 x9 x10 x11 x12 x13 x14 x15 x16) (k0_pay95 (k0_pay164 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16))⟩,
    ⟨r0_43, k0_pay96 (k0_pay164 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16)⟩,
    ⟨r0_42, k0_pay93 (k0_pay164 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16)⟩,
    ⟨r0_41, k0_pay92 (k0_pay164 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16)⟩,
    ⟨r0_40, k0_pay90 (k0_pay89 (k0_pay164 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16))⟩,
    ⟨r0_39, k0_pay88 (k0_pay164 x0 x1 x2 x3 x4 x5 x6 x7 x8 x9 x10 x11 x12 x13 x14 x15 x16) (k0_pay165 x0 x1 x2 x3 x4 x5 x6 x7 x8 x9 x10 x11 x12 x13 x14 x15 x16) (k0_pay166 x0 x1 x2 x3 x4 x5 x6 x7 x8 x9 x10 x11 x12 x13 x14 x15 x16) (k0_pay167 x0 x1 x2 x3 x4 x5 x6 x7 x8 x9 x10 x11 x12 x13 x14 x15 x16) (k0_pay176 x0 x1 x2 x3 x4 x5 x6 x7 x8 x9 x10 x11 x12 x13 x14 x15 x16)⟩,
    ⟨r0_38, k0_pay86 (k0_pay176 x0 x1 x2 x3 x4 x5 x6 x7 x8 x9 x10 x11 x12 x13 x14 x15 x16)⟩,
    ⟨r0_37, k0_pay85 (k0_pay176 x0 x1 x2 x3 x4 x5 x6 x7 x8 x9 x10 x11 x12 x13 x14 x15 x16)⟩,
    ⟨r0_36, k0_pay84 (k0_pay83 (k0_pay176 x0 x1 x2 x3 x4 x5 x6 x7 x8 x9 x10 x11 x12 x13 x14 x15 x16))⟩,
    ⟨r0_35, k0_pay82 (k0_pay176 x0 x1 x2 x3 x4 x5 x6 x7 x8 x9 x10 x11 x12 x13 x14 x15 x16)⟩,
    ⟨r0_34, k0_pay81 (k0_pay176 x0 x1 x2 x3 x4 x5 x6 x7 x8 x9 x10 x11 x12 x13 x14 x15 x16)⟩,
    ⟨r0_33, k0_pay80 (k0_pay176 x0 x1 x2 x3 x4 x5 x6 x7 x8 x9 x10 x11 x12 x13 x14 x15 x16)⟩,
    ⟨r0_32, k0_pay79 (k0_pay176 x0 x1 x2 x3 x4 x5 x6 x7 x8 x9 x10 x11 x12 x13 x14 x15 x16)⟩,
    ⟨r0_31, k0_pay78 (k0_pay176 x0 x1 x2 x3 x4 x5 x6 x7 x8 x9 x10 x11 x12 x13 x14 x15 x16)⟩]

/-- Its stores tile the buffer (checked by evaluation), so they cover it. -/
theorem cover0_18 (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (p16 : Vec F S1x1x256x128 .bf16) (p17 : Vec F S1x1x256x128 .bf16) (p18 : Vec F S1x1x256x128 .bf16) (p19 : Vec F S1x1x256x128 .bf16) (p20 : Vec F S1x1x256x128 .bf16) (p21 : Vec F S1x1x256x128 .bf16) (p22 : Vec F S1x1x256x128 .bf16) (p23 : Vec F S1x1x256x128 .bf16) (p24 : Vec F S1x1x256x128 .bf16) (p25 : Vec F S1x1x256x128 .bf16) (p26 : Vec F S1x1x256x128 .bf16) (p27 : Vec F S1x1x256x128 .bf16) (p28 : Vec F S1x1x256x128 .bf16) (p29 : Vec F S1x1x256x128 .bf16) (p30 : Vec F S1x1x256x128 .bf16) (p31 : Vec F S1x1x256x128 .bf16) (y : S1x8x512x256.Idx) :
    ∃ pc ∈ ([⟨r0_70, p0⟩, ⟨r0_69, p1⟩, ⟨r0_68, p2⟩, ⟨r0_67, p3⟩, ⟨r0_66, p4⟩, ⟨r0_65, p5⟩, ⟨r0_64, p6⟩, ⟨r0_63, p7⟩, ⟨r0_62, p8⟩, ⟨r0_61, p9⟩, ⟨r0_60, p10⟩, ⟨r0_59, p11⟩, ⟨r0_58, p12⟩, ⟨r0_57, p13⟩, ⟨r0_56, p14⟩, ⟨r0_55, p15⟩, ⟨r0_46, p16⟩, ⟨r0_45, p17⟩, ⟨r0_44, p18⟩, ⟨r0_43, p19⟩, ⟨r0_42, p20⟩, ⟨r0_41, p21⟩, ⟨r0_40, p22⟩, ⟨r0_39, p23⟩, ⟨r0_38, p24⟩, ⟨r0_37, p25⟩, ⟨r0_36, p26⟩, ⟨r0_35, p27⟩, ⟨r0_34, p28⟩, ⟨r0_33, p29⟩, ⟨r0_32, p30⟩, ⟨r0_31, p31⟩] : List (View.Piece (Elt F) S1x8x512x256 .bf16)), y ∈ pc.1.set :=
  View.cover_of_tiled [⟨r0_70, p0⟩, ⟨r0_69, p1⟩, ⟨r0_68, p2⟩, ⟨r0_67, p3⟩, ⟨r0_66, p4⟩, ⟨r0_65, p5⟩, ⟨r0_64, p6⟩, ⟨r0_63, p7⟩, ⟨r0_62, p8⟩, ⟨r0_61, p9⟩, ⟨r0_60, p10⟩, ⟨r0_59, p11⟩, ⟨r0_58, p12⟩, ⟨r0_57, p13⟩, ⟨r0_56, p14⟩, ⟨r0_55, p15⟩, ⟨r0_46, p16⟩, ⟨r0_45, p17⟩, ⟨r0_44, p18⟩, ⟨r0_43, p19⟩, ⟨r0_42, p20⟩, ⟨r0_41, p21⟩, ⟨r0_40, p22⟩, ⟨r0_39, p23⟩, ⟨r0_38, p24⟩, ⟨r0_37, p25⟩, ⟨r0_36, p26⟩, ⟨r0_35, p27⟩, ⟨r0_34, p28⟩, ⟨r0_33, p29⟩, ⟨r0_32, p30⟩, ⟨r0_31, p31⟩] S1x1x256x128.size (by rfl) y

/-- Window 19's staging buffer after the body, from the input windows' blocks: its 16 stores as pieces, LAST
    FIRST (Lib/Pipeline/FrameBody.lean `View.canon`; the payloads are the skeleton's and the values stated above). -/
def out0_19 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : Vec F S1x8x512x128 .bf16 :=
  View.canon [⟨r0_54, k0_pay118 (k0_pay178 x0 x1 x2 x3 x4 x5 x6 x7 x8 x9 x10 x11 x12 x13 x14 x15 x16)⟩,
    ⟨r0_53, k0_pay115 (k0_pay178 x0 x1 x2 x3 x4 x5 x6 x7 x8 x9 x10 x11 x12 x13 x14 x15 x16)⟩,
    ⟨r0_52, k0_pay113 (k0_pay178 x0 x1 x2 x3 x4 x5 x6 x7 x8 x9 x10 x11 x12 x13 x14 x15 x16)⟩,
    ⟨r0_51, k0_pay111 (k0_pay178 x0 x1 x2 x3 x4 x5 x6 x7 x8 x9 x10 x11 x12 x13 x14 x15 x16)⟩,
    ⟨r0_50, k0_pay108 (k0_pay178 x0 x1 x2 x3 x4 x5 x6 x7 x8 x9 x10 x11 x12 x13 x14 x15 x16)⟩,
    ⟨r0_49, k0_pay106 (k0_pay178 x0 x1 x2 x3 x4 x5 x6 x7 x8 x9 x10 x11 x12 x13 x14 x15 x16)⟩,
    ⟨r0_48, k0_pay104 (k0_pay178 x0 x1 x2 x3 x4 x5 x6 x7 x8 x9 x10 x11 x12 x13 x14 x15 x16)⟩,
    ⟨r0_47, k0_pay101 (k0_pay178 x0 x1 x2 x3 x4 x5 x6 x7 x8 x9 x10 x11 x12 x13 x14 x15 x16)⟩,
    ⟨r0_28, k0_pay69 (k0_pay168 x0 x1 x2 x3 x4 x5 x6 x7 x8 x9 x10 x11 x12 x13 x14 x15 x16)⟩,
    ⟨r0_27, k0_pay67 (k0_pay168 x0 x1 x2 x3 x4 x5 x6 x7 x8 x9 x10 x11 x12 x13 x14 x15 x16)⟩,
    ⟨r0_26, k0_pay65 (k0_pay64 (k0_pay168 x0 x1 x2 x3 x4 x5 x6 x7 x8 x9 x10 x11 x12 x13 x14 x15 x16))⟩,
    ⟨r0_25, k0_pay62 (k0_pay168 x0 x1 x2 x3 x4 x5 x6 x7 x8 x9 x10 x11 x12 x13 x14 x15 x16)⟩,
    ⟨r0_24, k0_pay60 (k0_pay168 x0 x1 x2 x3 x4 x5 x6 x7 x8 x9 x10 x11 x12 x13 x14 x15 x16)⟩,
    ⟨r0_23, k0_pay58 (k0_pay57 (k0_pay168 x0 x1 x2 x3 x4 x5 x6 x7 x8 x9 x10 x11 x12 x13 x14 x15 x16))⟩,
    ⟨r0_22, k0_pay55 (k0_pay168 x0 x1 x2 x3 x4 x5 x6 x7 x8 x9 x10 x11 x12 x13 x14 x15 x16)⟩,
    ⟨r0_21, k0_pay53 (k0_pay168 x0 x1 x2 x3 x4 x5 x6 x7 x8 x9 x10 x11 x12 x13 x14 x15 x16)⟩]

/-- Its stores tile the buffer (checked by evaluation), so they cover it. -/
theorem cover0_19 (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (y : S1x8x512x128.Idx) :
    ∃ pc ∈ ([⟨r0_54, p0⟩, ⟨r0_53, p1⟩, ⟨r0_52, p2⟩, ⟨r0_51, p3⟩, ⟨r0_50, p4⟩, ⟨r0_49, p5⟩, ⟨r0_48, p6⟩, ⟨r0_47, p7⟩, ⟨r0_28, p8⟩, ⟨r0_27, p9⟩, ⟨r0_26, p10⟩, ⟨r0_25, p11⟩, ⟨r0_24, p12⟩, ⟨r0_23, p13⟩, ⟨r0_22, p14⟩, ⟨r0_21, p15⟩] : List (View.Piece (Elt F) S1x8x512x128 .bf16)), y ∈ pc.1.set :=
  View.cover_of_tiled [⟨r0_54, p0⟩, ⟨r0_53, p1⟩, ⟨r0_52, p2⟩, ⟨r0_51, p3⟩, ⟨r0_50, p4⟩, ⟨r0_49, p5⟩, ⟨r0_48, p6⟩, ⟨r0_47, p7⟩, ⟨r0_28, p8⟩, ⟨r0_27, p9⟩, ⟨r0_26, p10⟩, ⟨r0_25, p11⟩, ⟨r0_24, p12⟩, ⟨r0_23, p13⟩, ⟨r0_22, p14⟩, ⟨r0_21, p15⟩] S1x1x256x128.size (by rfl) y

/-- Window 20's staging buffer after the body, from the input windows' blocks: its 2 stores as pieces, LAST
    FIRST (Lib/Pipeline/FrameBody.lean `View.canon`; the payloads are the skeleton's and the values stated above). -/
def out0_20 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : Vec F S1x512x128 .bf16 :=
  View.canon [⟨r0_30, k0_pay73 (k0_pay169 x0 x1 x2 x3 x4 x5 x6 x7 x8 x9 x10 x11 x12 x13 x14 x15 x16) (k0_pay172 x0 x1 x2 x3 x4 x5 x6 x7 x8 x9 x10 x11 x12 x13 x14 x15 x16) (k0_pay174 x0 x1 x2 x3 x4 x5 x6 x7 x8 x9 x10 x11 x12 x13 x14 x15 x16) (k0_pay175 x0 x1 x2 x3 x4 x5 x6 x7 x8 x9 x10 x11 x12 x13 x14 x15 x16)⟩,
    ⟨r0_16, k0_pay40 (k0_pay162 x0 x1 x2 x3 x4 x5 x6 x7 x8 x9 x10 x11 x12 x13 x14 x15 x16) (k0_pay163 x0 x1 x2 x3 x4 x5 x6 x7 x8 x9 x10 x11 x12 x13 x14 x15 x16) (k0_pay164 x0 x1 x2 x3 x4 x5 x6 x7 x8 x9 x10 x11 x12 x13 x14 x15 x16) (k0_pay166 x0 x1 x2 x3 x4 x5 x6 x7 x8 x9 x10 x11 x12 x13 x14 x15 x16)⟩]

/-- Its stores tile the buffer (checked by evaluation), so they cover it. -/
theorem cover0_20 (p0 : Vec F S1x256x128 .bf16) (p1 : Vec F S1x256x128 .bf16) (y : S1x512x128.Idx) :
    ∃ pc ∈ ([⟨r0_30, p0⟩, ⟨r0_16, p1⟩] : List (View.Piece (Elt F) S1x512x128 .bf16)), y ∈ pc.1.set :=
  View.cover_of_tiled [⟨r0_30, p0⟩, ⟨r0_16, p1⟩] S1x256x128.size (by rfl) y

/-- Window 21's staging buffer after the body, from the input windows' blocks: its 16 stores as pieces, LAST
    FIRST (Lib/Pipeline/FrameBody.lean `View.canon`; the payloads are the skeleton's and the values stated above). -/
def out0_21 (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) : Vec F S1x8x512x128 .bf16 :=
  View.canon [⟨r0_54, k0_pay119 (k0_pay178 x0 x1 x2 x3 x4 x5 x6 x7 x8 x9 x10 x11 x12 x13 x14 x15 x16)⟩,
    ⟨r0_53, k0_pay117 (k0_pay116 (k0_pay178 x0 x1 x2 x3 x4 x5 x6 x7 x8 x9 x10 x11 x12 x13 x14 x15 x16))⟩,
    ⟨r0_52, k0_pay114 (k0_pay178 x0 x1 x2 x3 x4 x5 x6 x7 x8 x9 x10 x11 x12 x13 x14 x15 x16)⟩,
    ⟨r0_51, k0_pay112 (k0_pay178 x0 x1 x2 x3 x4 x5 x6 x7 x8 x9 x10 x11 x12 x13 x14 x15 x16)⟩,
    ⟨r0_50, k0_pay110 (k0_pay109 (k0_pay178 x0 x1 x2 x3 x4 x5 x6 x7 x8 x9 x10 x11 x12 x13 x14 x15 x16))⟩,
    ⟨r0_49, k0_pay107 (k0_pay178 x0 x1 x2 x3 x4 x5 x6 x7 x8 x9 x10 x11 x12 x13 x14 x15 x16)⟩,
    ⟨r0_48, k0_pay105 (k0_pay178 x0 x1 x2 x3 x4 x5 x6 x7 x8 x9 x10 x11 x12 x13 x14 x15 x16)⟩,
    ⟨r0_47, k0_pay103 (k0_pay102 (k0_pay178 x0 x1 x2 x3 x4 x5 x6 x7 x8 x9 x10 x11 x12 x13 x14 x15 x16))⟩,
    ⟨r0_28, k0_pay70 (k0_pay168 x0 x1 x2 x3 x4 x5 x6 x7 x8 x9 x10 x11 x12 x13 x14 x15 x16)⟩,
    ⟨r0_27, k0_pay68 (k0_pay168 x0 x1 x2 x3 x4 x5 x6 x7 x8 x9 x10 x11 x12 x13 x14 x15 x16)⟩,
    ⟨r0_26, k0_pay66 (k0_pay168 x0 x1 x2 x3 x4 x5 x6 x7 x8 x9 x10 x11 x12 x13 x14 x15 x16)⟩,
    ⟨r0_25, k0_pay63 (k0_pay168 x0 x1 x2 x3 x4 x5 x6 x7 x8 x9 x10 x11 x12 x13 x14 x15 x16)⟩,
    ⟨r0_24, k0_pay61 (k0_pay168 x0 x1 x2 x3 x4 x5 x6 x7 x8 x9 x10 x11 x12 x13 x14 x15 x16)⟩,
    ⟨r0_23, k0_pay59 (k0_pay168 x0 x1 x2 x3 x4 x5 x6 x7 x8 x9 x10 x11 x12 x13 x14 x15 x16)⟩,
    ⟨r0_22, k0_pay56 (k0_pay168 x0 x1 x2 x3 x4 x5 x6 x7 x8 x9 x10 x11 x12 x13 x14 x15 x16)⟩,
    ⟨r0_21, k0_pay54 (k0_pay168 x0 x1 x2 x3 x4 x5 x6 x7 x8 x9 x10 x11 x12 x13 x14 x15 x16)⟩]

/-- Its stores tile the buffer (checked by evaluation), so they cover it. -/
theorem cover0_21 (p0 : Vec F S1x1x256x128 .bf16) (p1 : Vec F S1x1x256x128 .bf16) (p2 : Vec F S1x1x256x128 .bf16) (p3 : Vec F S1x1x256x128 .bf16) (p4 : Vec F S1x1x256x128 .bf16) (p5 : Vec F S1x1x256x128 .bf16) (p6 : Vec F S1x1x256x128 .bf16) (p7 : Vec F S1x1x256x128 .bf16) (p8 : Vec F S1x1x256x128 .bf16) (p9 : Vec F S1x1x256x128 .bf16) (p10 : Vec F S1x1x256x128 .bf16) (p11 : Vec F S1x1x256x128 .bf16) (p12 : Vec F S1x1x256x128 .bf16) (p13 : Vec F S1x1x256x128 .bf16) (p14 : Vec F S1x1x256x128 .bf16) (p15 : Vec F S1x1x256x128 .bf16) (y : S1x8x512x128.Idx) :
    ∃ pc ∈ ([⟨r0_54, p0⟩, ⟨r0_53, p1⟩, ⟨r0_52, p2⟩, ⟨r0_51, p3⟩, ⟨r0_50, p4⟩, ⟨r0_49, p5⟩, ⟨r0_48, p6⟩, ⟨r0_47, p7⟩, ⟨r0_28, p8⟩, ⟨r0_27, p9⟩, ⟨r0_26, p10⟩, ⟨r0_25, p11⟩, ⟨r0_24, p12⟩, ⟨r0_23, p13⟩, ⟨r0_22, p14⟩, ⟨r0_21, p15⟩] : List (View.Piece (Elt F) S1x8x512x128 .bf16)), y ∈ pc.1.set :=
  View.cover_of_tiled [⟨r0_54, p0⟩, ⟨r0_53, p1⟩, ⟨r0_52, p2⟩, ⟨r0_51, p3⟩, ⟨r0_50, p4⟩, ⟨r0_49, p5⟩, ⟨r0_48, p6⟩, ⟨r0_47, p7⟩, ⟨r0_28, p8⟩, ⟨r0_27, p9⟩, ⟨r0_26, p10⟩, ⟨r0_25, p11⟩, ⟨r0_24, p12⟩, ⟨r0_23, p13⟩, ⟨r0_22, p14⟩, ⟨r0_21, p15⟩] S1x1x256x128.size (by rfl) y

/-! ## The body's triple -/

set_option maxHeartbeats 8022450 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel (c : Dev nD) (E : Set ℕ) (i : grid0.Coords) (arg2 : Memref sig .tc .vmem S512x1024 .bf16) (harg2 : arg2.IsWhole) (arg3 : Memref sig .tc .vmem S512x1024 .f32) (harg3 : arg3.IsWhole) (arg4 : Memref sig .tc .vmem S512x1 .f32) (harg4 : arg4.IsWhole) (arg5 : Memref sig .tc .vmem S1024x2048 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024x4096 .bf16) (harg9 : arg9.IsWhole) (arg10 : Memref sig .tc .vmem S1x4096x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x128 .f32) (harg13 : arg13.IsWhole) (arg14 : Memref sig .tc .vmem S1024x768 .bf16) (harg14 : arg14.IsWhole) (arg15 : Memref sig .tc .vmem S1x256 .f32) (harg15 : arg15.IsWhole) (arg16 : Memref sig .tc .vmem S256x2048 .bf16) (harg16 : arg16.IsWhole) (arg17 : Memref sig .tc .vmem S1x384 .f32) (harg17 : arg17.IsWhole) (arg18 : Memref sig .tc .vmem S384x1536 .bf16) (harg18 : arg18.IsWhole) (arg19 : Memref sig .tc .vmem S512x1024 .f32) (harg19 : arg19.IsWhole) (arg20 : Memref sig .tc .vmem S1x8x512x256 .bf16) (harg20 : arg20.IsWhole) (arg21 : Memref sig .tc .vmem S1x8x512x128 .bf16) (harg21 : arg21.IsWhole) (arg22 : Memref sig .tc .vmem S1x512x128 .bf16) (harg22 : arg22.IsWhole) (arg23 : Memref sig .tc .vmem S1x8x512x128 .bf16) (harg23 : arg23.IsWhole)
    (x0 : Vec F S512x1024 .bf16) (x1 : Vec F S512x1024 .f32) (x2 : Vec F S512x1 .f32) (x3 : Vec F S1024x2048 .bf16) (x4 : Vec F S1024x1024 .bf16) (x5 : Vec F S1x1024 .f32) (x6 : Vec F S1x1024 .f32) (x7 : Vec F S1x1024x4096 .bf16) (x8 : Vec F S1x4096x1024 .bf16) (x9 : Vec F S1x1024 .f32) (x10 : Vec F S1x1024 .f32) (x11 : Vec F S1x128 .f32) (x12 : Vec F S1024x768 .bf16) (x13 : Vec F S1x256 .f32) (x14 : Vec F S256x2048 .bf16) (x15 : Vec F S1x384 .f32) (x16 : Vec F S384x1536 .bf16) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare (out0_17 x0 x1 x2 x3 x4 x5 x6 x7 x8 x9 x10 x11 x12 x13 x14 x15 x16) ∗ owns (c : Thread nD τ) arg20 fullShare (out0_18 x0 x1 x2 x3 x4 x5 x6 x7 x8 x9 x10 x11 x12 x13 x14 x15 x16) ∗ owns (c : Thread nD τ) arg21 fullShare (out0_19 x0 x1 x2 x3 x4 x5 x6 x7 x8 x9 x10 x11 x12 x13 x14 x15 x16) ∗ owns (c : Thread nD τ) arg22 fullShare (out0_20 x0 x1 x2 x3 x4 x5 x6 x7 x8 x9 x10 x11 x12 x13 x14 x15 x16) ∗ owns (c : Thread nD τ) arg23 fullShare (out0_21 x0 x1 x2 x3 x4 x5 x6 x7 x8 x9 x10 x11 x12 x13 x14 x15 x16)) -∗ K ⟨⟩))
      ⊢ wp frame (wpE (defs₀ (F := F)) Variants.none c none) E (cc0_s5_tail_mlp_proj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K := by
  simp only [cc0_s5_tail_mlp_proj_eq_skeleton]; unfold cc0_s5_tail_mlp_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, ⟨%d20, %f20, -, H20⟩, ⟨%d21, %f21, -, H21⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    refine (View.read_writes_eq_canon _ _ _ (cover0_17 _ _)).trans ?_
    rfl
  isplitl [H18]
  · iexists _; isplitr
    swap; · iexact H18
    ipureintro
    refine (View.read_writes_eq_canon _ _ _ (cover0_18 _ _ _ _ _ _ _ _ _ _ _ _ _ _ _ _ _ _ _ _ _ _ _ _ _ _ _ _ _ _ _ _)).trans ?_
    rfl
  isplitl [H19]
  · iexists _; isplitr
    swap; · iexact H19
    ipureintro
    refine (View.read_writes_eq_canon _ _ _ (cover0_19 _ _ _ _ _ _ _ _ _ _ _ _ _ _ _ _)).trans ?_
    rfl
  isplitl [H20]
  · iexists _; isplitr
    swap; · iexact H20
    ipureintro
    refine (View.read_writes_eq_canon _ _ _ (cover0_20 _ _)).trans ?_
    rfl
  iexists _; isplitr
  swap; · iexact H21
  ipureintro
  refine (View.read_writes_eq_canon _ _ _ (cover0_21 _ _ _ _ _ _ _ _ _ _ _ _ _ _ _ _)).trans ?_
  rfl

/-! ## The pipeline's proof data -/

/-- The proof data of the one pipeline on core `c`: the arrays as the region finds them (`V`); after the body at
    point `t` each input's buffer at its block and each output's at `out0_W` of the input blocks; the invariant the
    class's (Lib/Pipeline/Frame.lean `ΦA`: the scoped rest and the generator register, untouched); nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 22, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`, never `rfl`: Lib/Pipeline.lean `Dat`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' memrefs hold their blocks (`before0_W`), so `sound_kernel` applies; the invariant and
    the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  isplitl [H20]; · iexists _; iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
set_option maxHeartbeats 800000 in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

/-- THE FRAME: `Cert.quiescent_Kernel3Ideal`'s statement (Defs.lean) at any `F` — Proof.lean cites it at `Bits`:
    `theorem Cert.Proof.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  θ_run_and (unchanged m ρ) ((θ_run defs _ _).mono (fun _ h => h.2) (run_main_quiescent m ρ))

end Cert.Kernel3Ideal.Gen

end
-- ==== Proof.Value3.lean ====
/- The last kernel's run with each of its five result arrays named, the arguments unchanged.
   The text is that of part of `Proof/Gen/Kernel3Ideal/Value.lean`, over this directory's `Frame3Ideal`. -/
module

public import proofs.«01_k».proof.Proof.Frame3Ideal
public import Idealize.ShloMosaic.Lib.Pipeline.Value

@[expose] public section

noncomputable section

namespace Cert.Kernel3Ideal.Value

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v70_0) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v70_1) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v70_2) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v70_3) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v70_4) = (dats m 0 c).arrAt 21 cfg0.N :=
  (h c).1 21

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v70_0) = (dats m 0 c).arrAt 17 cfg0.N
      ∧ r.2.mem ((c : Thread nD τ).loc main_v70_1) = (dats m 0 c).arrAt 18 cfg0.N
      ∧ r.2.mem ((c : Thread nD τ).loc main_v70_2) = (dats m 0 c).arrAt 19 cfg0.N
      ∧ r.2.mem ((c : Thread nD τ).loc main_v70_3) = (dats m 0 c).arrAt 20 cfg0.N
      ∧ r.2.mem ((c : Thread nD τ).loc main_v70_4) = (dats m 0 c).arrAt 21 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16) :=
  (θ_run defs _ _).mono (fun r h c => ⟨post17 m r h c,
      post18 m r h c,
      post19 m r h c,
      post20 m r h c,
      post21 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c⟩)
    (run_main m ρ)

end Cert.Kernel3Ideal.Value
-- ==== Proof.Model.lean ====
/- One row of causal softmax attention on the extended reals, computed block by block of keys: the running
   maximum, the running sum, and how a block of keys moves them. Nothing here mentions a program. -/
module

public import Idealize.ShloMosaic.Lib.Pointwise
public import Mathlib.Data.EReal.Operations
public import Mathlib.Data.EReal.Inv
public import Mathlib.Analysis.SpecialFunctions.Pow.Real

@[expose] public section

noncomputable section

namespace Att

open Idealize.ShloMosaic Finset

/-- The largest of the first `n` scores of a row. -/
def rowM (s : ℕ → EReal) (n : ℕ) : EReal := (range n).sup s

/-- The sum of the first `n` values of a column, each weighted by `2` to its score less the largest. -/
def rowA (s w : ℕ → EReal) (n : ℕ) : EReal := ∑ k ∈ range n, Ideal.exp2 (s k - rowM s n) * w k

/-- A row whose scores are never `⊤` and whose first score is a real number. -/
structure Ok (s : ℕ → EReal) : Prop where
  ne_top : ∀ k, s k ≠ ⊤
  zero : s 0 ≠ ⊥

theorem exp2_coe (x : ℝ) : Ideal.exp2 (x : EReal) = ((2 : ℝ) ^ x : ℝ) := rfl

theorem exp2_bot : Ideal.exp2 ⊥ = 0 := rfl

/-- The largest of a positive number of scores of such a row is a real number. -/
theorem rowM_real {s : ℕ → EReal} (h : Ok s) {n : ℕ} (hn : 0 < n) : ∃ M : ℝ, rowM s n = M := by
  obtain ⟨k, -, hk⟩ := exists_mem_eq_sup (range n) ⟨0, mem_range.2 hn⟩ s
  have h1 : rowM s n ≠ ⊤ := by rw [rowM, hk]; exact h.ne_top k
  have h2 : rowM s n ≠ ⊥ := fun e => h.zero (le_bot_iff.1 (e ▸ le_sup (f := s) (mem_range.2 hn)))
  exact ⟨(rowM s n).toReal, (EReal.coe_toReal h1 h2).symm⟩

/-- Two weights over a shared middle maximum multiply to one weight over the last maximum. -/
theorem exp2_mul (a : EReal) (m m' : ℝ) (ha : a ≠ ⊤) :
    Ideal.exp2 ((m : EReal) - m') * Ideal.exp2 (a - m) = Ideal.exp2 (a - m') := by
  induction a with
  | bot => simp [exp2_bot]
  | top => exact absurd rfl ha
  | coe a =>
    rw [← EReal.coe_sub, ← EReal.coe_sub, ← EReal.coe_sub, exp2_coe, exp2_coe, exp2_coe, ← EReal.coe_mul,
      ← Real.rpow_add two_pos]
    congr 2; ring

/-- A nonnegative real factor distributes over a sum of extended reals. -/
theorem coe_mul_sum {ι : Type} (c : ℝ) (hc : 0 ≤ c) (t : Finset ι) (f : ι → EReal) :
    (c : EReal) * ∑ k ∈ t, f k = ∑ k ∈ t, (c : EReal) * f k := by
  classical
  induction t using Finset.induction_on with
  | empty => simp
  | insert a t ha ih =>
    rw [sum_insert ha, sum_insert ha,
      EReal.left_distrib_of_nonneg_of_ne_top (EReal.coe_nonneg.2 hc) (EReal.coe_ne_top c), ih]

/-- The fold that a row maximum prints as is a supremum. -/
theorem fold_eq_sup {N : ℕ} (b : EReal) (hb : b = ⊥) (x : Fin N → EReal) :
    Finset.fold max b x Finset.univ = Finset.univ.sup x := by
  subst hb; rfl

/-- Splitting the first `n + N` places into the first `n` and the next `N`. -/
theorem range_add (n N : ℕ) : range (n + N) = range n ∪ (Finset.univ : Finset (Fin N)).image (fun k : Fin N => n + (k : ℕ)) := by
  ext j
  simp only [mem_range, mem_union, mem_image, mem_univ, true_and]
  constructor
  · intro h
    by_cases hj : j < n
    · exact Or.inl hj
    · exact Or.inr ⟨⟨j - n, by omega⟩, by simp; omega⟩
  · rintro (h | ⟨k, rfl⟩)
    · omega
    · have := k.2; omega

/-- The maximum over `n + N` scores from the one over `n` and the next block's. -/
theorem rowM_add (s : ℕ → EReal) (n N : ℕ) (b : EReal) (hb : b = ⊥) (x : Fin N → EReal) (hx : ∀ k, x k = s (n + k)) :
    max (rowM s n) (Finset.fold max b x Finset.univ) = rowM s (n + N) := by
  rw [fold_eq_sup b hb, rowM, rowM, range_add, sup_union, sup_image]
  exact congrArg (fun f => max _ (Finset.univ.sup f)) (funext hx)

/-- The maximum over the first block. -/
theorem rowM_first (s : ℕ → EReal) (N : ℕ) (b : EReal) (hb : b = ⊥) (x : Fin N → EReal) (hx : ∀ k : Fin N, x k = s k) :
    Finset.fold max b x Finset.univ = rowM s N := by
  have := rowM_add s 0 N b hb x (fun k => by rw [hx, zero_add])
  rw [zero_add] at this
  rw [← this, show rowM s 0 = ⊥ from rfl, max_eq_right bot_le]

/-- The weighted sum over the first block. -/
theorem rowA_first (s w : ℕ → EReal) (N : ℕ) (M : EReal) (hM : M = rowM s N) (x y : Fin N → EReal)
    (hx : ∀ k : Fin N, x k = s k) (hy : ∀ k : Fin N, y k = w k) :
    ∑ k, Ideal.exp2 (x k - M) * y k = rowA s w N := by
  subst hM
  rw [rowA, ← Fin.sum_univ_eq_sum_range (fun k => Ideal.exp2 (s k - rowM s N) * w k) N]
  exact sum_congr rfl fun k _ => by rw [hx, hy]

/-- One more block of keys: the old sum rescaled to the new maximum, plus the block's own sum. -/
theorem rowA_add {s : ℕ → EReal} (hs : Ok s) (w : ℕ → EReal) {n : ℕ} (hn : 0 < n) (N : ℕ) (M' : EReal) (hM : M' = rowM s (n + N))
    (x y : Fin N → EReal) (hx : ∀ k : Fin N, x k = s (n + k)) (hy : ∀ k : Fin N, y k = w (n + k)) :
    Ideal.exp2 (rowM s n - M') * rowA s w n + ∑ k, Ideal.exp2 (x k - M') * y k = rowA s w (n + N) := by
  subst hM
  obtain ⟨m, hm⟩ := rowM_real hs hn
  obtain ⟨m', hm'⟩ := rowM_real hs (show 0 < n + N by omega)
  rw [rowA, rowA, hm, hm', sum_range_add, ← EReal.coe_sub, exp2_coe,
    coe_mul_sum _ (Real.rpow_nonneg (by norm_num) _)]
  congr 1
  · refine sum_congr rfl fun k _ => ?_
    rw [← mul_assoc, ← exp2_coe, EReal.coe_sub, exp2_mul _ _ _ (hs.ne_top k)]
  · rw [← Fin.sum_univ_eq_sum_range (fun k => Ideal.exp2 (s (n + k) - m') * w (n + k)) N]
    exact sum_congr rfl fun k _ => by rw [hx, hy]

/-- `rowA_first` for a column of ones. -/
theorem rowA_first_one (s : ℕ → EReal) (N : ℕ) (M : EReal) (hM : M = rowM s N) (x : Fin N → EReal) (hx : ∀ k : Fin N, x k = s k) :
    ∑ k, Ideal.exp2 (x k - M) = rowA s (fun _ => 1) N := by
  rw [← rowA_first s (fun _ => 1) N M hM x (fun _ => 1) hx fun _ => rfl]
  simp only [mul_one]

/-- `rowA_add` for a column of ones. -/
theorem rowA_add_one {s : ℕ → EReal} (hs : Ok s) {n : ℕ} (hn : 0 < n) (N : ℕ) (M' : EReal) (hM : M' = rowM s (n + N))
    (x : Fin N → EReal) (hx : ∀ k : Fin N, x k = s (n + k)) :
    Ideal.exp2 (rowM s n - M') * rowA s (fun _ => 1) n + ∑ k, Ideal.exp2 (x k - M') = rowA s (fun _ => 1) (n + N) := by
  rw [← rowA_add hs (fun _ => 1) hn N M' hM x (fun _ => 1) hx fun _ => rfl]
  simp only [mul_one]

/-- A row of scores cut off after its own position. -/
def cut (S : ℕ → ℕ → EReal) (r k : ℕ) : EReal := if k ≤ r then S r k else ⊥

theorem cut_of_le {S : ℕ → ℕ → EReal} {r k : ℕ} (h : k ≤ r) : cut S r k = S r k := if_pos h

theorem cut_of_lt {S : ℕ → ℕ → EReal} {r k : ℕ} (h : r < k) : cut S r k = ⊥ := if_neg (by omega)

/-- Real scores, cut, make an `Ok` row. -/
theorem ok_cut {S : ℕ → ℕ → EReal} (hS : ∀ r k, ∃ x : ℝ, S r k = x) (r : ℕ) : Ok (cut S r) := by
  constructor
  · intro k
    unfold cut
    split
    · obtain ⟨x, hx⟩ := hS r k; rw [hx]; exact EReal.coe_ne_top x
    · exact bot_ne_top
  · obtain ⟨x, hx⟩ := hS r 0
    rw [cut_of_le (Nat.zero_le r), hx]; exact EReal.coe_ne_bot x

/-- Keys after the row's own position do not move the maximum. -/
theorem rowM_ext (S : ℕ → ℕ → EReal) {r n N : ℕ} (hn : r < n) (hN : n ≤ N) : rowM (cut S r) n = rowM (cut S r) N := by
  refine le_antisymm (sup_mono (range_mono hN)) (Finset.sup_le fun k _ => ?_)
  by_cases hk : k < n
  · exact le_sup (f := cut S r) (mem_range.2 hk)
  · rw [cut_of_lt (by omega)]; exact bot_le

/-- Keys after the row's own position do not move the weighted sum. -/
theorem rowA_ext {S : ℕ → ℕ → EReal} (hS : ∀ r, Ok (cut S r)) (w : ℕ → EReal) {r n N : ℕ} (hn : r < n) (hN : n ≤ N) :
    rowA (cut S r) w n = rowA (cut S r) w N := by
  obtain ⟨m, hm⟩ := rowM_real (hS r) (show 0 < N by omega)
  rw [rowA, rowA, rowM_ext S hn hN, hm]
  refine sum_subset (range_mono hN) fun k _ hk => ?_
  rw [mem_range, not_lt] at hk
  rw [cut_of_lt (by omega), EReal.bot_sub, exp2_bot, zero_mul]

/-- The attention of row `r`, column `w`: the weighted sum of the values over the sum of the weights. -/
def att (S : ℕ → ℕ → EReal) (w : ℕ → EReal) (r : ℕ) : EReal :=
  Ideal.div (rowA (cut S r) w 4096) (rowA (cut S r) (fun _ => 1) 4096)

/-- What a row's accumulators divide to once every visible key is in them. -/
theorem div_eq_att {S : ℕ → ℕ → EReal} (hS : ∀ r, Ok (cut S r)) (w : ℕ → EReal) {r n : ℕ} (hn : r < n) (hN : n ≤ 4096) :
    Ideal.div (rowA (cut S r) w n) (rowA (cut S r) (fun _ => 1) n) = att S w r := by
  rw [att, rowA_ext hS w hn hN, rowA_ext hS _ hn hN]

end Att

end
-- ==== Proof.Shapes.lean ====
/- The attention kernel's vector steps, read at one row: scores, the first block of keys, a later block, the last,
   causally cut block. -/
module

public import proofs.«01_k».proof.Proof.Gen.KernelIdeal.Value
public import proofs.«01_k».proof.Proof.Model

@[expose] public section

set_option maxRecDepth 16384

noncomputable section

namespace Cert.KernelIdeal.Attn

open Idealize.ShloMosaic Idealize.ShloMosaic.TcCoe Idealize.SL.Sem
open Cert.KernelIdeal Cert.KernelIdeal.Gen Att WordCmp

/-- The pattern a row maximum starts from is `⊥`. -/
theorem neg_inf : Ideal.ofBits .f32 0xFF800000#32 = (⊥ : EReal) := by simp [Ideal.ofBits, Ideal.ieee]

/-- The named mask is `⊥`. -/
theorem mask_bot : (Named.named (F := Ideal) κ "mask" (φ := .f32) 0xF149F2CA#32 : EReal) = ⊥ := rfl

/-- A causal select on two positions' words is the cut. -/
theorem select_cut (a b : ℕ) (ha : a < 2 ^ 31) (hb : b < 2 ^ 31) (x : EReal) :
    Scalar.select (IntOp.cmpi CmpIPredicate.sle (BitVec.ofNat 32 a) (BitVec.ofNat 32 b)) x
      (Named.named (F := Ideal) κ "mask" (φ := .f32) 0xF149F2CA#32) = if a ≤ b then x else (⊥ : EReal) := by
  rw [mask_bot]
  by_cases h : a ≤ b
  · rw [if_pos h, (cmpi_sle_ofNat_eq_one_iff ha hb).2 h]; rfl
  · rw [if_neg h, (cmpi_sle_ofNat_eq_zero_iff ha hb).2 (by omega)]; rfl

variable {S : ℕ → ℕ → EReal} {V : ℕ → ℕ → EReal}

/-- The accumulator's column: the values in the first 128, then ones. -/
def W (V : ℕ → ℕ → EReal) (c k : ℕ) : EReal := if c < 128 then V k c else 1

/-- Rows `r0 …` of a maximum and an accumulator buffer hold the state after the first `n` keys. -/
def Good (S V : ℕ → ℕ → EReal) (r0 n : ℕ) {R : ℕ} (m : FVec Ideal ⟨3, ![1, R, 128]⟩ .f32) (a : FVec Ideal ⟨3, ![1, R, 256]⟩ .f32) : Prop :=
  ∀ i : Fin R, (∀ l : Fin 128, m (ix3 0 i l) = rowM (cut S (r0 + i)) n) ∧
    ∀ c : Fin 256, a (ix3 0 i c) = rowA (cut S (r0 + i)) (W V c) n

/-- A later block of 1024 keys, all of them visible. -/
theorem mid512 (hS : ∀ r, Ok (cut S r)) {r0 n : ℕ} (hn : 0 < n) (hle : n + 1024 ≤ r0 + 1) (v0 : FVec Ideal S1024x128 .bf16) (hv0 : ∀ k c, v0 (ix2 k c) = 1)
    (sc : FVec Ideal S1x512x1024 .f32) (hsc : ∀ i k, sc (ix3 0 i k) = S (r0 + (i : Fin 512)) (n + (k : Fin 1024)))
    (vb : FVec Ideal S1x1x1024x128 .bf16) (hvb : ∀ k c, vb (ix4 0 0 k c) = V (n + (k : Fin 1024)) (c : Fin 128))
    (m : FVec Ideal S1x512x128 .f32) (a : FVec Ideal S1x512x256 .f32) (hg : Good S V r0 n m a) :
    Good S V r0 (n + 1024) (k0_pay72 (F := Ideal) sc m) (k0_pay71 (F := Ideal) v0 sc m vb a) := by
  intro i
  obtain ⟨hm, ha⟩ := hg i
  have hx : ∀ k : Fin 1024, sc (ix3 0 i k) = cut S (r0 + i) (n + k) := fun k => by rw [hsc, cut_of_le (by omega)]
  have hM := rowM_add (cut S (r0 + i)) n 1024 _ neg_inf (fun k : Fin 1024 => sc (ix3 0 i k)) hx
  refine ⟨fun l => ?_, fun c => ?_⟩
  · pointwise [k0_pay72, k0_pay70, k0_pay69, k0_pay68, hm]
    exact hM
  · pointwise [k0_pay71, k0_pay70, k0_pay69, k0_pay68, hm]
    simp only [hM, ha, dite_eq_ite, ite_self]
    refine rowA_add (hS _) (W V c) hn 1024 _ rfl _ _ hx fun k => ?_
    unfold W
    split <;> simp only [hvb, hv0]

/-- The first block of 1024 keys, all of them visible. -/
theorem first512 {r0 : ℕ} (hle : 1024 ≤ r0 + 1) (v0 : FVec Ideal S1024x128 .bf16) (hv0 : ∀ k c, v0 (ix2 k c) = 1)
    (sc : FVec Ideal S1x512x1024 .f32) (hsc : ∀ i k, sc (ix3 0 i k) = S (r0 + (i : Fin 512)) (k : Fin 1024))
    (vb : FVec Ideal S1x1x1024x128 .bf16) (hvb : ∀ k c, vb (ix4 0 0 k c) = V (k : Fin 1024) (c : Fin 128)) :
    Good S V r0 1024 (k0_pay25 (k0_pay22 (F := Ideal) sc)) (k0_pay24 (k0_pay23 (F := Ideal) v0 sc vb)) := by
  intro i
  have hx : ∀ k : Fin 1024, sc (ix3 0 i k) = cut S (r0 + i) k := fun k => by rw [hsc, cut_of_le (by omega)]
  have hM := rowM_first (cut S (r0 + i)) 1024 _ neg_inf (fun k : Fin 1024 => sc (ix3 0 i k)) hx
  refine ⟨fun l => ?_, fun c => ?_⟩
  · pointwise [k0_pay25, k0_pay22, k0_pay21]
    exact hM
  · pointwise [k0_pay24, k0_pay23, k0_pay22, k0_pay21]
    simp only [hM, dite_eq_ite, ite_self]
    refine rowA_first (cut S (r0 + i)) (W V c) 1024 _ rfl _ _ hx fun k => ?_
    unfold W
    split <;> simp only [hvb, hv0]

/-- The causally cut scores of a block of 256 keys whose last 256 meet the rows. -/
theorem mask256 {r0 n : ℕ} (hr : r0 + 256 = n + 256)
    (sc : FVec Ideal S1x256x256 .f32) (hsc : ∀ i k, sc (ix3 0 i k) = S (r0 + (i : Fin 256)) (n + (k : Fin 256))) (i : Fin 256) (k : Fin 256) :
    k0_pay27 (F := Ideal) sc (ix2 i k) = cut S (r0 + i) (n + k) := by
  pointwise [k0_pay27, hsc]
  rw [select_cut _ _ (by omega) (by omega)]
  unfold cut
  exact if_congr (by omega) rfl rfl

/-- The causally cut scores of a block of 512 keys whose last 256 meet the rows. -/
theorem mask512 {r0 n : ℕ} (hr : r0 + 256 = n + 512)
    (sc : FVec Ideal S1x256x512 .f32) (hsc : ∀ i k, sc (ix3 0 i k) = S (r0 + (i : Fin 256)) (n + (k : Fin 512))) (i : Fin 256) (k : Fin 512) :
    k0_pay32 (F := Ideal) sc (ix2 i k) = cut S (r0 + i) (n + k) := by
  pointwise [k0_pay32, hsc]
  by_cases hk : (k : ℕ) < 256
  · rw [dif_pos hk, cut_of_le (by omega)]
  · rw [dif_neg hk, select_cut _ _ (by omega) (by omega)]
    unfold cut
    exact if_congr (by omega) (congrArg _ (by omega)) rfl

/-- The causally cut scores of a block of 768 keys whose last 256 meet the rows. -/
theorem mask768 {r0 n : ℕ} (hr : r0 + 256 = n + 768)
    (sc : FVec Ideal S1x256x768 .f32) (hsc : ∀ i k, sc (ix3 0 i k) = S (r0 + (i : Fin 256)) (n + (k : Fin 768))) (i : Fin 256) (k : Fin 768) :
    k0_pay46 (F := Ideal) sc (ix2 i k) = cut S (r0 + i) (n + k) := by
  pointwise [k0_pay46, hsc]
  by_cases hk : (k : ℕ) < 512
  · rw [dif_pos hk, cut_of_le (by omega)]
  · rw [dif_neg hk, select_cut _ _ (by omega) (by omega)]
    unfold cut
    exact if_congr (by omega) (congrArg _ (by omega)) rfl

/-- The causally cut scores of a block of 1024 keys whose last 256 meet the rows. -/
theorem mask1024 {r0 n : ℕ} (hr : r0 + 256 = n + 1024)
    (sc : FVec Ideal S1x256x1024 .f32) (hsc : ∀ i k, sc (ix3 0 i k) = S (r0 + (i : Fin 256)) (n + (k : Fin 1024))) (i : Fin 256) (k : Fin 1024) :
    k0_pay52 (F := Ideal) sc (ix2 i k) = cut S (r0 + i) (n + k) := by
  pointwise [k0_pay52, hsc]
  by_cases hk : (k : ℕ) < 768
  · rw [dif_pos hk, cut_of_le (by omega)]
  · rw [dif_neg hk, select_cut _ _ (by omega) (by omega)]
    unfold cut
    exact if_congr (by omega) (congrArg _ (by omega)) rfl

/-- The rows whose only block of keys is one of 256, cut at the rows: their attention. -/
theorem only256 (hS : ∀ r, Ok (cut S r)) {r0 : ℕ} (hr : r0 + 256 = 256) (v0 : FVec Ideal S1024x128 .bf16) (hv0 : ∀ k c, v0 (ix2 k c) = 1)
    (sc : FVec Ideal S1x256x256 .f32) (hsc : ∀ i k, sc (ix3 0 i k) = S (r0 + (i : Fin 256)) (k : Fin 256))
    (vb : FVec Ideal S1x1x256x128 .bf16) (hvb : ∀ k c, vb (ix4 0 0 k c) = V (k : Fin 256) (c : Fin 128)) (i : Fin 256) (c : Fin 128) :
    k0_pay10 (k0_pay9 (F := Ideal) v0 sc vb) (ix3 0 i c) = att S (fun k => V k c) (r0 + i) := by
  have hx := mask256 (S := S) (n := 0) (by omega) sc (fun i k => by rw [hsc, zero_add]) i
  simp only [zero_add] at hx
  have hM := rowM_first (cut S (r0 + i)) 256 _ neg_inf _ hx
  pointwise [k0_pay27] at hx hM
  pointwise [k0_pay10, k0_pay9, hv0, hvb]
  have hx1 := fun x : Fin 128 => hx ⟨x, by omega⟩
  have hx2 := fun x : Fin 128 => hx ⟨128 + x, by omega⟩
  dsimp only at hx1 hx2
  simp only [hx, hx1, hx2] at hM ⊢
  simp only [hM, dite_eq_ite, ite_self]
  rw [← div_eq_att hS (fun k => V k c) (r := r0 + i) (n := 256) (by omega) (by omega)]
  have h1 := rowA_first (cut S (r0 + i)) (fun k => V k c) 256 _ rfl _ _ (fun _ => rfl) fun _ => rfl
  have h2 := rowA_first_one (cut S (r0 + i)) 256 _ rfl _ fun _ => rfl
  rw [Fin.sum_univ_two_halves 128 128 rfl] at h1 h2
  exact congrArg₂ Ideal.div h1 h2

/-- The rows whose only block of keys is one of 512, cut at the rows: their attention. -/
theorem only512 (hS : ∀ r, Ok (cut S r)) {r0 : ℕ} (hr : r0 + 256 = 512) (v0 : FVec Ideal S1024x128 .bf16) (hv0 : ∀ k c, v0 (ix2 k c) = 1)
    (sc : FVec Ideal S1x256x512 .f32) (hsc : ∀ i k, sc (ix3 0 i k) = S (r0 + (i : Fin 256)) (k : Fin 512))
    (vb : FVec Ideal S1x1x512x128 .bf16) (hvb : ∀ k c, vb (ix4 0 0 k c) = V (k : Fin 512) (c : Fin 128)) (i : Fin 256) (c : Fin 128) :
    k0_pay11 (F := Ideal) v0 sc vb (ix3 0 i c) = att S (fun k => V k c) (r0 + i) := by
  have hx := mask512 (S := S) (n := 0) (by omega) sc (fun i k => by rw [hsc, zero_add]) i
  simp only [zero_add] at hx
  have hM := rowM_first (cut S (r0 + i)) 512 _ neg_inf _ hx
  pointwise [k0_pay32] at hx hM
  pointwise [k0_pay11, hv0, hvb]
  simp only [hx] at hM ⊢
  simp only [hM, dite_eq_ite, ite_self]
  rw [← div_eq_att hS (fun k => V k c) (r := r0 + i) (n := 512) (by omega) (by omega)]
  exact congrArg₂ Ideal.div (rowA_first (cut S (r0 + i)) _ 512 _ rfl _ _ (fun _ => rfl) fun _ => rfl)
    (rowA_first_one (cut S (r0 + i)) 512 _ rfl _ fun _ => rfl)

/-- The rows whose only block of keys is one of 768, cut at the rows: their attention. -/
theorem only768 (hS : ∀ r, Ok (cut S r)) {r0 : ℕ} (hr : r0 + 256 = 768) (v0 : FVec Ideal S1024x128 .bf16) (hv0 : ∀ k c, v0 (ix2 k c) = 1)
    (sc : FVec Ideal S1x256x768 .f32) (hsc : ∀ i k, sc (ix3 0 i k) = S (r0 + (i : Fin 256)) (k : Fin 768))
    (vb : FVec Ideal S1x1x768x128 .bf16) (hvb : ∀ k c, vb (ix4 0 0 k c) = V (k : Fin 768) (c : Fin 128)) (i : Fin 256) (c : Fin 128) :
    k0_pay14 (k0_pay13 (F := Ideal) v0 sc vb) (ix3 0 i c) = att S (fun k => V k c) (r0 + i) := by
  have hx := mask768 (S := S) (n := 0) (by omega) sc (fun i k => by rw [hsc, zero_add]) i
  simp only [zero_add] at hx
  have hM := rowM_first (cut S (r0 + i)) 768 _ neg_inf _ hx
  pointwise [k0_pay46] at hx hM
  pointwise [k0_pay14, k0_pay13, hv0, hvb]
  simp only [hx] at hM ⊢
  simp only [hM, dite_eq_ite, ite_self]
  rw [← div_eq_att hS (fun k => V k c) (r := r0 + i) (n := 768) (by omega) (by omega)]
  exact congrArg₂ Ideal.div (rowA_first (cut S (r0 + i)) _ 768 _ rfl _ _ (fun _ => rfl) fun _ => rfl)
    (rowA_first_one (cut S (r0 + i)) 768 _ rfl _ fun _ => rfl)

/-- The rows whose only block of keys is one of 1024, cut at the rows: their attention. -/
theorem only1024 (hS : ∀ r, Ok (cut S r)) {r0 : ℕ} (hr : r0 + 256 = 1024) (v0 : FVec Ideal S1024x128 .bf16) (hv0 : ∀ k c, v0 (ix2 k c) = 1)
    (sc : FVec Ideal S1x256x1024 .f32) (hsc : ∀ i k, sc (ix3 0 i k) = S (r0 + (i : Fin 256)) (k : Fin 1024))
    (vb : FVec Ideal S1x1x1024x128 .bf16) (hvb : ∀ k c, vb (ix4 0 0 k c) = V (k : Fin 1024) (c : Fin 128)) (i : Fin 256) (c : Fin 128) :
    k0_pay15 (F := Ideal) v0 sc vb (ix3 0 i c) = att S (fun k => V k c) (r0 + i) := by
  have hx := mask1024 (S := S) (n := 0) (by omega) sc (fun i k => by rw [hsc, zero_add]) i
  simp only [zero_add] at hx
  have hM := rowM_first (cut S (r0 + i)) 1024 _ neg_inf _ hx
  pointwise [k0_pay52] at hx hM
  pointwise [k0_pay15, hv0, hvb]
  simp only [hx] at hM ⊢
  simp only [hM, dite_eq_ite, ite_self]
  rw [← div_eq_att hS (fun k => V k c) (r := r0 + i) (n := 1024) (by omega) (by omega)]
  exact congrArg₂ Ideal.div (rowA_first (cut S (r0 + i)) _ 1024 _ rfl _ _ (fun _ => rfl) fun _ => rfl)
    (rowA_first_one (cut S (r0 + i)) 1024 _ rfl _ fun _ => rfl)

/-- The rows' last block of keys, one of 256 cut at the rows: their attention. -/
theorem last256 (hS : ∀ r, Ok (cut S r)) {r0 n : ℕ} (hn : 0 < n) (hr : r0 + 256 = n + 256) (hN : n + 256 ≤ 4096)
    (v0 : FVec Ideal S1024x128 .bf16) (hv0 : ∀ k c, v0 (ix2 k c) = 1)
    (sc : FVec Ideal S1x256x256 .f32) (hsc : ∀ i k, sc (ix3 0 i k) = S (r0 + (i : Fin 256)) (n + (k : Fin 256)))
    (vb : FVec Ideal S1x1x256x128 .bf16) (hvb : ∀ k c, vb (ix4 0 0 k c) = V (n + (k : Fin 256)) (c : Fin 128))
    (m : FVec Ideal S1x256x128 .f32) (a : FVec Ideal S1x256x256 .f32) (hg : Good S V r0 n m a) (i : Fin 256) (c : Fin 128) :
    k0_pay80 (k0_pay78 (F := Ideal) v0 sc m vb) (k0_pay79 sc m) a (ix3 0 i c) = att S (fun k => V k c) (r0 + i) := by
  obtain ⟨hm, ha⟩ := hg i
  have hx := mask256 (S := S) hr sc hsc i
  have hM := rowM_add (cut S (r0 + i)) n 256 _ neg_inf _ hx
  pointwise [k0_pay27] at hx hM
  pointwise [k0_pay80, k0_pay78, k0_pay79, k0_pay77, k0_pay76, k0_pay75, hv0, hvb, hm, ha]
  have hx1 := fun x : Fin 128 => hx ⟨x, by omega⟩
  have hx2 := fun x : Fin 128 => hx ⟨128 + x, by omega⟩
  dsimp only at hx1 hx2
  simp only [hx, hx1, hx2] at hM ⊢
  simp only [hM, dite_eq_ite, ite_self]
  rw [← div_eq_att hS (fun k => V k c) (r := r0 + i) (n := n + 256) (by omega) hN]
  have h1 : W V c = fun k => V k c := funext fun k => if_pos c.2
  have h2 : W V (128 + c) = fun _ => 1 := funext fun k => if_neg (by omega)
  rw [h1, h2]
  have h3 := rowA_add (hS (r0 + i)) (fun k => V k c) hn 256 _ rfl _ _ (fun _ => rfl) fun _ => rfl
  have h4 := rowA_add_one (hS (r0 + i)) hn 256 _ rfl _ fun _ => rfl
  rw [Fin.sum_univ_two_halves 128 128 rfl] at h3 h4
  exact congrArg₂ Ideal.div h3 h4

/-- The rows' last block of keys, one of 512 cut at the rows: their attention. -/
theorem last512 (hS : ∀ r, Ok (cut S r)) {r0 n : ℕ} (hn : 0 < n) (hr : r0 + 256 = n + 512) (hN : n + 512 ≤ 4096)
    (v0 : FVec Ideal S1024x128 .bf16) (hv0 : ∀ k c, v0 (ix2 k c) = 1)
    (sc : FVec Ideal S1x256x512 .f32) (hsc : ∀ i k, sc (ix3 0 i k) = S (r0 + (i : Fin 256)) (n + (k : Fin 512)))
    (vb : FVec Ideal S1x1x512x128 .bf16) (hvb : ∀ k c, vb (ix4 0 0 k c) = V (n + (k : Fin 512)) (c : Fin 128))
    (m : FVec Ideal S1x256x128 .f32) (a : FVec Ideal S1x256x256 .f32) (hg : Good S V r0 n m a) (i : Fin 256) (c : Fin 128) :
    k0_pay86 (k0_pay84 (F := Ideal) v0 sc m vb) (k0_pay85 sc m) a (ix3 0 i c) = att S (fun k => V k c) (r0 + i) := by
  obtain ⟨hm, ha⟩ := hg i
  have hx := mask512 (S := S) hr sc hsc i
  have hM := rowM_add (cut S (r0 + i)) n 512 _ neg_inf _ hx
  pointwise [k0_pay32] at hx hM
  pointwise [k0_pay86, k0_pay84, k0_pay85, k0_pay83, k0_pay82, k0_pay81, hv0, hvb, hm, ha]
  simp only [hx] at hM ⊢
  simp only [hM, dite_eq_ite, ite_self]
  rw [← div_eq_att hS (fun k => V k c) (r := r0 + i) (n := n + 512) (by omega) hN]
  have h1 : W V c = fun k => V k c := funext fun k => if_pos c.2
  have h2 : W V (128 + c) = fun _ => 1 := funext fun k => if_neg (by omega)
  rw [h1, h2]
  exact congrArg₂ Ideal.div (rowA_add (hS (r0 + i)) _ hn 512 _ rfl _ _ (fun _ => rfl) fun _ => rfl)
    (rowA_add_one (hS (r0 + i)) hn 512 _ rfl _ fun _ => rfl)

/-- The rows' last block of keys, one of 768 cut at the rows: their attention. -/
theorem last768 (hS : ∀ r, Ok (cut S r)) {r0 n : ℕ} (hn : 0 < n) (hr : r0 + 256 = n + 768) (hN : n + 768 ≤ 4096)
    (v0 : FVec Ideal S1024x128 .bf16) (hv0 : ∀ k c, v0 (ix2 k c) = 1)
    (sc : FVec Ideal S1x256x768 .f32) (hsc : ∀ i k, sc (ix3 0 i k) = S (r0 + (i : Fin 256)) (n + (k : Fin 768)))
    (vb : FVec Ideal S1x1x768x128 .bf16) (hvb : ∀ k c, vb (ix4 0 0 k c) = V (n + (k : Fin 768)) (c : Fin 128))
    (m : FVec Ideal S1x256x128 .f32) (a : FVec Ideal S1x256x256 .f32) (hg : Good S V r0 n m a) (i : Fin 256) (c : Fin 128) :
    k0_pay51 (k0_pay49 (F := Ideal) v0 sc m vb) (k0_pay50 sc m) a (ix3 0 i c) = att S (fun k => V k c) (r0 + i) := by
  obtain ⟨hm, ha⟩ := hg i
  have hx := mask768 (S := S) hr sc hsc i
  have hM := rowM_add (cut S (r0 + i)) n 768 _ neg_inf _ hx
  pointwise [k0_pay46] at hx hM
  pointwise [k0_pay51, k0_pay49, k0_pay50, k0_pay48, k0_pay47, k0_pay46, hv0, hvb, hm, ha]
  simp only [hx] at hM ⊢
  simp only [hM, dite_eq_ite, ite_self]
  rw [← div_eq_att hS (fun k => V k c) (r := r0 + i) (n := n + 768) (by omega) hN]
  have h1 : W V c = fun k => V k c := funext fun k => if_pos c.2
  have h2 : W V (128 + c) = fun _ => 1 := funext fun k => if_neg (by omega)
  rw [h1, h2]
  exact congrArg₂ Ideal.div (rowA_add (hS (r0 + i)) _ hn 768 _ rfl _ _ (fun _ => rfl) fun _ => rfl)
    (rowA_add_one (hS (r0 + i)) hn 768 _ rfl _ fun _ => rfl)

/-- The rows' last block of keys, one of 1024 cut at the rows: their attention. -/
theorem last1024 (hS : ∀ r, Ok (cut S r)) {r0 n : ℕ} (hn : 0 < n) (hr : r0 + 256 = n + 1024) (hN : n + 1024 ≤ 4096)
    (v0 : FVec Ideal S1024x128 .bf16) (hv0 : ∀ k c, v0 (ix2 k c) = 1)
    (sc : FVec Ideal S1x256x1024 .f32) (hsc : ∀ i k, sc (ix3 0 i k) = S (r0 + (i : Fin 256)) (n + (k : Fin 1024)))
    (vb : FVec Ideal S1x1x1024x128 .bf16) (hvb : ∀ k c, vb (ix4 0 0 k c) = V (n + (k : Fin 1024)) (c : Fin 128))
    (m : FVec Ideal S1x256x128 .f32) (a : FVec Ideal S1x256x256 .f32) (hg : Good S V r0 n m a) (i : Fin 256) (c : Fin 128) :
    k0_pay57 (k0_pay55 (F := Ideal) v0 sc m vb) (k0_pay56 sc m) a (ix3 0 i c) = att S (fun k => V k c) (r0 + i) := by
  obtain ⟨hm, ha⟩ := hg i
  have hx := mask1024 (S := S) hr sc hsc i
  have hM := rowM_add (cut S (r0 + i)) n 1024 _ neg_inf _ hx
  pointwise [k0_pay52] at hx hM
  pointwise [k0_pay57, k0_pay55, k0_pay56, k0_pay54, k0_pay53, k0_pay52, hv0, hvb, hm, ha]
  simp only [hx] at hM ⊢
  simp only [hM, dite_eq_ite, ite_self]
  rw [← div_eq_att hS (fun k => V k c) (r := r0 + i) (n := n + 1024) (by omega) hN]
  have h1 : W V c = fun k => V k c := funext fun k => if_pos c.2
  have h2 : W V (128 + c) = fun _ => 1 := funext fun k => if_neg (by omega)
  rw [h1, h2]
  exact congrArg₂ Ideal.div (rowA_add (hS (r0 + i)) _ hn 1024 _ rfl _ _ (fun _ => rfl) fun _ => rfl)
    (rowA_add_one (hS (r0 + i)) hn 1024 _ rfl _ fun _ => rfl)

end Cert.KernelIdeal.Attn
-- ==== Proof.Scores.lean ====
/- What the attention kernel loads of its inputs and of its own scratch, and the scores it stores. -/
module

public import proofs.«01_k».proof.Proof.Shapes
public import Idealize.ShloMosaic.Lib.WholeRead
public import Idealize.ShloMosaic.Lib.Pipeline.ReadBack

@[expose] public section

set_option maxRecDepth 16384

noncomputable section

namespace Cert.KernelIdeal.Attn

open Idealize.ShloMosaic Idealize.ShloMosaic.TcCoe Idealize.SL.Sem
open Cert.KernelIdeal Cert.KernelIdeal.Gen Att

/-- A query block's rows, at any natural position. -/
def qf (x : FVec Ideal S1x1x4096x256 .bf16) (r : ℕ) (d : Fin 256) : EReal := x (ix4 0 0 (Fin.ofNat 4096 r) d)

/-- A key or value block's rows, at any natural position. -/
def kf (x : FVec Ideal S1x1x4096x128 .bf16) (k : ℕ) (d : Fin 128) : EReal := x (ix4 0 0 (Fin.ofNat 4096 k) d)

/-- The rotary key block's rows, at any natural position. -/
def rf (x : FVec Ideal S1x4096x128 .bf16) (k : ℕ) (d : Fin 128) : EReal := x (ix3 0 (Fin.ofNat 4096 k) d)

/-- The score of row `r` against key `k`. -/
def score (Q : ℕ → Fin 256 → EReal) (N R : ℕ → Fin 128 → EReal) (r k : ℕ) : EReal :=
  ∑ d : Fin 128, Q r ⟨d, by omega⟩ * N k d + ∑ d : Fin 128, Q r ⟨128 + d, by omega⟩ * R k d

/-- The values as a function of natural positions. -/
def vf (x : FVec Ideal S1x1x4096x128 .bf16) (k c : ℕ) : EReal := kf x k (Fin.ofNat 128 c)

theorem load_q (a : Memref sig .tc .vmem S1x1x4096x256 .bf16) (h : a.IsWhole) (x : FVec Ideal S1x1x4096x256 .bf16) {o n : ℕ}
    (inb : ∀ b, (![0, 0, o, 0] : Fin 4 → ℕ) b + (![1, 1, n, 256] : Fin 4 → ℕ) b ≤ S1x1x4096x256.size b) (i : Fin n) (d : Fin 256) :
    (View.readAt (Elt Ideal) a.view (Rect.unit ![0, 0, o, 0] ![1, 1, n, 256] inb).toLoadRect (h.unread x) (show (Rect.unit (s := S1x1x4096x256) ![0, 0, o, 0] ![1, 1, n, 256] inb).toLoadRect.shape.Idx from ix4 (0 : Fin 1) (0 : Fin 1) i d) : EReal) = qf x (o + i) d := by
  have h2 : o + n ≤ 4096 := inb 2
  rw [Memref.IsWhole.readAt_unread]
  refine congrArg x ?_
  funext b
  fin_cases b <;> apply Fin.ext <;> simp [qf, Rect.unit] <;> omega

theorem load_k (a : Memref sig .tc .vmem S1x1x4096x128 .bf16) (h : a.IsWhole) (x : FVec Ideal S1x1x4096x128 .bf16) {o n : ℕ}
    (inb : ∀ b, (![0, 0, o, 0] : Fin 4 → ℕ) b + (![1, 1, n, 128] : Fin 4 → ℕ) b ≤ S1x1x4096x128.size b) (i : Fin n) (d : Fin 128) :
    (View.readAt (Elt Ideal) a.view (Rect.unit ![0, 0, o, 0] ![1, 1, n, 128] inb).toLoadRect (h.unread x) (show (Rect.unit (s := S1x1x4096x128) ![0, 0, o, 0] ![1, 1, n, 128] inb).toLoadRect.shape.Idx from ix4 (0 : Fin 1) (0 : Fin 1) i d) : EReal) = kf x (o + i) d := by
  have h2 : o + n ≤ 4096 := inb 2
  rw [Memref.IsWhole.readAt_unread]
  refine congrArg x ?_
  funext b
  fin_cases b <;> apply Fin.ext <;> simp [kf, Rect.unit] <;> omega

theorem load_r (a : Memref sig .tc .vmem S1x4096x128 .bf16) (h : a.IsWhole) (x : FVec Ideal S1x4096x128 .bf16) {o n : ℕ}
    (inb : ∀ b, (![0, o, 0] : Fin 3 → ℕ) b + (![1, n, 128] : Fin 3 → ℕ) b ≤ S1x4096x128.size b) (i : Fin n) (d : Fin 128) :
    (View.readAt (Elt Ideal) a.view (Rect.unit ![0, o, 0] ![1, n, 128] inb).toLoadRect (h.unread x) (show (Rect.unit (s := S1x4096x128) ![0, o, 0] ![1, n, 128] inb).toLoadRect.shape.Idx from ix3 (0 : Fin 1) i d) : EReal) = rf x (o + i) d := by
  have h2 : o + n ≤ 4096 := inb 1
  rw [Memref.IsWhole.readAt_unread]
  refine congrArg x ?_
  funext b
  fin_cases b <;> apply Fin.ext <;> simp [rf, Rect.unit] <;> omega

variable {Q : ℕ → Fin 256 → EReal} {N R : ℕ → Fin 128 → EReal}

/-- A full block of scores: 512 queries by 1024 keys. -/
theorem sfull {r0 n : ℕ} (kn : FVec Ideal S1x1x1024x128 .bf16) (kr : FVec Ideal S1x1024x128 .bf16) (q : FVec Ideal S1x1x512x256 .bf16)
    (hk : ∀ k d, kn (ix4 0 0 k d) = N (n + (k : Fin 1024)) d) (hr : ∀ k d, kr (ix3 0 k d) = R (n + (k : Fin 1024)) d)
    (hq : ∀ i d, q (ix4 0 0 i d) = Q (r0 + (i : Fin 512)) d) (i : Fin 512) (k : Fin 1024) :
    k0_pay12 (F := Ideal) kn kr q (ix3 0 i k) = score Q N R (r0 + i) (n + k) := by
  pointwise [k0_pay12, score, hk, hr, hq]

/-- A block of scores of 256 queries by the first 768 of 1024 keys. -/
theorem s768 {r0 n : ℕ} (kn : FVec Ideal S1x1x1024x128 .bf16) (kr : FVec Ideal S1x1024x128 .bf16) (q : FVec Ideal S1x1x256x256 .bf16)
    (hk : ∀ k d, kn (ix4 0 0 k d) = N (n + (k : Fin 1024)) d) (hr : ∀ k d, kr (ix3 0 k d) = R (n + (k : Fin 1024)) d)
    (hq : ∀ i d, q (ix4 0 0 i d) = Q (r0 + (i : Fin 256)) d) (i : Fin 256) (k : Fin 768) :
    k0_pay7 (F := Ideal) (concatenate S1024x256 1 [⟨S1024x128, shapeCast S1024x128 kn shapeCasts_S1x1x1024x128_S1024x128⟩,
      ⟨S1024x128, shapeCast S1024x128 kr shapeCasts_S1x1024x128_S1024x128⟩] concatenates_S1024x128_S1024x128_S1024x256_d1) q (ix3 0 i k)
      = score Q N R (r0 + i) (n + k) := by
  pointwise [k0_pay7, score, hk, hr, hq]

/-- A block of scores of 256 queries by 1024 keys. -/
theorem s1024 {r0 n : ℕ} (kn : FVec Ideal S1x1x1024x128 .bf16) (kr : FVec Ideal S1x1024x128 .bf16) (q : FVec Ideal S1x1x256x256 .bf16)
    (hk : ∀ k d, kn (ix4 0 0 k d) = N (n + (k : Fin 1024)) d) (hr : ∀ k d, kr (ix3 0 k d) = R (n + (k : Fin 1024)) d)
    (hq : ∀ i d, q (ix4 0 0 i d) = Q (r0 + (i : Fin 256)) d) (i : Fin 256) (k : Fin 1024) :
    k0_pay8 (F := Ideal) (concatenate S1024x256 1 [⟨S1024x128, shapeCast S1024x128 kn shapeCasts_S1x1x1024x128_S1024x128⟩,
      ⟨S1024x128, shapeCast S1024x128 kr shapeCasts_S1x1024x128_S1024x128⟩] concatenates_S1024x128_S1024x128_S1024x256_d1) q (ix3 0 i k)
      = score Q N R (r0 + i) (n + k) := by
  pointwise [k0_pay8, score, hk, hr, hq]

/-- A block of scores of 256 queries by the first 256 of 512 keys. -/
theorem s256 {r0 n : ℕ} (kn : FVec Ideal S1x1x512x128 .bf16) (kr : FVec Ideal S1x512x128 .bf16) (q : FVec Ideal S1x1x256x256 .bf16)
    (hk : ∀ k d, kn (ix4 0 0 k d) = N (n + (k : Fin 512)) d) (hr : ∀ k d, kr (ix3 0 k d) = R (n + (k : Fin 512)) d)
    (hq : ∀ i d, q (ix4 0 0 i d) = Q (r0 + (i : Fin 256)) d) (i : Fin 256) (k : Fin 256) :
    (shapeCast S1x256x256 (matmul dot_S256x256_S256x256_S256x256_1_1_0_0_n_n none (shapeCast S256x256 q shapeCasts_S1x1x256x256_S256x256)
      (extractStridedSlice S256x256 ![0, 0] (concatenate S512x256 1 [⟨S512x128, shapeCast S512x128 kn shapeCasts_S1x1x512x128_S512x128⟩,
        ⟨S512x128, shapeCast S512x128 kr shapeCasts_S1x512x128_S512x128⟩] concatenates_S512x128_S512x128_S512x256_d1)
        slices_S512x256_o0_0_S256x256)
      (constant S256x256 .f32 0x00000000#32) : FVec Ideal S256x256 .f32) shapeCasts_S256x256_S1x256x256 : FVec Ideal S1x256x256 .f32) (ix3 0 i k)
      = score Q N R (r0 + i) (n + k) := by
  pointwise [score, hk, hr, hq]

/-- A block of scores of 256 queries by 512 keys. -/
theorem s512 {r0 n : ℕ} (kn : FVec Ideal S1x1x512x128 .bf16) (kr : FVec Ideal S1x512x128 .bf16) (q : FVec Ideal S1x1x256x256 .bf16)
    (hk : ∀ k d, kn (ix4 0 0 k d) = N (n + (k : Fin 512)) d) (hr : ∀ k d, kr (ix3 0 k d) = R (n + (k : Fin 512)) d)
    (hq : ∀ i d, q (ix4 0 0 i d) = Q (r0 + (i : Fin 256)) d) (i : Fin 256) (k : Fin 512) :
    (shapeCast S1x256x512 (matmul dot_S256x256_S512x256_S256x512_1_1_0_0_n_n none (shapeCast S256x256 q shapeCasts_S1x1x256x256_S256x256)
      (concatenate S512x256 1 [⟨S512x128, shapeCast S512x128 kn shapeCasts_S1x1x512x128_S512x128⟩,
        ⟨S512x128, shapeCast S512x128 kr shapeCasts_S1x512x128_S512x128⟩] concatenates_S512x128_S512x128_S512x256_d1)
      (constant S256x512 .f32 0x00000000#32) : FVec Ideal S256x512 .f32) shapeCasts_S256x512_S1x256x512 : FVec Ideal S1x256x512 .f32) (ix3 0 i k)
      = score Q N R (r0 + i) (n + k) := by
  pointwise [score, hk, hr, hq]

end Cert.KernelIdeal.Attn
-- ==== Proof.Blocks.lean ====
/- The attention kernel's blocks in order: each load of its scratch is the store it reads, so that every stored piece of
   the output is the causal softmax's weighted mean of the values. -/
module

public import proofs.«01_k».proof.Proof.Scores

@[expose] public section

set_option maxRecDepth 16384

noncomputable section

namespace Cert.KernelIdeal.Attn

open Idealize.ShloMosaic Idealize.ShloMosaic.TcCoe Idealize.SL.Sem
open Cert.KernelIdeal Cert.KernelIdeal.Gen Att Cert.KernelIdeal.Gen.kernelRun0_A

/-- A buffer of scores holds the rows from `r0` against the keys from `n`. -/
def Sc (S : ℕ → ℕ → EReal) (r0 n : ℕ) {R K : ℕ} (X : FVec Ideal ⟨3, ![1, R, K]⟩ .f32) : Prop :=
  ∀ i k, X (ix3 0 i k) = S (r0 + (i : Fin R)) (n + (k : Fin K))

variable {S V : ℕ → ℕ → EReal}

theorem Sc.zero {r0 R K : ℕ} {X : FVec Ideal ⟨3, ![1, R, K]⟩ .f32} (h : Sc S r0 0 X) (i : Fin R) (k : Fin K) : X (ix3 0 i k) = S (r0 + i) k := by
  rw [h, zero_add]

/-- A load of scores just stored. -/
theorem sc_hit {r0 n R K : ℕ} {v : View sig .tc .vmem S2x512x1024 .f32} {L : List (View.Piece (Elt Ideal) S2x512x1024 .f32)} {o : Fin 3 → ℕ}
    {inb : ∀ a, o a + (![1, R, K] : Fin 3 → ℕ) a ≤ S2x512x1024.size a} {w : FVec Ideal ⟨3, ![1, R, K]⟩ .f32} (h : Sc S r0 n w) :
    Sc S r0 n (R := R) (K := K) (v.readCov (⟨Rect.unit (s := S2x512x1024) o ![1, R, K] inb, w⟩ :: L) (Rect.unit (s := S2x512x1024) o ![1, R, K] inb).toLoadRect) := by
  rw [View.readCov_cons_toLoadRect]
  exact h

/-- A load of scores stored before a store elsewhere. -/
theorem sc_skip {r0 n R K : ℕ} {v : View sig .tc .vmem S2x512x1024 .f32} {L : List (View.Piece (Elt Ideal) S2x512x1024 .f32)} {o : Fin 3 → ℕ}
    {inb : ∀ a, o a + (![1, R, K] : Fin 3 → ℕ) a ≤ S2x512x1024.size a} {r : Rect S2x512x1024} {w : r.shape.Idx → Elt Ideal .f32}
    (hd : LoadRect.disj r (Rect.unit (s := S2x512x1024) o ![1, R, K] inb).toLoadRect = true)
    (h : Sc S r0 n (R := R) (K := K) (v.readCov L (Rect.unit (s := S2x512x1024) o ![1, R, K] inb).toLoadRect)) :
    Sc S r0 n (R := R) (K := K) (v.readCov (⟨r, w⟩ :: L) (Rect.unit (s := S2x512x1024) o ![1, R, K] inb).toLoadRect) := by
  rw [View.readCov_skip v r w L _ hd]
  exact h

/-- A load of rows from `o` of a slot of one of the two row scratches just stored. -/
theorem row_load {W s o R : ℕ} {v : View sig .tc .vmem ⟨3, ![2, 512, W]⟩ .f32} {L : List (View.Piece (Elt Ideal) ⟨3, ![2, 512, W]⟩ .f32)}
    {i1 : ∀ a, (![s, 0, 0] : Fin 3 → ℕ) a + (![1, 512, W] : Fin 3 → ℕ) a ≤ (⟨3, ![2, 512, W]⟩ : Shape).size a}
    {i2 : ∀ a, (![s, o, 0] : Fin 3 → ℕ) a + (![1, R, W] : Fin 3 → ℕ) a ≤ (⟨3, ![2, 512, W]⟩ : Shape).size a}
    (w : FVec Ideal ⟨3, ![1, 512, W]⟩ .f32) (i : Fin R) (l : Fin W) (hi : o + i < 512) :
    (v.readCov (⟨Rect.unit (s := ⟨3, ![2, 512, W]⟩) ![s, 0, 0] ![1, 512, W] i1, w⟩ :: L) (Rect.unit (s := ⟨3, ![2, 512, W]⟩) ![s, o, 0] ![1, R, W] i2).toLoadRect
      (show (Rect.unit (s := ⟨3, ![2, 512, W]⟩) ![s, o, 0] ![1, R, W] i2).toLoadRect.shape.Idx from ix3 (0 : Fin 1) i l) : EReal)
      = w (ix3 0 ⟨o + i, hi⟩ l) := by
  rw [View.readCov_eq_canon']
  refine Eq.trans (congrArg _ ?_) (View.canon_cons_emb (Val := Elt Ideal) (Rect.unit (s := ⟨3, ![2, 512, W]⟩) ![s, 0, 0] ![1, 512, W] i1) w L (ix3 0 ⟨o + i, hi⟩ l))
  funext b
  fin_cases b <;> apply Fin.ext <;> simp [Rect.unit, Rect.emb]

/-- So the running maximum and sums of those rows are what was stored. -/
theorem good_load {s r0 n R : ℕ} (o : ℕ) {v8 : View sig .tc .vmem S2x512x128 .f32} {v9 : View sig .tc .vmem S2x512x256 .f32}
    {L8 : List (View.Piece (Elt Ideal) S2x512x128 .f32)} {L9 : List (View.Piece (Elt Ideal) S2x512x256 .f32)}
    {i1 : ∀ a, (![s, 0, 0] : Fin 3 → ℕ) a + (![1, 512, 128] : Fin 3 → ℕ) a ≤ S2x512x128.size a}
    {i2 : ∀ a, (![s, o, 0] : Fin 3 → ℕ) a + (![1, R, 128] : Fin 3 → ℕ) a ≤ S2x512x128.size a}
    {i3 : ∀ a, (![s, 0, 0] : Fin 3 → ℕ) a + (![1, 512, 256] : Fin 3 → ℕ) a ≤ S2x512x256.size a}
    {i4 : ∀ a, (![s, o, 0] : Fin 3 → ℕ) a + (![1, R, 256] : Fin 3 → ℕ) a ≤ S2x512x256.size a}
    {m : FVec Ideal S1x512x128 .f32} {a : FVec Ideal S1x512x256 .f32} (hg : Good S V r0 n m a) :
    Good S V (r0 + o) n (R := R)
      (v8.readCov (⟨Rect.unit (s := S2x512x128) ![s, 0, 0] ![1, 512, 128] i1, m⟩ :: L8) (Rect.unit (s := S2x512x128) ![s, o, 0] ![1, R, 128] i2).toLoadRect)
      (v9.readCov (⟨Rect.unit (s := S2x512x256) ![s, 0, 0] ![1, 512, 256] i3, a⟩ :: L9) (Rect.unit (s := S2x512x256) ![s, o, 0] ![1, R, 256] i4).toLoadRect) := by
  intro i
  have h2 : o + R ≤ 512 := i2 1
  have hi : o + i < 512 := by omega
  obtain ⟨hm, ha⟩ := hg ⟨o + i, hi⟩
  rw [← add_assoc] at hm
  rw [← add_assoc] at ha
  exact ⟨fun l => (row_load m i l hi).trans (hm l), fun c => (row_load a i c hi).trans (ha c)⟩

/-- The block of ones beside the values. -/
theorem ones (k : Fin 1024) (c : Fin 128) : (sl.v0 (F := Ideal) : FVec Ideal S1024x128 .bf16) (ix2 k c) = (1 : EReal) := by
  simp [sl.v0, sl.cst, broadcast, constant, Ideal.ofBits, Ideal.ieee]
  rw [← EReal.coe_mul]
  norm_num

/-- The values loaded. -/
theorem load_v (a : Memref sig .tc .vmem S1x1x4096x128 .bf16) (h : a.IsWhole) (x : FVec Ideal S1x1x4096x128 .bf16) {o n : ℕ}
    (inb : ∀ b, (![0, 0, o, 0] : Fin 4 → ℕ) b + (![1, 1, n, 128] : Fin 4 → ℕ) b ≤ S1x1x4096x128.size b) (i : Fin n) (d : Fin 128) :
    (View.readAt (Elt Ideal) a.view (Rect.unit ![0, 0, o, 0] ![1, 1, n, 128] inb).toLoadRect (h.unread x) (show (Rect.unit (s := S1x1x4096x128) ![0, 0, o, 0] ![1, 1, n, 128] inb).toLoadRect.shape.Idx from ix4 (0 : Fin 1) (0 : Fin 1) i d) : EReal)
      = vf x (o + i) d := by
  rw [load_k, vf]
  congr 1
  apply Fin.ext
  simp

/-- The output block, as a function of the row and the column. -/
def G (S V : ℕ → ℕ → EReal) (y : S1x4096x128.Idx) : EReal := att S (fun k => V k (y 2 : Fin 128)) (y 1 : Fin 4096)

/-- One stored piece of the output block. -/
theorem piece {r0 : ℕ} (inb : ∀ a, (![0, r0, 0] : Fin 3 → ℕ) a + (![1, 256, 128] : Fin 3 → ℕ) a ≤ S1x4096x128.size a) {w : FVec Ideal S1x256x128 .bf16}
    (h : ∀ i c, w (ix3 0 i c) = att S (fun k => V k (c : Fin 128)) (r0 + (i : Fin 256))) (x : S1x256x128.Idx) :
    w x = G S V ((Rect.unit (s := S1x4096x128) ![0, r0, 0] ![1, 256, 128] inb).emb x) := by
  have hx : x = ix3 0 (x 1 : Fin 256) (x 2 : Fin 128) := by
    funext b; fin_cases b <;> [exact Subsingleton.elim (α := Fin 1) _ _; rfl; rfl]
  refine (congrArg w hx).trans ((h _ _).trans ?_)
  simp [G, Rect.unit, Rect.emb]

variable (c : Dev nD) (arg2 : Memref sig .tc .vmem S1x1x4096x256 .bf16) (harg2 : arg2.IsWhole) (arg3 : Memref sig .tc .vmem S1x1x4096x128 .bf16) (harg3 : arg3.IsWhole)
  (arg4 : Memref sig .tc .vmem S1x4096x128 .bf16) (harg4 : arg4.IsWhole) (arg5 : Memref sig .tc .vmem S1x1x4096x128 .bf16) (harg5 : arg5.IsWhole)
  (arg7 : Memref sig .tc .vmem S2x512x1024 .f32) (arg8 : Memref sig .tc .vmem S2x512x128 .f32) (arg9 : Memref sig .tc .vmem S2x512x256 .f32)
  (x0 : FVec Ideal S1x1x4096x256 .bf16) (x1 : FVec Ideal S1x1x4096x128 .bf16) (x2 : FVec Ideal S1x4096x128 .bf16) (x3 : FVec Ideal S1x1x4096x128 .bf16)

/-- The scores of one batch row and head, from its blocks. -/
abbrev sc0 : ℕ → ℕ → EReal := score (qf x0) (kf x1) (rf x2)

/-- The scores of the rows from 0 against the keys from 0, as loaded. -/
theorem l_v37 : Sc (sc0 x0 x1 x2) 0 0 (sl.v37 (F := Ideal) c arg2 harg2 arg3 harg3 arg4 harg4 arg7 x0 x1 x2) :=
  sc_skip (by decide) (sc_skip (by decide) (sc_skip (by decide) (sc_hit fun i k => s256 _ _ _ (load_k _ _ _ _) (load_r _ _ _ _) (load_q _ _ _ _) i k)))

/-- The scores of the rows from 256 against the keys from 0, as loaded. -/
theorem l_v64 : Sc (sc0 x0 x1 x2) 256 0 (sl.v64 (F := Ideal) c arg2 harg2 arg3 harg3 arg4 harg4 arg7 x0 x1 x2) :=
  sc_skip (by decide) (sc_skip (by decide) (sc_hit fun i k => s512 _ _ _ (load_k _ _ _ _) (load_r _ _ _ _) (load_q _ _ _ _) i k))

/-- The scores of the rows from 512 against the keys from 0, as loaded. -/
theorem l_v105 : Sc (sc0 x0 x1 x2) 512 0 (sl.v105 (F := Ideal) c arg2 harg2 arg3 harg3 arg4 harg4 arg7 x0 x1 x2) :=
  sc_skip (by decide) (sc_skip (by decide) (sc_hit fun i k => s768 _ _ _ (load_k _ _ _ _) (load_r _ _ _ _) (load_q _ _ _ _) i k))

/-- The scores of the rows from 768 against the keys from 0, as loaded. -/
theorem l_v135 : Sc (sc0 x0 x1 x2) 768 0 (sl.v135 (F := Ideal) c arg2 harg2 arg3 harg3 arg4 harg4 arg7 x0 x1 x2) :=
  sc_skip (by decide) (sc_hit fun i k => s1024 _ _ _ (load_k _ _ _ _) (load_r _ _ _ _) (load_q _ _ _ _) i k)

/-- The scores of the rows from 1024 against the keys from 0, as loaded. -/
theorem l_v182 : Sc (sc0 x0 x1 x2) 1024 0 (sl.v182 (F := Ideal) c arg2 harg2 arg3 harg3 arg4 harg4 arg7 x0 x1 x2) :=
  sc_skip (by decide) (sc_skip (by decide) (sc_hit fun i k => sfull _ _ _ (load_k _ _ _ _) (load_r _ _ _ _) (load_q _ _ _ _) i k))

/-- The scores of the rows from 1024 against the keys from 1024, as loaded. -/
theorem l_v213 : Sc (sc0 x0 x1 x2) 1024 1024 (sl.v213 (F := Ideal) c arg2 harg2 arg3 harg3 arg4 harg4 arg7 x0 x1 x2) :=
  sc_skip (by decide) (sc_skip (by decide) (sc_hit fun i k => s256 _ _ _ (load_k _ _ _ _) (load_r _ _ _ _) (load_q _ _ _ _) i k))

/-- The scores of the rows from 1280 against the keys from 1024, as loaded. -/
theorem l_v249 : Sc (sc0 x0 x1 x2) 1280 1024 (sl.v249 (F := Ideal) c arg2 harg2 arg3 harg3 arg4 harg4 arg7 x0 x1 x2) :=
  sc_skip (by decide) (sc_hit fun i k => s512 _ _ _ (load_k _ _ _ _) (load_r _ _ _ _) (load_q _ _ _ _) i k)

/-- The scores of the rows from 1536 against the keys from 0, as loaded. -/
theorem l_v306 : Sc (sc0 x0 x1 x2) 1536 0 (sl.v306 (F := Ideal) c arg2 harg2 arg3 harg3 arg4 harg4 arg7 x0 x1 x2) :=
  sc_skip (by decide) (sc_skip (by decide) (sc_hit fun i k => sfull _ _ _ (load_k _ _ _ _) (load_r _ _ _ _) (load_q _ _ _ _) i k))

/-- The scores of the rows from 1536 against the keys from 1024, as loaded. -/
theorem l_v337 : Sc (sc0 x0 x1 x2) 1536 1024 (sl.v337 (F := Ideal) c arg2 harg2 arg3 harg3 arg4 harg4 arg7 x0 x1 x2) :=
  sc_skip (by decide) (sc_skip (by decide) (sc_hit fun i k => s768 _ _ _ (load_k _ _ _ _) (load_r _ _ _ _) (load_q _ _ _ _) i k))

/-- The scores of the rows from 1792 against the keys from 1024, as loaded. -/
theorem l_v376 : Sc (sc0 x0 x1 x2) 1792 1024 (sl.v376 (F := Ideal) c arg2 harg2 arg3 harg3 arg4 harg4 arg7 x0 x1 x2) :=
  sc_skip (by decide) (sc_hit fun i k => s1024 _ _ _ (load_k _ _ _ _) (load_r _ _ _ _) (load_q _ _ _ _) i k)

/-- The scores of the rows from 2048 against the keys from 0, as loaded. -/
theorem l_v425 : Sc (sc0 x0 x1 x2) 2048 0 (sl.v425 (F := Ideal) c arg2 harg2 arg3 harg3 arg4 harg4 arg7 x0 x1 x2) :=
  sc_skip (by decide) (sc_hit fun i k => sfull _ _ _ (load_k _ _ _ _) (load_r _ _ _ _) (load_q _ _ _ _) i k)

/-- The scores of the rows from 2048 against the keys from 1024, as loaded. -/
theorem l_v463 : Sc (sc0 x0 x1 x2) 2048 1024 (sl.v463 (F := Ideal) c arg2 harg2 arg3 harg3 arg4 harg4 arg7 x0 x1 x2) :=
  sc_skip (by decide) (sc_skip (by decide) (sc_hit fun i k => sfull _ _ _ (load_k _ _ _ _) (load_r _ _ _ _) (load_q _ _ _ _) i k))

/-- The scores of the rows from 2048 against the keys from 2048, as loaded. -/
theorem l_v503 : Sc (sc0 x0 x1 x2) 2048 2048 (sl.v503 (F := Ideal) c arg2 harg2 arg3 harg3 arg4 harg4 arg7 x0 x1 x2) :=
  sc_skip (by decide) (sc_skip (by decide) (sc_hit fun i k => s256 _ _ _ (load_k _ _ _ _) (load_r _ _ _ _) (load_q _ _ _ _) i k))

/-- The scores of the rows from 2304 against the keys from 2048, as loaded. -/
theorem l_v539 : Sc (sc0 x0 x1 x2) 2304 2048 (sl.v539 (F := Ideal) c arg2 harg2 arg3 harg3 arg4 harg4 arg7 x0 x1 x2) :=
  sc_skip (by decide) (sc_hit fun i k => s512 _ _ _ (load_k _ _ _ _) (load_r _ _ _ _) (load_q _ _ _ _) i k)

/-- The scores of the rows from 2560 against the keys from 0, as loaded. -/
theorem l_v589 : Sc (sc0 x0 x1 x2) 2560 0 (sl.v589 (F := Ideal) c arg2 harg2 arg3 harg3 arg4 harg4 arg7 x0 x1 x2) :=
  sc_skip (by decide) (sc_hit fun i k => sfull _ _ _ (load_k _ _ _ _) (load_r _ _ _ _) (load_q _ _ _ _) i k)

/-- The scores of the rows from 2560 against the keys from 1024, as loaded. -/
theorem l_v627 : Sc (sc0 x0 x1 x2) 2560 1024 (sl.v627 (F := Ideal) c arg2 harg2 arg3 harg3 arg4 harg4 arg7 x0 x1 x2) :=
  sc_skip (by decide) (sc_skip (by decide) (sc_hit fun i k => sfull _ _ _ (load_k _ _ _ _) (load_r _ _ _ _) (load_q _ _ _ _) i k))

/-- The scores of the rows from 2560 against the keys from 2048, as loaded. -/
theorem l_v667 : Sc (sc0 x0 x1 x2) 2560 2048 (sl.v667 (F := Ideal) c arg2 harg2 arg3 harg3 arg4 harg4 arg7 x0 x1 x2) :=
  sc_skip (by decide) (sc_skip (by decide) (sc_hit fun i k => s768 _ _ _ (load_k _ _ _ _) (load_r _ _ _ _) (load_q _ _ _ _) i k))

/-- The scores of the rows from 2816 against the keys from 2048, as loaded. -/
theorem l_v706 : Sc (sc0 x0 x1 x2) 2816 2048 (sl.v706 (F := Ideal) c arg2 harg2 arg3 harg3 arg4 harg4 arg7 x0 x1 x2) :=
  sc_skip (by decide) (sc_hit fun i k => s1024 _ _ _ (load_k _ _ _ _) (load_r _ _ _ _) (load_q _ _ _ _) i k)

/-- The scores of the rows from 3072 against the keys from 0, as loaded. -/
theorem l_v755 : Sc (sc0 x0 x1 x2) 3072 0 (sl.v755 (F := Ideal) c arg2 harg2 arg3 harg3 arg4 harg4 arg7 x0 x1 x2) :=
  sc_skip (by decide) (sc_hit fun i k => sfull _ _ _ (load_k _ _ _ _) (load_r _ _ _ _) (load_q _ _ _ _) i k)

/-- The scores of the rows from 3072 against the keys from 1024, as loaded. -/
theorem l_v786 : Sc (sc0 x0 x1 x2) 3072 1024 (sl.v786 (F := Ideal) c arg2 harg2 arg3 harg3 arg4 harg4 arg7 x0 x1 x2) :=
  sc_skip (by decide) (sc_hit fun i k => sfull _ _ _ (load_k _ _ _ _) (load_r _ _ _ _) (load_q _ _ _ _) i k)

/-- The scores of the rows from 3072 against the keys from 2048, as loaded. -/
theorem l_v833 : Sc (sc0 x0 x1 x2) 3072 2048 (sl.v833 (F := Ideal) c arg2 harg2 arg3 harg3 arg4 harg4 arg7 x0 x1 x2) :=
  sc_skip (by decide) (sc_skip (by decide) (sc_hit fun i k => sfull _ _ _ (load_k _ _ _ _) (load_r _ _ _ _) (load_q _ _ _ _) i k))

/-- The scores of the rows from 3072 against the keys from 3072, as loaded. -/
theorem l_v873 : Sc (sc0 x0 x1 x2) 3072 3072 (sl.v873 (F := Ideal) c arg2 harg2 arg3 harg3 arg4 harg4 arg7 x0 x1 x2) :=
  sc_skip (by decide) (sc_skip (by decide) (sc_hit fun i k => s256 _ _ _ (load_k _ _ _ _) (load_r _ _ _ _) (load_q _ _ _ _) i k))

/-- The scores of the rows from 3328 against the keys from 3072, as loaded. -/
theorem l_v909 : Sc (sc0 x0 x1 x2) 3328 3072 (sl.v909 (F := Ideal) c arg2 harg2 arg3 harg3 arg4 harg4 arg7 x0 x1 x2) :=
  sc_skip (by decide) (sc_hit fun i k => s512 _ _ _ (load_k _ _ _ _) (load_r _ _ _ _) (load_q _ _ _ _) i k)

/-- The scores of the rows from 3584 against the keys from 0, as loaded. -/
theorem l_v959 : Sc (sc0 x0 x1 x2) 3584 0 (sl.v959 (F := Ideal) c arg2 harg2 arg3 harg3 arg4 harg4 arg7 x0 x1 x2) :=
  sc_skip (by decide) (sc_hit fun i k => sfull _ _ _ (load_k _ _ _ _) (load_r _ _ _ _) (load_q _ _ _ _) i k)

/-- The scores of the rows from 3584 against the keys from 1024, as loaded. -/
theorem l_v990 : Sc (sc0 x0 x1 x2) 3584 1024 (sl.v990 (F := Ideal) c arg2 harg2 arg3 harg3 arg4 harg4 arg7 x0 x1 x2) :=
  sc_skip (by decide) (sc_hit fun i k => sfull _ _ _ (load_k _ _ _ _) (load_r _ _ _ _) (load_q _ _ _ _) i k)

/-- The scores of the rows from 3584 against the keys from 2048, as loaded. -/
theorem l_v1037 : Sc (sc0 x0 x1 x2) 3584 2048 (sl.v1037 (F := Ideal) c arg2 harg2 arg3 harg3 arg4 harg4 arg7 x0 x1 x2) :=
  sc_skip (by decide) (sc_skip (by decide) (sc_hit fun i k => sfull _ _ _ (load_k _ _ _ _) (load_r _ _ _ _) (load_q _ _ _ _) i k))

/-- The scores of the rows from 3584 against the keys from 3072, as loaded. -/
theorem l_v1066 : Sc (sc0 x0 x1 x2) 3584 3072 (sl.v1066 (F := Ideal) c arg2 harg2 arg3 harg3 arg4 harg4 arg7 x0 x1 x2) :=
  sc_skip (by decide) (sc_hit fun i k => s768 _ _ _ (load_k _ _ _ _) (load_r _ _ _ _) (load_q _ _ _ _) i k)

/-- The scores of the rows from 3840 against the keys from 3072, as loaded. -/
theorem l_v1105 : Sc (sc0 x0 x1 x2) 3840 3072 (sl.v1105 (F := Ideal) c arg2 harg2 arg3 harg3 arg4 harg4 arg7 x0 x1 x2) :=
  sc_hit fun i k => s1024 _ _ _ (load_k _ _ _ _) (load_r _ _ _ _) (load_q _ _ _ _) i k

/-- The first block of values as loaded. -/
theorem load_v0 (a : Memref sig .tc .vmem S1x1x4096x128 .bf16) (h : a.IsWhole) (x : FVec Ideal S1x1x4096x128 .bf16) {n : ℕ}
    (inb : ∀ b, (![0, 0, 0, 0] : Fin 4 → ℕ) b + (![1, 1, n, 128] : Fin 4 → ℕ) b ≤ S1x1x4096x128.size b) (i : Fin n) (d : Fin 128) :
    (View.readAt (Elt Ideal) a.view (Rect.unit ![0, 0, 0, 0] ![1, 1, n, 128] inb).toLoadRect (h.unread x) (show (Rect.unit (s := S1x1x4096x128) ![0, 0, 0, 0] ![1, 1, n, 128] inb).toLoadRect.shape.Idx from ix4 (0 : Fin 1) (0 : Fin 1) i d) : EReal)
      = vf x i d := by
  rw [load_v, zero_add]

variable (hS : ∀ r, Ok (cut (sc0 x0 x1 x2) r))

/-- The rows from 1024 after 1024 keys, as loaded. -/
theorem g_v222 : Good (sc0 x0 x1 x2) (vf x3) 1024 1024 (sl.v222 (F := Ideal) c arg2 harg2 arg3 harg3 arg4 harg4 arg7 arg8 x0 x1 x2)
    (sl.v238 (F := Ideal) c arg2 harg2 arg3 harg3 arg4 harg4 arg5 harg5 arg7 arg9 x0 x1 x2 x3) :=
  good_load (r0 := 1024) 0 (first512 (by omega) _ ones _ (l_v182 c arg2 harg2 arg3 harg3 arg4 harg4 arg7 x0 x1 x2).zero _ (load_v0 _ _ _ _))

/-- The rows from 1280 after 1024 keys, as loaded. -/
theorem g_v261 : Good (sc0 x0 x1 x2) (vf x3) 1280 1024 (sl.v261 (F := Ideal) c arg2 harg2 arg3 harg3 arg4 harg4 arg7 arg8 x0 x1 x2)
    (sl.v277 (F := Ideal) c arg2 harg2 arg3 harg3 arg4 harg4 arg5 harg5 arg7 arg9 x0 x1 x2 x3) :=
  good_load (r0 := 1024) 256 (first512 (by omega) _ ones _ (l_v182 c arg2 harg2 arg3 harg3 arg4 harg4 arg7 x0 x1 x2).zero _ (load_v0 _ _ _ _))

/-- The rows from 1536 after 1024 keys, as loaded. -/
theorem g_v349 : Good (sc0 x0 x1 x2) (vf x3) 1536 1024 (sl.v349 (F := Ideal) c arg2 harg2 arg3 harg3 arg4 harg4 arg7 arg8 x0 x1 x2)
    (sl.v365 (F := Ideal) c arg2 harg2 arg3 harg3 arg4 harg4 arg5 harg5 arg7 arg9 x0 x1 x2 x3) :=
  good_load (r0 := 1536) 0 (first512 (by omega) _ ones _ (l_v306 c arg2 harg2 arg3 harg3 arg4 harg4 arg7 x0 x1 x2).zero _ (load_v0 _ _ _ _))

/-- The rows from 1792 after 1024 keys, as loaded. -/
theorem g_v388 : Good (sc0 x0 x1 x2) (vf x3) 1792 1024 (sl.v388 (F := Ideal) c arg2 harg2 arg3 harg3 arg4 harg4 arg7 arg8 x0 x1 x2)
    (sl.v403 (F := Ideal) c arg2 harg2 arg3 harg3 arg4 harg4 arg5 harg5 arg7 arg9 x0 x1 x2 x3) :=
  good_load (r0 := 1536) 256 (first512 (by omega) _ ones _ (l_v306 c arg2 harg2 arg3 harg3 arg4 harg4 arg7 x0 x1 x2).zero _ (load_v0 _ _ _ _))

/-- The rows from 2048 after 1024 keys, as loaded. -/
theorem g_v467 : Good (sc0 x0 x1 x2) (vf x3) 2048 1024 (sl.v467 (F := Ideal) c arg2 harg2 arg3 harg3 arg4 harg4 arg7 arg8 x0 x1 x2)
    (sl.v482 (F := Ideal) c arg2 harg2 arg3 harg3 arg4 harg4 arg5 harg5 arg7 arg9 x0 x1 x2 x3) :=
  good_load (r0 := 2048) 0 (first512 (by omega) _ ones _ (l_v425 c arg2 harg2 arg3 harg3 arg4 harg4 arg7 x0 x1 x2).zero _ (load_v0 _ _ _ _))
include hS in
/-- The rows from 2048 after 2048 keys, as loaded. -/
theorem g_v512 : Good (sc0 x0 x1 x2) (vf x3) 2048 2048 (sl.v512 (F := Ideal) c arg2 harg2 arg3 harg3 arg4 harg4 arg7 arg8 x0 x1 x2)
    (sl.v528 (F := Ideal) c arg2 harg2 arg3 harg3 arg4 harg4 arg5 harg5 arg7 arg8 arg9 x0 x1 x2 x3) :=
  good_load (r0 := 2048) 0 (mid512 hS (n := 1024) (by omega) (by omega) _ ones _ (l_v463 c arg2 harg2 arg3 harg3 arg4 harg4 arg7 x0 x1 x2) _ (load_v _ _ _ _) _ _ (g_v467 c arg2 harg2 arg3 harg3 arg4 harg4 arg5 harg5 arg7 arg8 arg9 x0 x1 x2 x3))
include hS in
/-- The rows from 2304 after 2048 keys, as loaded. -/
theorem g_v551 : Good (sc0 x0 x1 x2) (vf x3) 2304 2048 (sl.v551 (F := Ideal) c arg2 harg2 arg3 harg3 arg4 harg4 arg7 arg8 x0 x1 x2)
    (sl.v567 (F := Ideal) c arg2 harg2 arg3 harg3 arg4 harg4 arg5 harg5 arg7 arg8 arg9 x0 x1 x2 x3) :=
  good_load (r0 := 2048) 256 (mid512 hS (n := 1024) (by omega) (by omega) _ ones _ (l_v463 c arg2 harg2 arg3 harg3 arg4 harg4 arg7 x0 x1 x2) _ (load_v _ _ _ _) _ _ (g_v467 c arg2 harg2 arg3 harg3 arg4 harg4 arg5 harg5 arg7 arg8 arg9 x0 x1 x2 x3))

/-- The rows from 2560 after 1024 keys, as loaded. -/
theorem g_v631 : Good (sc0 x0 x1 x2) (vf x3) 2560 1024 (sl.v631 (F := Ideal) c arg2 harg2 arg3 harg3 arg4 harg4 arg7 arg8 x0 x1 x2)
    (sl.v646 (F := Ideal) c arg2 harg2 arg3 harg3 arg4 harg4 arg5 harg5 arg7 arg8 arg9 x0 x1 x2 x3) :=
  good_load (r0 := 2560) 0 (first512 (by omega) _ ones _ (l_v589 c arg2 harg2 arg3 harg3 arg4 harg4 arg7 x0 x1 x2).zero _ (load_v0 _ _ _ _))
include hS in
/-- The rows from 2560 after 2048 keys, as loaded. -/
theorem g_v679 : Good (sc0 x0 x1 x2) (vf x3) 2560 2048 (sl.v679 (F := Ideal) c arg2 harg2 arg3 harg3 arg4 harg4 arg7 arg8 x0 x1 x2)
    (sl.v695 (F := Ideal) c arg2 harg2 arg3 harg3 arg4 harg4 arg5 harg5 arg7 arg8 arg9 x0 x1 x2 x3) :=
  good_load (r0 := 2560) 0 (mid512 hS (n := 1024) (by omega) (by omega) _ ones _ (l_v627 c arg2 harg2 arg3 harg3 arg4 harg4 arg7 x0 x1 x2) _ (load_v _ _ _ _) _ _ (g_v631 c arg2 harg2 arg3 harg3 arg4 harg4 arg5 harg5 arg7 arg8 arg9 x0 x1 x2 x3))
include hS in
/-- The rows from 2816 after 2048 keys, as loaded. -/
theorem g_v718 : Good (sc0 x0 x1 x2) (vf x3) 2816 2048 (sl.v718 (F := Ideal) c arg2 harg2 arg3 harg3 arg4 harg4 arg7 arg8 x0 x1 x2)
    (sl.v733 (F := Ideal) c arg2 harg2 arg3 harg3 arg4 harg4 arg5 harg5 arg7 arg8 arg9 x0 x1 x2 x3) :=
  good_load (r0 := 2560) 256 (mid512 hS (n := 1024) (by omega) (by omega) _ ones _ (l_v627 c arg2 harg2 arg3 harg3 arg4 harg4 arg7 x0 x1 x2) _ (load_v _ _ _ _) _ _ (g_v631 c arg2 harg2 arg3 harg3 arg4 harg4 arg5 harg5 arg7 arg8 arg9 x0 x1 x2 x3))

/-- The rows from 3072 after 1024 keys, as loaded. -/
theorem g_v790 : Good (sc0 x0 x1 x2) (vf x3) 3072 1024 (sl.v790 (F := Ideal) c arg2 harg2 arg3 harg3 arg4 harg4 arg7 arg8 x0 x1 x2)
    (sl.v805 (F := Ideal) c arg2 harg2 arg3 harg3 arg4 harg4 arg5 harg5 arg7 arg8 arg9 x0 x1 x2 x3) :=
  good_load (r0 := 3072) 0 (first512 (by omega) _ ones _ (l_v755 c arg2 harg2 arg3 harg3 arg4 harg4 arg7 x0 x1 x2).zero _ (load_v0 _ _ _ _))
include hS in
/-- The rows from 3072 after 2048 keys, as loaded. -/
theorem g_v837 : Good (sc0 x0 x1 x2) (vf x3) 3072 2048 (sl.v837 (F := Ideal) c arg2 harg2 arg3 harg3 arg4 harg4 arg7 arg8 x0 x1 x2)
    (sl.v852 (F := Ideal) c arg2 harg2 arg3 harg3 arg4 harg4 arg5 harg5 arg7 arg8 arg9 x0 x1 x2 x3) :=
  good_load (r0 := 3072) 0 (mid512 hS (n := 1024) (by omega) (by omega) _ ones _ (l_v786 c arg2 harg2 arg3 harg3 arg4 harg4 arg7 x0 x1 x2) _ (load_v _ _ _ _) _ _ (g_v790 c arg2 harg2 arg3 harg3 arg4 harg4 arg5 harg5 arg7 arg8 arg9 x0 x1 x2 x3))
include hS in
/-- The rows from 3072 after 3072 keys, as loaded. -/
theorem g_v882 : Good (sc0 x0 x1 x2) (vf x3) 3072 3072 (sl.v882 (F := Ideal) c arg2 harg2 arg3 harg3 arg4 harg4 arg7 arg8 x0 x1 x2)
    (sl.v898 (F := Ideal) c arg2 harg2 arg3 harg3 arg4 harg4 arg5 harg5 arg7 arg8 arg9 x0 x1 x2 x3) :=
  good_load (r0 := 3072) 0 (mid512 hS (n := 2048) (by omega) (by omega) _ ones _ (l_v833 c arg2 harg2 arg3 harg3 arg4 harg4 arg7 x0 x1 x2) _ (load_v _ _ _ _) _ _ (g_v837 c arg2 harg2 arg3 harg3 arg4 harg4 arg5 harg5 arg7 arg8 arg9 x0 x1 x2 x3 hS))
include hS in
/-- The rows from 3328 after 3072 keys, as loaded. -/
theorem g_v921 : Good (sc0 x0 x1 x2) (vf x3) 3328 3072 (sl.v921 (F := Ideal) c arg2 harg2 arg3 harg3 arg4 harg4 arg7 arg8 x0 x1 x2)
    (sl.v937 (F := Ideal) c arg2 harg2 arg3 harg3 arg4 harg4 arg5 harg5 arg7 arg8 arg9 x0 x1 x2 x3) :=
  good_load (r0 := 3072) 256 (mid512 hS (n := 2048) (by omega) (by omega) _ ones _ (l_v833 c arg2 harg2 arg3 harg3 arg4 harg4 arg7 x0 x1 x2) _ (load_v _ _ _ _) _ _ (g_v837 c arg2 harg2 arg3 harg3 arg4 harg4 arg5 harg5 arg7 arg8 arg9 x0 x1 x2 x3 hS))

/-- The rows from 3584 after 1024 keys, as loaded. -/
theorem g_v994 : Good (sc0 x0 x1 x2) (vf x3) 3584 1024 (sl.v994 (F := Ideal) c arg2 harg2 arg3 harg3 arg4 harg4 arg7 arg8 x0 x1 x2)
    (sl.v1009 (F := Ideal) c arg2 harg2 arg3 harg3 arg4 harg4 arg5 harg5 arg7 arg8 arg9 x0 x1 x2 x3) :=
  good_load (r0 := 3584) 0 (first512 (by omega) _ ones _ (l_v959 c arg2 harg2 arg3 harg3 arg4 harg4 arg7 x0 x1 x2).zero _ (load_v0 _ _ _ _))
include hS in
/-- The rows from 3584 after 2048 keys, as loaded. -/
theorem g_v1041 : Good (sc0 x0 x1 x2) (vf x3) 3584 2048 (sl.v1041 (F := Ideal) c arg2 harg2 arg3 harg3 arg4 harg4 arg7 arg8 x0 x1 x2)
    (sl.v1056 (F := Ideal) c arg2 harg2 arg3 harg3 arg4 harg4 arg5 harg5 arg7 arg8 arg9 x0 x1 x2 x3) :=
  good_load (r0 := 3584) 0 (mid512 hS (n := 1024) (by omega) (by omega) _ ones _ (l_v990 c arg2 harg2 arg3 harg3 arg4 harg4 arg7 x0 x1 x2) _ (load_v _ _ _ _) _ _ (g_v994 c arg2 harg2 arg3 harg3 arg4 harg4 arg5 harg5 arg7 arg8 arg9 x0 x1 x2 x3))
include hS in
/-- The rows from 3584 after 3072 keys, as loaded. -/
theorem g_v1078 : Good (sc0 x0 x1 x2) (vf x3) 3584 3072 (sl.v1078 (F := Ideal) c arg2 harg2 arg3 harg3 arg4 harg4 arg7 arg8 x0 x1 x2)
    (sl.v1094 (F := Ideal) c arg2 harg2 arg3 harg3 arg4 harg4 arg5 harg5 arg7 arg8 arg9 x0 x1 x2 x3) :=
  good_load (r0 := 3584) 0 (mid512 hS (n := 2048) (by omega) (by omega) _ ones _ (l_v1037 c arg2 harg2 arg3 harg3 arg4 harg4 arg7 x0 x1 x2) _ (load_v _ _ _ _) _ _ (g_v1041 c arg2 harg2 arg3 harg3 arg4 harg4 arg5 harg5 arg7 arg8 arg9 x0 x1 x2 x3 hS))
include hS in
/-- The rows from 3840 after 3072 keys, as loaded. -/
theorem g_v1117 : Good (sc0 x0 x1 x2) (vf x3) 3840 3072 (sl.v1117 (F := Ideal) c arg2 harg2 arg3 harg3 arg4 harg4 arg7 arg8 x0 x1 x2)
    (sl.v1132 (F := Ideal) c arg2 harg2 arg3 harg3 arg4 harg4 arg5 harg5 arg7 arg8 arg9 x0 x1 x2 x3) :=
  good_load (r0 := 3584) 256 (mid512 hS (n := 2048) (by omega) (by omega) _ ones _ (l_v1037 c arg2 harg2 arg3 harg3 arg4 harg4 arg7 x0 x1 x2) _ (load_v _ _ _ _) _ _ (g_v1041 c arg2 harg2 arg3 harg3 arg4 harg4 arg5 harg5 arg7 arg8 arg9 x0 x1 x2 x3 hS))

include hS in
/-- Every stored piece of the output block is the causal softmax's weighted mean of the values. -/
theorem pieces (i : grid0.Coords) (arg6 : Memref sig .tc .vmem S1x4096x128 .bf16) (harg6 : arg6.IsWhole) (harg7 : arg7.IsWhole) (harg8 : arg8.IsWhole) (harg9 : arg9.IsWhole) :
    View.PiecesOf (G (sc0 x0 x1 x2) (vf x3)) (kernelRun0_A (F := Ideal) c i arg2 harg2 arg3 harg3 arg4 harg4 arg5 harg5 arg6 harg6 arg7 harg7 arg8 harg8 arg9 harg9 x0 x1 x2 x3).1 :=
  ⟨piece (by decide) (last1024 hS (n := 3072) (r0 := 3840) (by omega) (by omega) (by omega) _ ones _ (l_v1105 c arg2 harg2 arg3 harg3 arg4 harg4 arg7 x0 x1 x2) _ (load_v _ _ _ _) _ _ (g_v1117 c arg2 harg2 arg3 harg3 arg4 harg4 arg5 harg5 arg7 arg8 arg9 x0 x1 x2 x3 hS)),
    piece (by decide) (last768 hS (n := 3072) (r0 := 3584) (by omega) (by omega) (by omega) _ ones _ (l_v1066 c arg2 harg2 arg3 harg3 arg4 harg4 arg7 x0 x1 x2) _ (load_v _ _ _ _) _ _ (g_v1078 c arg2 harg2 arg3 harg3 arg4 harg4 arg5 harg5 arg7 arg8 arg9 x0 x1 x2 x3 hS)),
    piece (by decide) (last512 hS (n := 3072) (r0 := 3328) (by omega) (by omega) (by omega) _ ones _ (l_v909 c arg2 harg2 arg3 harg3 arg4 harg4 arg7 x0 x1 x2) _ (load_v _ _ _ _) _ _ (g_v921 c arg2 harg2 arg3 harg3 arg4 harg4 arg5 harg5 arg7 arg8 arg9 x0 x1 x2 x3 hS)),
    piece (by decide) (last256 hS (n := 3072) (r0 := 3072) (by omega) (by omega) (by omega) _ ones _ (l_v873 c arg2 harg2 arg3 harg3 arg4 harg4 arg7 x0 x1 x2) _ (load_v _ _ _ _) _ _ (g_v882 c arg2 harg2 arg3 harg3 arg4 harg4 arg5 harg5 arg7 arg8 arg9 x0 x1 x2 x3 hS)),
    piece (by decide) (last1024 hS (n := 2048) (r0 := 2816) (by omega) (by omega) (by omega) _ ones _ (l_v706 c arg2 harg2 arg3 harg3 arg4 harg4 arg7 x0 x1 x2) _ (load_v _ _ _ _) _ _ (g_v718 c arg2 harg2 arg3 harg3 arg4 harg4 arg5 harg5 arg7 arg8 arg9 x0 x1 x2 x3 hS)),
    piece (by decide) (last768 hS (n := 2048) (r0 := 2560) (by omega) (by omega) (by omega) _ ones _ (l_v667 c arg2 harg2 arg3 harg3 arg4 harg4 arg7 x0 x1 x2) _ (load_v _ _ _ _) _ _ (g_v679 c arg2 harg2 arg3 harg3 arg4 harg4 arg5 harg5 arg7 arg8 arg9 x0 x1 x2 x3 hS)),
    piece (by decide) (last512 hS (n := 2048) (r0 := 2304) (by omega) (by omega) (by omega) _ ones _ (l_v539 c arg2 harg2 arg3 harg3 arg4 harg4 arg7 x0 x1 x2) _ (load_v _ _ _ _) _ _ (g_v551 c arg2 harg2 arg3 harg3 arg4 harg4 arg5 harg5 arg7 arg8 arg9 x0 x1 x2 x3 hS)),
    piece (by decide) (last256 hS (n := 2048) (r0 := 2048) (by omega) (by omega) (by omega) _ ones _ (l_v503 c arg2 harg2 arg3 harg3 arg4 harg4 arg7 x0 x1 x2) _ (load_v _ _ _ _) _ _ (g_v512 c arg2 harg2 arg3 harg3 arg4 harg4 arg5 harg5 arg7 arg8 arg9 x0 x1 x2 x3 hS)),
    piece (by decide) (last1024 hS (n := 1024) (r0 := 1792) (by omega) (by omega) (by omega) _ ones _ (l_v376 c arg2 harg2 arg3 harg3 arg4 harg4 arg7 x0 x1 x2) _ (load_v _ _ _ _) _ _ (g_v388 c arg2 harg2 arg3 harg3 arg4 harg4 arg5 harg5 arg7 arg8 arg9 x0 x1 x2 x3)),
    piece (by decide) (last768 hS (n := 1024) (r0 := 1536) (by omega) (by omega) (by omega) _ ones _ (l_v337 c arg2 harg2 arg3 harg3 arg4 harg4 arg7 x0 x1 x2) _ (load_v _ _ _ _) _ _ (g_v349 c arg2 harg2 arg3 harg3 arg4 harg4 arg5 harg5 arg7 arg8 arg9 x0 x1 x2 x3)),
    piece (by decide) (last512 hS (n := 1024) (r0 := 1280) (by omega) (by omega) (by omega) _ ones _ (l_v249 c arg2 harg2 arg3 harg3 arg4 harg4 arg7 x0 x1 x2) _ (load_v _ _ _ _) _ _ (g_v261 c arg2 harg2 arg3 harg3 arg4 harg4 arg5 harg5 arg7 arg8 arg9 x0 x1 x2 x3)),
    piece (by decide) (last256 hS (n := 1024) (r0 := 1024) (by omega) (by omega) (by omega) _ ones _ (l_v213 c arg2 harg2 arg3 harg3 arg4 harg4 arg7 x0 x1 x2) _ (load_v _ _ _ _) _ _ (g_v222 c arg2 harg2 arg3 harg3 arg4 harg4 arg5 harg5 arg7 arg8 arg9 x0 x1 x2 x3)),
    piece (by decide) (only1024 hS (r0 := 768) (by omega) _ ones _ (l_v135 c arg2 harg2 arg3 harg3 arg4 harg4 arg7 x0 x1 x2).zero _ (load_v0 _ _ _ _)),
    piece (by decide) (only768 hS (r0 := 512) (by omega) _ ones _ (l_v105 c arg2 harg2 arg3 harg3 arg4 harg4 arg7 x0 x1 x2).zero _ (load_v0 _ _ _ _)),
    piece (by decide) (only512 hS (r0 := 256) (by omega) _ ones _ (l_v64 c arg2 harg2 arg3 harg3 arg4 harg4 arg7 x0 x1 x2).zero _ (load_v0 _ _ _ _)),
    piece (by decide) (only256 hS (r0 := 0) (by omega) _ ones _ (l_v37 c arg2 harg2 arg3 harg3 arg4 harg4 arg7 x0 x1 x2).zero _ (load_v0 _ _ _ _)), trivial⟩

include hS in
/-- The output block a grid point leaves. -/
theorem out_block (i : grid0.Coords) (arg6 : Memref sig .tc .vmem S1x4096x128 .bf16) (harg6 : arg6.IsWhole) (harg7 : arg7.IsWhole) (harg8 : arg8.IsWhole) (harg9 : arg9.IsWhole)
    (y : S1x4096x128.Idx) : out0_A_4 (F := Ideal) c i arg2 harg2 arg3 harg3 arg4 harg4 arg5 harg5 arg6 harg6 arg7 harg7 arg8 harg8 arg9 harg9 x0 x1 x2 x3 y = G (sc0 x0 x1 x2) (vf x3) y := by
  have hp := pieces c arg2 harg2 arg3 harg3 arg4 harg4 arg5 harg5 arg7 arg8 arg9 x0 x1 x2 x3 hS i arg6 harg6 harg7 harg8 harg9
  have hc := cover0_A_4 (F := Ideal) c i arg2 harg2 arg3 harg3 arg4 harg4 arg5 harg5 arg6 harg6 arg7 harg7 arg8 harg8 arg9 harg9 x0 x1 x2 x3 y
  unfold out0_A_4
  generalize (kernelRun0_A (F := Ideal) c i arg2 harg2 arg3 harg3 arg4 harg4 arg5 harg5 arg6 harg6 arg7 harg7 arg8 harg8 arg9 harg9 x0 x1 x2 x3).1 = L at hp hc ⊢
  rw [View.read_writes_junk_eq_canon]
  have h := View.canon_append_of_piecesOf (G (sc0 x0 x1 x2) (vf x3)) [] L hp y hc
  rwa [List.append_nil] at h

end Cert.KernelIdeal.Attn
-- ==== Proof.Result.lean ====
/- The attention kernel's result array: at every batch row, position and head column the causal softmax's weighted mean
   of the values, from the argument arrays. -/
module

public import proofs.«01_k».proof.Proof.Blocks
public import Idealize.ShloMosaic.Lib.Pipeline.ValueKit

@[expose] public section

set_option maxRecDepth 16384

noncomputable section

namespace Cert.KernelIdeal.Attn

open Idealize.ShloMosaic Idealize.ShloMosaic.TcCoe Idealize.SL.Sem
open Idealize.ShloMosaic.Pipeline (Dat)
open Cert.KernelIdeal Cert.KernelIdeal.Gen Att

/-- A real number. -/
def Re (x : EReal) : Prop := ∃ r : ℝ, x = r

theorem Re.mul {x y : EReal} (hx : Re x) (hy : Re y) : Re (x * y) := by
  obtain ⟨a, rfl⟩ := hx
  obtain ⟨b, rfl⟩ := hy
  exact ⟨a * b, (EReal.coe_mul a b).symm⟩

theorem Re.add {x y : EReal} (hx : Re x) (hy : Re y) : Re (x + y) := by
  obtain ⟨a, rfl⟩ := hx
  obtain ⟨b, rfl⟩ := hy
  exact ⟨a + b, (EReal.coe_add a b).symm⟩

theorem Re.sum {ι : Type*} (s : Finset ι) {f : ι → EReal} (h : ∀ i, Re (f i)) : Re (∑ i ∈ s, f i) := by
  classical
  induction s using Finset.induction_on with
  | empty => exact ⟨0, by simp⟩
  | insert a s ha ih => rw [Finset.sum_insert ha]; exact (h a).add ih

/-- The score of finite queries and keys is finite. -/
theorem score_real {Q : ℕ → Fin 256 → EReal} {N R : ℕ → Fin 128 → EReal} (hQ : ∀ r d, Re (Q r d)) (hN : ∀ k d, Re (N k d)) (hR : ∀ k d, Re (R k d))
    (r k : ℕ) : Re (score Q N R r k) :=
  (Re.sum _ fun d => (hQ _ _).mul (hN _ _)).add (Re.sum _ fun d => (hQ _ _).mul (hR _ _))

variable (q : FVec Ideal S8x8x4096x256 .bf16) (kn v : FVec Ideal S8x8x4096x128 .bf16) (kr : FVec Ideal S8x4096x128 .bf16)

/-- The scores of batch row `b` and head `h`. -/
def scores (b h : Fin 8) : ℕ → ℕ → EReal :=
  score (fun r d => q (ix4 b h (Fin.ofNat 4096 r) d)) (fun k d => kn (ix4 b h (Fin.ofNat 4096 k) d)) (fun k d => kr (ix3 b (Fin.ofNat 4096 k) d))

/-- The causal attention at a batch row, a position and a column of the heads side by side. -/
def attC (b : Fin 8) (s : Fin 4096) (col : Fin 1024) : EReal :=
  att (scores q kn kr b ⟨col / 128, by omega⟩) (fun k => v (ix4 b ⟨col / 128, by omega⟩ (Fin.ofNat 4096 k) (Fin.ofNat 128 col))) s

/-- The same, as an array. -/
def attF (y : S8x4096x1024.Idx) : EReal := attC q kn v kr (y 0) (y 1) (y 2)

/-- Queries and keys are real numbers. -/
def Real3 : Prop := (∀ i, Re (q i)) ∧ (∀ i, Re (kn i)) ∧ ∀ i, Re (kr i)

variable (m : (ℓ : Loc nD τ sig) → Buf (Elt Ideal) ℓ)

/-- The blocks of a grid point: its batch row and its head. -/
theorem idx : ∀ t : Fin cfg0.N, win0_0.index t = ![t.val / 8, t.val % 8, 0, 0] ∧ win0_1.index t = ![t.val / 8, t.val % 8, 0, 0] ∧ win0_2.index t = ![t.val / 8, 0, 0]
    ∧ win0_3.index t = ![t.val / 8, t.val % 8, 0, 0] ∧ win0_4.index t = ![t.val / 8, 0, t.val % 8] :=
  (by decide +kernel : ∀ t : Fin grid0.N, _)

theorem lt64 (t : Fin cfg0.N) : t.val < 64 := t.isLt.trans_eq (by decide +kernel)

variable (c : Dev nD) (t : Fin cfg0.N)

/-- The query block of a grid point. -/
theorem blk0 (r : Fin 4096) (d : Fin 256) : iblk m c 0 t (ix4 0 0 r d)
    = m ((c : Thread nD τ).loc main_arg0) (ix4 (⟨t.val / 8, by have := lt64 t; omega⟩ : Fin 8) (⟨t.val % 8, by omega⟩ : Fin 8) r d) := by
  blk_ext [iblk, V, idx t]

/-- The key block of a grid point. -/
theorem blk1 (r : Fin 4096) (d : Fin 128) : iblk m c 1 t (ix4 0 0 r d)
    = m ((c : Thread nD τ).loc main_arg1) (ix4 (⟨t.val / 8, by have := lt64 t; omega⟩ : Fin 8) (⟨t.val % 8, by omega⟩ : Fin 8) r d) := by
  blk_ext [iblk, V, idx t]

/-- The rotary key block of a grid point. -/
theorem blk2 (r : Fin 4096) (d : Fin 128) : iblk m c 2 t (ix3 0 r d)
    = m ((c : Thread nD τ).loc main_arg2) (ix3 (⟨t.val / 8, by have := lt64 t; omega⟩ : Fin 8) r d) := by
  blk_ext [iblk, V, idx t]

/-- The value block of a grid point. -/
theorem blk3 (r : Fin 4096) (d : Fin 128) : iblk m c 3 t (ix4 0 0 r d)
    = m ((c : Thread nD τ).loc main_arg3) (ix4 (⟨t.val / 8, by have := lt64 t; omega⟩ : Fin 8) (⟨t.val % 8, by omega⟩ : Fin 8) r d) := by
  blk_ext [iblk, V, idx t]

/-- What a grid point writes back is its block of the attention. -/
theorem point (hR : Real3 (m ((c : Thread nD τ).loc main_arg0)) (m ((c : Thread nD τ).loc main_arg1)) (m ((c : Thread nD τ).loc main_arg2))) (y : S1x4096x128.Idx) :
    outsAt0 m c t y = attF (m ((c : Thread nD τ).loc main_arg0)) (m ((c : Thread nD τ).loc main_arg1)) (m ((c : Thread nD τ).loc main_arg3))
      (m ((c : Thread nD τ).loc main_arg2)) (((cfg0.win 4).blk t).view.emb y) := by
  have hq : ∀ r d, qf (iblk m c 0 t) r d = _ := fun r d => blk0 m c t (Fin.ofNat 4096 r) d
  have hk : ∀ r d, kf (iblk m c 1 t) r d = _ := fun r d => blk1 m c t (Fin.ofNat 4096 r) d
  have hr : ∀ r d, rf (iblk m c 2 t) r d = _ := fun r d => blk2 m c t (Fin.ofNat 4096 r) d
  have hv : ∀ k d, vf (iblk m c 3 t) k d = _ := fun k d => blk3 m c t (Fin.ofNat 4096 k) (Fin.ofNat 128 d)
  have hS : ∀ r, Ok (cut (sc0 (iblk m c 0 t) (iblk m c 1 t) (iblk m c 2 t)) r) :=
    ok_cut (score_real (fun r d => by rw [hq]; exact hR.1 _) (fun r d => by rw [hk]; exact hR.2.1 _) (fun r d => by rw [hr]; exact hR.2.2 _))
  unfold outsAt0
  rw [out_block (hS := hS)]
  have e0 : ((((cfg0.win 4).blk t).view.emb y 0 : Fin 8) : ℕ) = t.val / 8 := by blk_simp [idx t]
  have e1 : ((((cfg0.win 4).blk t).view.emb y 1 : Fin 4096) : ℕ) = (y 1 : Fin 4096) := by blk_simp [idx t]
  have e2 : ((((cfg0.win 4).blk t).view.emb y 2 : Fin 1024) : ℕ) = t.val % 8 * 128 + (y 2 : Fin 128) := by blk_simp [idx t]
  have ht := lt64 t
  have hy : ((y 2 : Fin 128) : ℕ) < 128 := (y 2 : Fin 128).isLt
  have hlt : t.val % 8 * 128 + (y 2 : Fin 128) < 1024 := by omega
  have z0 : (((cfg0.win 4).blk t).view.emb y 0 : Fin 8) = ⟨t.val / 8, by omega⟩ := Fin.ext e0
  have z1 : (((cfg0.win 4).blk t).view.emb y 1 : Fin 4096) = (y 1 : Fin 4096) := Fin.ext e1
  have z2 : (((cfg0.win 4).blk t).view.emb y 2 : Fin 1024) = ⟨t.val % 8 * 128 + (y 2 : Fin 128), hlt⟩ := Fin.ext e2
  have hh : (⟨(t.val % 8 * 128 + (y 2 : Fin 128)) / 128, by omega⟩ : Fin 8) = ⟨t.val % 8, by omega⟩ := Fin.ext (by simp only; omega)
  have hc : Fin.ofNat 128 (t.val % 8 * 128 + (y 2 : Fin 128)) = Fin.ofNat 128 (y 2 : Fin 128) := Fin.ext (by simp only [Fin.ofNat]; omega)
  show _ = attC _ _ _ _ _ _ _
  rw [z0, z1, z2]
  show att _ _ _ = att _ _ _
  simp only [hh, hc]
  congr 1
  · funext r k
    simp only [sc0, score, scores, hq, hk, hr]
    rfl
  · funext k
    exact hv k _

/-- The result array after the run. -/
theorem final (hR : Real3 (m ((c : Thread nD τ).loc main_arg0)) (m ((c : Thread nD τ).loc main_arg1)) (m ((c : Thread nD τ).loc main_arg2))) :
    (dats m 0 c).arrAt 4 cfg0.N = attF (m ((c : Thread nD τ).loc main_arg0)) (m ((c : Thread nD τ).loc main_arg1)) (m ((c : Thread nD τ).loc main_arg3))
      (m ((c : Thread nD τ).loc main_arg2)) := by
  refine (dats m 0 c).arrAt_eq_of_covers 4 _ (by decide +kernel) fun t hf y => ?_
  blk_simp
  rw [after0_4]
  exact point m c t hR y

end Cert.KernelIdeal.Attn
-- ==== Proof.Softmax.lean ====
/- The softmax of a causally cut row, written with the natural exponential and normalised before the values are
   summed, is the attention of `Model`, which uses powers of two and normalises last. -/
module

public import proofs.«01_k».proof.Proof.Model

@[expose] public section

noncomputable section

namespace Att

open Idealize.ShloMosaic Finset

/-- The natural logarithm of two. -/
def ln2 : ℝ := Real.log 2

theorem ln2_pos : 0 < ln2 := Real.log_pos one_lt_two

/-- The natural exponential of a difference of scores scaled by `ln 2` is the power of two of the difference. -/
theorem exp_ln2 (a : EReal) (M : ℝ) (ha : a ≠ ⊤) :
    Ideal.exp (a * (ln2 : ℝ) - (M : EReal) * (ln2 : ℝ)) = Ideal.exp2 (a - M) := by
  induction a with
  | bot => rw [EReal.bot_mul_coe_of_pos ln2_pos, EReal.bot_sub, EReal.bot_sub]; rfl
  | top => exact absurd rfl ha
  | coe a =>
    rw [← EReal.coe_mul, ← EReal.coe_mul, ← EReal.coe_sub, ← EReal.coe_sub, exp2_coe]
    show ((Real.exp (a * ln2 - M * ln2) : ℝ) : EReal) = _
    rw [Real.rpow_def_of_pos two_pos, ln2]
    congr 2; ring

/-- Scaling every score by `ln 2` scales the largest. -/
theorem sup_mul_ln2 {N : ℕ} (f : Fin N → EReal) :
    (Finset.univ.sup fun k => f k * (ln2 : ℝ)) = Finset.univ.sup f * (ln2 : ℝ) := by
  have hm : Monotone fun x : EReal => x * (ln2 : ℝ) := fun a b h => mul_le_mul_of_nonneg_right h (EReal.coe_nonneg.2 ln2_pos.le)
  exact (Finset.comp_sup_eq_sup_comp (fun x : EReal => x * (ln2 : ℝ)) (fun a b => hm.map_sup a b) (EReal.bot_mul_coe_of_pos ln2_pos)).symm

/-- A sum of real numbers, taken among the extended reals. -/
theorem coe_sum {ι : Type} (t : Finset ι) (p : ι → ℝ) : ((∑ k ∈ t, p k : ℝ) : EReal) = ∑ k ∈ t, (p k : EReal) := by
  classical
  induction t using Finset.induction_on with
  | empty => rfl
  | insert a t ha ih => rw [sum_insert ha, sum_insert ha, EReal.coe_add, ih]

/-- The sum of a row's weights is a positive real number. -/
theorem total_pos {s : ℕ → EReal} (h : Ok s) {n : ℕ} (hn : 0 < n) :
    ∃ l : ℝ, 0 < l ∧ rowA s (fun _ => 1) n = l := by
  obtain ⟨M, hM⟩ := rowM_real h hn
  have hp : ∀ k, ∃ p : ℝ, 0 ≤ p ∧ (s k ≠ ⊥ → 0 < p) ∧ Ideal.exp2 (s k - M) = p := by
    intro k
    have ht := h.ne_top k
    revert ht
    induction s k with
    | bot => exact fun _ => ⟨0, le_rfl, fun h => absurd rfl h, by rw [EReal.bot_sub, exp2_bot]; rfl⟩
    | top => exact fun h => absurd rfl h
    | coe a => exact fun _ => ⟨2 ^ (a - M), (Real.rpow_pos_of_pos two_pos _).le, fun _ => Real.rpow_pos_of_pos two_pos _, by rw [← EReal.coe_sub, exp2_coe]⟩
  choose p h0 h1 h2 using hp
  refine ⟨∑ k ∈ range n, p k, ?_, ?_⟩
  · exact sum_pos' (fun k _ => h0 k) ⟨0, mem_range.2 hn, h1 0 h.zero⟩
  · rw [rowA, hM]
    simp only [h2, mul_one]
    exact (coe_sum _ p).symm

/-- The softmax of row `r` of scores `S` that are scaled by `ln 2` and cut after their own position, summed against a
    column of values. -/
theorem softmax_eq_att {S : ℕ → ℕ → EReal} (hS : ∀ r, Ok (cut S r)) (w : ℕ → EReal) (r : ℕ) (b : EReal) (hb : b = ⊥)
    (x p y : Fin 4096 → EReal) (hx : ∀ k : Fin 4096, x k = if (k : ℕ) ≤ r then S r k * (ln2 : ℝ) else ⊥)
    (hp : ∀ k, p k = Ideal.exp (x k - max b (Finset.fold max b x Finset.univ))) (hy : ∀ k : Fin 4096, y k = w k) :
    ∑ k, y k * Ideal.div (p k) (∑ j, p j) = att S w r := by
  obtain ⟨M, hM⟩ := rowM_real (hS r) (show 0 < 4096 by norm_num)
  obtain ⟨l, hl, hL⟩ := total_pos (hS r) (show 0 < 4096 by norm_num)
  have hx' : x = fun k : Fin 4096 => cut S r k * (ln2 : ℝ) := funext fun k => by
    rw [hx, cut]
    split
    · rfl
    · exact (EReal.bot_mul_coe_of_pos ln2_pos).symm
  have hmax : max b (Finset.fold max b x Finset.univ) = (M : EReal) * (ln2 : ℝ) := by
    rw [fold_eq_sup b hb, hb, max_eq_right bot_le, hx', sup_mul_ln2, ← hM, ← rowM_first (cut S r) 4096 ⊥ rfl (fun k => cut S r k) fun _ => rfl,
      fold_eq_sup ⊥ rfl]
  have hpk : ∀ k : Fin 4096, p k = Ideal.exp2 (cut S r k - M) := fun k => by
    rw [hp, hmax, hx', exp_ln2 _ _ ((hS r).ne_top k)]
  have hsum : ∑ j, p j = (l : EReal) := by
    rw [← hL, ← rowA_first_one (cut S r) 4096 M hM.symm (fun k => cut S r k) fun _ => rfl]
    exact sum_congr rfl fun k _ => hpk k
  rw [att, hL, hsum, Ideal.div_coe hl.ne', ← rowA_first (cut S r) w 4096 M hM.symm (fun k => cut S r k) y (fun _ => rfl) hy,
    mul_comm, coe_mul_sum _ (one_div_pos.2 hl).le]
  refine sum_congr rfl fun k _ => ?_
  rw [Ideal.div_coe hl.ne', hpk, mul_comm (y k), mul_comm _ (((1 / l : ℝ)) : EReal), mul_assoc]

end Att

end
-- ==== Proof.Reference.lean ====
/- The reference's result array: at every batch row, position and head column it is the causal attention that the
   kernel's array holds. -/
module

public import proofs.«01_k».proof.Proof.Result
public import proofs.«01_k».proof.Proof.Softmax
public import proofs.«01_k».proof.Proof.Gen.ReferenceIdeal.Run

@[expose] public section

set_option maxRecDepth 16384

noncomputable section

namespace Cert.ReferenceIdeal.Attn

open Idealize.ShloMosaic Idealize.ShloMosaic.TcCoe Idealize.SL.Sem
open Cert.ReferenceIdeal Cert.ReferenceIdeal.Gen Att WordCmp
open Cert.KernelIdeal.Attn (Re Real3 attF attC scores score score_real neg_inf)

/-- The factor that the reference writes as the logarithm of two. -/
theorem log_two : Ideal.log (Ideal.ofBits .f32 0x40000000#32) = ((ln2 : ℝ) : EReal) := by
  have h : Ideal.ofBits .f32 0x40000000#32 = ((2 : ℝ) : EReal) := by
    simp [Ideal.ofBits, Ideal.ieee]
    rw [← EReal.coe_mul]; norm_num
  rw [h, Ideal.log_coe, if_neg (by norm_num)]; rfl

/-- The masked, scaled scores of the reference. -/
def MSK (Q : FVec Ideal S8x8x4096x256 .bf16) (KN : FVec Ideal S8x8x4096x128 .bf16) (KR : FVec Ideal S8x4096x128 .bf16) : FVec Ideal S8x8x4096x4096 .f32 :=
  select (broadcastInDim S8x8x4096x4096 ![2, 3] bcast_S4096x4096_S8x8x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (mulf (addf (Host.dotGeneral dot_S8x8x4096x128_S8x8x4096x128_S8x8x4096x4096_3_3_2_2_01_01 none
            (extractStridedSlice S8x8x4096x128 ![0, 0, 0, 0] (extf .f32 Q bitsLt_bf16_f32) slices_S8x8x4096x256_S8x8x4096x128_0_0_0_0) (extf .f32 KN bitsLt_bf16_f32))
          (Host.dotGeneral dot_S8x8x4096x128_S8x4096x128_S8x8x4096x4096_3_2_12_1_0_0 none
            (extractStridedSlice S8x8x4096x128 ![0, 0, 0, 128] (extf .f32 Q bitsLt_bf16_f32) slices_S8x8x4096x256_S8x8x4096x128_0_0_0_128) (extf .f32 KR bitsLt_bf16_f32)))
      (broadcastInDim S8x8x4096x4096 ![] bcast_S_S8x8x4096x4096 (Host.log (constant S_ .f32 0x40000000#32))))
    (broadcastInDim S8x8x4096x4096 ![] bcast_S_S8x8x4096x4096 (id (constant S_ .f32 0xFF800000#32)))

/-- The host's maximum along the last of four axes, at an index. -/
theorem host_max {n0 n1 n2 n3 : ℕ} (X : FVec Ideal ⟨4, ![n0, n1, n2, n3]⟩ .f32) (c : FVec Ideal S_ .f32)
    (h : (⟨4, ![n0, n1, n2, n3]⟩ : Shape).ReducesTo [3] ⟨3, ![n0, n1, n2]⟩) (hu : 0 < S_.numel) (b : Fin n0) (i : Fin n1) (s : Fin n2) :
    Host.reduce FloatOps.maximumf X c h hu (ix3 b i s) = Finset.fold max (c (Shape.Idx.first hu) : EReal) (fun x : Fin n3 => (X (ix4 b i s x) : EReal)) Finset.univ := by
  pointwise

/-- The largest score of each row. -/
def MAXR (X : FVec Ideal S8x8x4096x4096 .f32) : FVec Ideal S8x8x4096 .f32 :=
  Host.reduce FloatOps.maximumf X (constant S_ .f32 0xFF800000#32) reducesTo_S8x8x4096x4096_S8x8x4096_d3 h_S_

/-- The exponentials of the scores less their row's largest. -/
def EXPS (X : FVec Ideal S8x8x4096x4096 .f32) (M : FVec Ideal S8x8x4096 .f32) : FVec Ideal S8x8x4096x4096 .f32 :=
  Host.exp (subf X (broadcastInDim S8x8x4096x4096 ![0, 1, 2, 3] bcast_S8x8x4096x1_S8x8x4096x4096_0_1_2_3
    (broadcastInDim S8x8x4096x1 ![0, 1, 2] bcast_S8x8x4096_S8x8x4096x1_0_1_2
      (maximumf (broadcastInDim S8x8x4096 ![] bcast_S_S8x8x4096 (constant S_ .f32 0xFF800000#32)) M))))

/-- The exponentials over their row's sum, times the values, the heads laid side by side. -/
def OUT (E : FVec Ideal S8x8x4096x4096 .f32) (V : FVec Ideal S8x8x4096x128 .bf16) : FVec Ideal S8x4096x1024 .bf16 :=
  truncf .bf16 (shapeCast _ (transpose S8x4096x8x128 [0, 3, 1, 2]
    (Host.dotGeneral dot_S8x8x4096x128_S8x8x4096x4096_S8x8x128x4096_2_3_3_2_01_01 none (extf .f32 V bitsLt_bf16_f32)
      (Host.divf E (broadcastInDim S8x8x4096x4096 ![0, 1, 2, 3] bcast_S8x8x4096x1_S8x8x4096x4096_0_1_2_3
        (broadcastInDim S8x8x4096x1 ![0, 1, 2] bcast_S8x8x4096_S8x8x4096x1_0_1_2
          (Host.reduceAdd E (constant S_ .f32 0x00000000#32) reducesTo_S8x8x4096x4096_S8x8x4096_d3 h_S_)))))
    transposes_S8x8x128x4096_S8x4096x8x128_0_3_1_2) shapeCasts_S8x4096x8x128_S8x4096x1024) bitsLt_bf16_f32

/-- The reference's term is the steps in turn. -/
theorem res_eq (m : (ℓ : Loc nD τ sig) → Buf (Elt Ideal) ℓ) (c : Dev nD) (X : FVec Ideal S8x8x4096x4096 .f32)
    (hX : X = MSK (m ((c.tc : Thread nD τ).loc main_arg0)) (m ((c.tc : Thread nD τ).loc main_arg1)) (m ((c.tc : Thread nD τ).loc main_arg2))) :
    Value.res_main_v34 m c = OUT (EXPS X (MAXR X)) (m ((c.tc : Thread nD τ).loc main_arg3)) := by
  subst hX; rfl

/-- A causal select on two positions' words, its other side `-∞`. -/
theorem select_if (a b : ℕ) (ha : a < 2 ^ 31) (hb : b < 2 ^ 31) (x y : EReal) :
    Scalar.select (IntOp.cmpi CmpIPredicate.sle (BitVec.ofNat 32 a) (BitVec.ofNat 32 b)) x y = if a ≤ b then x else y := by
  by_cases h : a ≤ b
  · rw [if_pos h, (cmpi_sle_ofNat_eq_one_iff ha hb).2 h]; rfl
  · rw [if_neg h, (cmpi_sle_ofNat_eq_zero_iff ha hb).2 (by omega)]; rfl

/-- One masked, scaled score. -/
theorem MSK_at (Q : FVec Ideal S8x8x4096x256 .bf16) (KN : FVec Ideal S8x8x4096x128 .bf16) (KR : FVec Ideal S8x4096x128 .bf16) (b h : Fin 8) (s k : Fin 4096) :
    MSK Q KN KR (ix4 b h s k) = if (k : ℕ) ≤ s then scores Q KN KR b h s k * ((ln2 : ℝ) : EReal) else (⊥ : EReal) := by
  pointwise [MSK]
  rw [select_if _ _ (by omega) (by omega), log_two]
  have es : Fin.ofNat 4096 (s : ℕ) = s := Fin.ext (Nat.mod_eq_of_lt s.isLt)
  have ek : Fin.ofNat 4096 (k : ℕ) = k := Fin.ext (Nat.mod_eq_of_lt k.isLt)
  simp only [scores, score, es, ek]
  congr 1

/-- The largest score of one row. -/
theorem MAXR_at (X : FVec Ideal S8x8x4096x4096 .f32) (b h : Fin 8) (s : Fin 4096) :
    MAXR X (ix3 b h s) = Finset.fold max (Ideal.ofBits .f32 0xFF800000#32) (fun x : Fin 4096 => (X (ix4 b h s x) : EReal)) Finset.univ :=
  host_max X _ _ _ b h s

/-- One exponential. -/
theorem EXPS_at (X : FVec Ideal S8x8x4096x4096 .f32) (M : FVec Ideal S8x8x4096 .f32) (b h : Fin 8) (s k : Fin 4096) :
    EXPS X M (ix4 b h s k) = Ideal.exp (X (ix4 b h s k) - max (Ideal.ofBits .f32 0xFF800000#32) (M (ix3 b h s))) := by
  pointwise [EXPS]

/-- One result. -/
theorem OUT_at (E : FVec Ideal S8x8x4096x4096 .f32) (V : FVec Ideal S8x8x4096x128 .bf16) (b : Fin 8) (s : Fin 4096) (col : Fin 1024) :
    OUT E V (ix3 b s col) = ∑ x : Fin 4096, (V (ix4 b ⟨col / 128, by omega⟩ x ⟨col % 128, by omega⟩) : EReal)
      * Ideal.div (E (ix4 b ⟨col / 128, by omega⟩ s x)) (∑ j : Fin 4096, (E (ix4 b ⟨col / 128, by omega⟩ s j) : EReal)) := by
  pointwise [OUT]

/-- The reference's result array. -/
theorem result (m : (ℓ : Loc nD τ sig) → Buf (Elt Ideal) ℓ) (c : Dev nD)
    (hR : Real3 (m ((c.tc : Thread nD τ).loc main_arg0)) (m ((c.tc : Thread nD τ).loc main_arg1)) (m ((c.tc : Thread nD τ).loc main_arg2))) :
    Value.res_main_v34 m c = attF (m ((c.tc : Thread nD τ).loc main_arg0)) (m ((c.tc : Thread nD τ).loc main_arg1))
      (m ((c.tc : Thread nD τ).loc main_arg3)) (m ((c.tc : Thread nD τ).loc main_arg2)) := by
  obtain ⟨X, hX⟩ : ∃ X, X = MSK (m ((c.tc : Thread nD τ).loc main_arg0)) (m ((c.tc : Thread nD τ).loc main_arg1)) (m ((c.tc : Thread nD τ).loc main_arg2)) := ⟨_, rfl⟩
  rw [res_eq m c X hX]
  funext y
  obtain ⟨b, s, col, rfl⟩ : ∃ (b : Fin 8) (s : Fin 4096) (col : Fin 1024), y = ix3 b s col := ⟨y 0, y 1, y 2, (eq_ix3 y)⟩
  rw [OUT_at]
  show _ = attC _ _ _ _ b s col
  have hS : ∀ r, Ok (cut (scores (m ((c.tc : Thread nD τ).loc main_arg0)) (m ((c.tc : Thread nD τ).loc main_arg1)) (m ((c.tc : Thread nD τ).loc main_arg2)) b ⟨col / 128, by omega⟩) r) :=
    ok_cut (score_real (fun _ _ => hR.1 _) (fun _ _ => hR.2.1 _) (fun _ _ => hR.2.2 _))
  refine softmax_eq_att hS _ s _ neg_inf (fun k => X (ix4 b ⟨col / 128, by omega⟩ s k)) _ _ (fun k => ?_) (fun k => ?_) (fun k => ?_)
  · rw [hX]; exact MSK_at _ _ _ _ _ _ _
  · rw [EXPS_at, MAXR_at]
  · have ek : Fin.ofNat 4096 (k : ℕ) = k := Fin.ext (Nat.mod_eq_of_lt k.isLt)
    rw [ek]; rfl

end Cert.ReferenceIdeal.Attn
-- ==== Proof.Finite.lean ====
/- The precondition, read back: where it holds, every query and every key is a real number. -/
module

public import proofs.«01_k».proof.Pre_finite_scores
public import proofs.«01_k».proof.Proof.Result

@[expose] public section

set_option maxRecDepth 16384

noncomputable section

namespace Cert.Pre_finite_scores

open Idealize.ShloMosaic
open Cert.KernelIdeal.Attn (Re Real3)

/-- The side conditions of the precondition's operations. -/
instance facts : Facts where
  slices_S8x8x4096x256_S8x8x4096x128_0_0_0_0 := by decide
  bitsLt_bf16_f32 := by decide
  bcast_S_S8x8x4096x128 := by decide
  slices_S8x8x4096x256_S8x8x4096x128_0_0_0_128 := by decide
  bcast_S_S8x4096x128 := by decide
  bcast_S8x4096x128_S8x1x4096x128_0_2_3 := by decide
  bcast_S8x1x4096x128_S8x8x4096x128_0_1_2_3 := by decide

/-- A number whose absolute value is below the pattern of infinity is real. -/
theorem real_of_lt (x : EReal)
    (h : BitVec.ofBool (decide ((FloatOps.absf (F := Ideal) (φ := .f32) x : EReal) < Ideal.ofBits .f32 0x7F800000#32)) = 1#1) : Re x := by
  have e : Ideal.ofBits .f32 0x7F800000#32 = (⊤ : EReal) := by simp [Ideal.ofBits, Ideal.ieee]
  rw [e] at h
  have h' : max x (-x) < ⊤ := by
    by_contra hn
    have hn' : ¬(FloatOps.absf (F := Ideal) (φ := .f32) x : EReal) < ⊤ := hn
    rw [decide_eq_false hn'] at h
    exact absurd h (by decide)
  obtain ⟨h1, h2⟩ := max_lt_iff.1 h'
  refine ⟨x.toReal, (EReal.coe_toReal h1.ne fun hb => ?_).symm⟩
  rw [hb] at h2
  exact absurd h2 (by simp)

/-- Two bits whose conjunction is set are set. -/
theorem and_bits : ∀ a b : BitVec 1, IntOp.andi a b = 1#1 → a = 1#1 ∧ b = 1#1 := by decide

/-- Where the precondition holds, the queries and the keys are real numbers. -/
theorem decode (q : FVec Ideal S8x8x4096x256 .bf16) (kn : FVec Ideal S8x8x4096x128 .bf16) (kr : FVec Ideal S8x4096x128 .bf16) (v : FVec Ideal S8x8x4096x128 .bf16)
    (h : fn (F := Ideal) q kn kr v = fun _ => 1#1) : Real3 q kn kr := by
  have at' : ∀ (b h : Fin 8) (s : Fin 4096) (d : Fin 128), Re (q (ix4 b h s ⟨d, by omega⟩)) ∧ Re (q (ix4 b h s ⟨128 + d, by omega⟩)) ∧ Re (kn (ix4 b h s d)) ∧ Re (kr (ix3 b s d)) := by
    intro b i s d
    have e := congrFun h (ix4 b i s d)
    pointwise [fn, fn_part1] at e
    obtain ⟨e, e3⟩ := and_bits _ _ e
    obtain ⟨e, e2⟩ := and_bits _ _ e
    obtain ⟨e0, e1⟩ := and_bits _ _ e
    exact ⟨real_of_lt _ e0, real_of_lt _ e1, real_of_lt _ e2, real_of_lt _ e3⟩
  refine ⟨fun i => ?_, fun i => ?_, fun i => ?_⟩
  · obtain ⟨b, h, s, d, rfl⟩ : ∃ (b h : Fin 8) (s : Fin 4096) (d : Fin 256), i = ix4 b h s d := ⟨i 0, i 1, i 2, i 3, eq_ix4 i⟩
    by_cases hd : (d : ℕ) < 128
    · exact (at' b h s ⟨d, hd⟩).1
    · have hd' : (⟨128 + (d - 128), by omega⟩ : Fin 256) = d := Fin.ext (by simp only; omega)
      have := (at' b h s ⟨d - 128, by omega⟩).2.1
      rwa [hd'] at this
  · obtain ⟨b, h, s, d, rfl⟩ : ∃ (b h : Fin 8) (s : Fin 4096) (d : Fin 128), i = ix4 b h s d := ⟨i 0, i 1, i 2, i 3, eq_ix4 i⟩
    exact (at' b h s d).2.2.1
  · obtain ⟨b, s, d, rfl⟩ : ∃ (b : Fin 8) (s : Fin 4096) (d : Fin 128), i = ix3 b s d := ⟨i 0, i 1, i 2, eq_ix3 i⟩
    exact (at' b 0 s d).2.2.2

end Cert.Pre_finite_scores
-- ==== Proof.Rows.lean ====
/- One row of the decoder's feed-forward part over the extended reals: the layer norm, the squared-ReLU product, and the
   same on a block of rows as the kernels compute it. -/
module

public import Idealize.ShloMosaic.Lib.Pointwise.IndexVar
public import Idealize.ShloMosaic.Lib.Pointwise

@[expose] public section

set_option maxRecDepth 16384

noncomputable section

namespace Row

open Idealize.ShloMosaic

/-- The mean of a row. -/
def mean (x : Fin 1024 → EReal) : EReal := Ideal.div (∑ j : Fin 1024, x j) (Ideal.ofBits .f32 0x44800000#32)

/-- The layer norm of a row, with its gain and bias. -/
def norm (g b x : Fin 1024 → EReal) (j : Fin 1024) : EReal :=
  (x j - mean x) * Ideal.rsqrt (mean (fun k => (x k - mean x) * (x k - mean x)) + Ideal.ofBits .f32 0x3727C5AC#32) * g j + b j

/-- One hidden unit of the squared-ReLU part. -/
def hid (w : Fin 1024 → EReal) (x : Fin 1024 → EReal) : EReal :=
  max (∑ j : Fin 1024, x j * w j) 0 * max (∑ j : Fin 1024, x j * w j) 0

/-- The scaled row and its squared-ReLU part. -/
def mlp (w1 : Fin 1024 → Fin 4096 → EReal) (w2 : Fin 4096 → Fin 1024 → EReal) (x : Fin 1024 → EReal) (j : Fin 1024) : EReal :=
  Ideal.ofBits .f32 0x3FB504F3#32 * x j + ∑ k : Fin 4096, hid (fun i => w1 i k) x * w2 k j

/-- A sum over 4096 positions in four pieces of 1024. -/
theorem sum4 (f : Fin 4096 → EReal) : ∑ k : Fin 4096, f k = ((∑ k : Fin 1024, f ⟨k, by omega⟩ + ∑ k : Fin 1024, f ⟨1024 + k, by omega⟩)
    + ∑ k : Fin 1024, f ⟨2048 + k, by omega⟩) + ∑ k : Fin 1024, f ⟨3072 + k, by omega⟩ := by
  have h1 := Fin.sum_univ_add (a := 3072) (b := 1024) f
  have h2 := Fin.sum_univ_add (a := 2048) (b := 1024) (fun k => f (Fin.castAdd 1024 k))
  have h3 := Fin.sum_univ_add (a := 1024) (b := 1024) (fun k => f (Fin.castAdd 1024 (Fin.castAdd 1024 k)))
  exact h1.trans (congrArg (· + _) (h2.trans (congrArg (· + _) h3)))

variable {n : ℕ}

/-- A column of row values, read at its only lane. -/
theorem col_reshape (h : (⟨2, ![n, 1]⟩ : Shape).numel = (⟨1, ![n]⟩ : Shape).numel) (i : Fin n) : Shape.reshapeEquiv h (ix2 i 0) = ix1 i :=
  Shape.reshapeEquiv_eq_of_rowMajor h (by
    rw [Shape.rowMajor_val_two, Shape.rowMajor_val_one]
    show i.val = i.val * 1 + 0
    omega)

/-- A row's position, found again where a block of one row would be spread. -/
theorem row_fix (i : Fin n) (h : n = 1 → 0 < n) : (if e : n = 1 then (⟨0, h e⟩ : Fin n) else i) = i := by
  split
  · apply Fin.ext; simp only; omega
  · rfl

/-- The mean of each row of a block. -/
def MU (X : FVec Ideal ⟨2, ![n, 1024]⟩ .f32) (h1 : (⟨2, ![n, 1024]⟩ : Shape).Reduces [1] ⟨1, ![n]⟩) (h2 : (⟨1, ![n]⟩ : Shape).ShapeCasts ⟨2, ![n, 1]⟩) :
    FVec Ideal ⟨2, ![n, 1]⟩ .f32 :=
  divf (shapeCast ⟨2, ![n, 1]⟩ (multiReduction .add [1] ⟨1, ![n]⟩ X 0x00000000#32 h1 (.inl rfl) rfl) h2)
    (broadcast ⟨2, ![n, 1]⟩ (Scalar.ofBits .f32 0x44800000#32))

theorem MU_at (X : FVec Ideal ⟨2, ![n, 1024]⟩ .f32) (h1) (h2) (i : Fin n) : MU X h1 h2 (ix2 i 0) = mean (fun j => X (ix2 i j)) := by
  pointwise [MU, mean]
  rw [col_reshape]; rfl

/-- Each row less its mean. -/
def CEN (X : FVec Ideal ⟨2, ![n, 1024]⟩ .f32) (M : FVec Ideal ⟨2, ![n, 1]⟩ .f32) (h3 : (⟨2, ![n, 1]⟩ : Shape).Broadcasts ⟨2, ![n, 1024]⟩) :
    FVec Ideal ⟨2, ![n, 1024]⟩ .f32 :=
  subf X (broadcastTo ⟨2, ![n, 1024]⟩ M h3)

theorem CEN_at (X : FVec Ideal ⟨2, ![n, 1024]⟩ .f32) (M) (h3) (i : Fin n) (j : Fin 1024) : CEN X M h3 (ix2 i j) = (X (ix2 i j) : EReal) - M (ix2 i 0) := by
  pointwise [CEN]
  exact congrArg (fun k => (X (ix2 i j) : EReal) - M (ix2 k 0)) (row_fix i (by have := i.isLt; omega))

/-- A centred block over its rows' deviations, with gain and bias. -/
def SCL (C : FVec Ideal ⟨2, ![n, 1024]⟩ .f32) (D : FVec Ideal ⟨2, ![n, 1]⟩ .f32) (g b : FVec Ideal ⟨2, ![1, 1024]⟩ .f32)
    (h0 : (⟨2, ![1, 1024]⟩ : Shape).ShapeCasts ⟨2, ![1, 1024]⟩)
    (h3 : (⟨2, ![n, 1]⟩ : Shape).Broadcasts ⟨2, ![n, 1024]⟩) (h4 : (⟨2, ![1, 1024]⟩ : Shape).Broadcasts ⟨2, ![n, 1024]⟩) : FVec Ideal ⟨2, ![n, 1024]⟩ .f32 :=
  addf (mulf (mulf C (broadcastTo ⟨2, ![n, 1024]⟩ (rsqrt (addf D (broadcast ⟨2, ![n, 1]⟩ (Scalar.ofBits .f32 0x3727C5AC#32)))) h3))
    (broadcastTo ⟨2, ![n, 1024]⟩ (shapeCast ⟨2, ![1, 1024]⟩ g h0) h4)) (broadcastTo ⟨2, ![n, 1024]⟩ (shapeCast ⟨2, ![1, 1024]⟩ b h0) h4)

theorem SCL_at (C : FVec Ideal ⟨2, ![n, 1024]⟩ .f32) (D) (g b) (h0) (h3) (h4) (i : Fin n) (j : Fin 1024) : SCL C D g b h0 h3 h4 (ix2 i j)
    = (C (ix2 i j) : EReal) * Ideal.rsqrt (D (ix2 i 0) + Ideal.ofBits .f32 0x3727C5AC#32) * g (ix2 0 j) + b (ix2 0 j) := by
  pointwise [SCL]
  exact congrArg (fun k => (C (ix2 i j) : EReal) * Ideal.rsqrt (D (ix2 k 0) + Ideal.ofBits .f32 0x3727C5AC#32) * g (ix2 0 j) + b (ix2 0 j)) (row_fix i (by have := i.isLt; omega))

/-- The layer norm of a block. -/
def LN (X : FVec Ideal ⟨2, ![n, 1024]⟩ .f32) (g b : FVec Ideal ⟨2, ![1, 1024]⟩ .f32) (h0 : (⟨2, ![1, 1024]⟩ : Shape).ShapeCasts ⟨2, ![1, 1024]⟩)
    (h1 : (⟨2, ![n, 1024]⟩ : Shape).Reduces [1] ⟨1, ![n]⟩) (h2 : (⟨1, ![n]⟩ : Shape).ShapeCasts ⟨2, ![n, 1]⟩)
    (h3 : (⟨2, ![n, 1]⟩ : Shape).Broadcasts ⟨2, ![n, 1024]⟩) (h4 : (⟨2, ![1, 1024]⟩ : Shape).Broadcasts ⟨2, ![n, 1024]⟩) : FVec Ideal ⟨2, ![n, 1024]⟩ .f32 :=
  SCL (CEN X (MU X h1 h2) h3) (MU (mulf (CEN X (MU X h1 h2) h3) (CEN X (MU X h1 h2) h3)) h1 h2) g b h0 h3 h4

theorem LN_at (X : FVec Ideal ⟨2, ![n, 1024]⟩ .f32) (g b) (h0) (h1) (h2) (h3) (h4) (i : Fin n) (j : Fin 1024) : LN X g b h0 h1 h2 h3 h4 (ix2 i j)
    = norm (fun j => g (ix2 0 j)) (fun j => b (ix2 0 j)) (fun j => X (ix2 i j)) j := by
  rw [LN, SCL_at, CEN_at, MU_at, MU_at]
  have h : (fun k => mulf (CEN X (MU X h1 h2) h3) (CEN X (MU X h1 h2) h3) (ix2 i k)) = fun k : Fin 1024 =>
      ((X (ix2 i k) : EReal) - mean (fun j => X (ix2 i j))) * (X (ix2 i k) - mean (fun j => X (ix2 i j))) := by
    funext k
    show CEN X _ h3 (ix2 i k) * CEN X _ h3 (ix2 i k) = _
    rw [CEN_at, MU_at]
  rw [h]; rfl

/-- One row through the output projection, its norm, the squared-ReLU part and the last norm. -/
def layer (a r : Fin 1024 → EReal) (wo : Fin 1024 → Fin 1024 → EReal) (g1 b1 : Fin 1024 → EReal) (w1 : Fin 1024 → Fin 4096 → EReal)
    (w2 : Fin 4096 → Fin 1024 → EReal) (g2 b2 : Fin 1024 → EReal) : Fin 1024 → EReal :=
  norm g2 b2 (mlp w1 w2 (norm g1 b1 (fun j => Ideal.ofBits .f32 0x3FB504F3#32 * r j + ∑ k : Fin 1024, a k * wo k j)))

end Row
-- ==== Proof.Mlp.lean ====
/- The second kernel, output projection and feed-forward part, on one block of rows: what it stores is `Row.layer` of each row. -/
module

public import proofs.«01_k».proof.Proof.Rows
public import proofs.«01_k».proof.Proof.Gen.Kernel2Ideal.Value
public import Idealize.ShloMosaic.Lib.Pipeline.ReadBack

@[expose] public section

set_option maxRecDepth 16384

noncomputable section

namespace Cert.Kernel2Ideal.Mlp

open Idealize.ShloMosaic Idealize.ShloMosaic.TcCoe Idealize.SL.Sem
open Cert.Kernel2Ideal Cert.Kernel2Ideal.Gen Row

/-- A load of part of a block. -/
abbrev ldf {s : Shape} (x : FVec Ideal s .f32) (r : Rect s) : FVec Ideal r.shape .f32 := View.ld (Val := Elt Ideal) (e' := .f32) x r

abbrev ldb {s : Shape} (x : FVec Ideal s .bf16) (r : Rect s) : FVec Ideal r.shape .bf16 := View.ld (Val := Elt Ideal) (e' := .bf16) x r

/-- The scaled residual and the product with the output matrix. -/
def PRE (v0 : FVec Ideal S512x1024 .f32) (v3 : FVec Ideal S512x1024 .bf16) (v5 : FVec Ideal S1024x1024 .bf16) : FVec Ideal S512x1024 .f32 :=
  addf (mulf (broadcast S512x1024 (Scalar.ofBits .f32 0x3FB504F3#32)) v0)
    (matmul dot_S512x1024_S1024x1024_S512x1024_1_0_0_1_n_n none (shapeCast S512x1024 v3 shapeCasts_S512x1024_S512x1024)
      (shapeCast S1024x1024 v5 shapeCasts_S1024x1024_S1024x1024) (constant S512x1024 .f32 0x00000000#32))

theorem PRE_at (v0 : FVec Ideal S512x1024 .f32) (v3 : FVec Ideal S512x1024 .bf16) (v5 : FVec Ideal S1024x1024 .bf16) (i : Fin 512) (j : Fin 1024) :
    PRE v0 v3 v5 (ix2 i j) = Ideal.ofBits .f32 0x3FB504F3#32 * v0 (ix2 i j) + ∑ k : Fin 1024, (v3 (ix2 i k) : EReal) * v5 (ix2 k j) := by
  pointwise [PRE]

/-- A chunk of hidden units. -/
theorem hid_at (h : FVec Ideal S512x1024 .bf16) (w : FVec Ideal S1x1024x1024 .bf16) (i : Fin 512) (k : Fin 1024) :
    k0_pay6 (F := Ideal) h w (ix2 i k) = hid (fun j => w (ix3 0 j k)) (fun j => h (ix2 i j)) := by
  pointwise [k0_pay6, hid]

/-- A chunk of hidden units times its part of the second matrix, added. -/
def UP (a : FVec Ideal S512x1024 .f32) (u : FVec Ideal S512x1024 .bf16) (w : FVec Ideal S1x1024x1024 .bf16) : FVec Ideal S512x1024 .f32 :=
  addf a (matmul dot_S512x1024_S1024x1024_S512x1024_1_0_0_1_n_n none u (shapeCast S1024x1024 w shapeCasts_S1x1024x1024_S1024x1024)
    (constant S512x1024 .f32 0x00000000#32))

theorem UP_at (a : FVec Ideal S512x1024 .f32) (u : FVec Ideal S512x1024 .bf16) (w : FVec Ideal S1x1024x1024 .bf16) (i : Fin 512) (j : Fin 1024) :
    UP a u w (ix2 i j) = a (ix2 i j) + ∑ k : Fin 1024, (u (ix2 i k) : EReal) * w (ix3 0 k j) := by
  pointwise [UP]

/-- The layer norm at this kernel's shapes. -/
abbrev NORM (X : FVec Ideal S512x1024 .f32) (g b : FVec Ideal S1x1024 .f32) : FVec Ideal S512x1024 .f32 :=
  LN X g b shapeCasts_S1x1024_S1x1024 reduces_S512x1024_S512 shapeCasts_S512_S512x1 broadcasts_S512x1_S512x1024 broadcasts_S1x1024_S512x1024

/-- What the kernel stores of one half block. -/
def HALF (v0 : FVec Ideal S512x1024 .f32) (v3 : FVec Ideal S512x1024 .bf16) (v5 : FVec Ideal S1024x1024 .bf16) (g1 b1 : FVec Ideal S1x1024 .f32)
    (a1 c1 a2 c2 a3 c3 a4 c4 : FVec Ideal S1x1024x1024 .bf16) (g2 b2 : FVec Ideal S1x1024 .f32) : FVec Ideal S512x1024 .f32 :=
  NORM (UP (UP (UP (UP (k0_pay4 (F := Ideal) v0 v3 v5 g1 b1) (k0_pay6 (F := Ideal) (k0_pay3 (F := Ideal) v0 v3 v5 g1 b1) a1) c1) (k0_pay6 (F := Ideal) (k0_pay3 (F := Ideal) v0 v3 v5 g1 b1) a2) c2)
    (k0_pay6 (F := Ideal) (k0_pay3 (F := Ideal) v0 v3 v5 g1 b1) a3) c3) (k0_pay6 (F := Ideal) (k0_pay3 (F := Ideal) v0 v3 v5 g1 b1) a4) c4) g2 b2

theorem pay2_eq (v0 : FVec Ideal S512x1024 .f32) (v3 : FVec Ideal S512x1024 .bf16) (v5 : FVec Ideal S1024x1024 .bf16) (g1 b1 : FVec Ideal S1x1024 .f32) :
    k0_pay2 (F := Ideal) v0 v3 v5 g1 b1 = NORM (PRE v0 v3 v5) g1 b1 := rfl

/-- The first norm at one row. -/
theorem pay2_at (v0 : FVec Ideal S512x1024 .f32) (v3 : FVec Ideal S512x1024 .bf16) (v5 : FVec Ideal S1024x1024 .bf16) (g1 b1 : FVec Ideal S1x1024 .f32)
    (i : Fin 512) (j : Fin 1024) : k0_pay2 (F := Ideal) v0 v3 v5 g1 b1 (ix2 i j) = norm (fun j => g1 (ix2 0 j)) (fun j => b1 (ix2 0 j))
      (fun j => Ideal.ofBits .f32 0x3FB504F3#32 * v0 (ix2 i j) + ∑ k : Fin 1024, (v3 (ix2 i k) : EReal) * v5 (ix2 k j)) j := by
  rw [pay2_eq, NORM, LN_at]
  simp only [PRE_at]

theorem pay3_at (v0 : FVec Ideal S512x1024 .f32) (v3 : FVec Ideal S512x1024 .bf16) (v5 : FVec Ideal S1024x1024 .bf16) (g1 b1 : FVec Ideal S1x1024 .f32)
    (i : Fin 512) (j : Fin 1024) : k0_pay3 (F := Ideal) v0 v3 v5 g1 b1 (ix2 i j) = k0_pay2 (F := Ideal) v0 v3 v5 g1 b1 (ix2 i j) := rfl

theorem pay4_at (v0 : FVec Ideal S512x1024 .f32) (v3 : FVec Ideal S512x1024 .bf16) (v5 : FVec Ideal S1024x1024 .bf16) (g1 b1 : FVec Ideal S1x1024 .f32)
    (i : Fin 512) (j : Fin 1024) : k0_pay4 (F := Ideal) v0 v3 v5 g1 b1 (ix2 i j) = Ideal.ofBits .f32 0x3FB504F3#32 * k0_pay2 (F := Ideal) v0 v3 v5 g1 b1 (ix2 i j) := rfl

variable (x0 : FVec Ideal S1024x1024 .bf16) (x1 : FVec Ideal S1024x1024 .f32) (x2 : FVec Ideal S1024x1024 .bf16) (x3 x4 : FVec Ideal S1x1024 .f32)
  (x5 : FVec Ideal S1x1024x4096 .bf16) (x6 : FVec Ideal S1x4096x1024 .bf16) (x7 x8 : FVec Ideal S1x1024 .f32)

/-- The block's rows. -/
def G (y : S1024x1024.Idx) : EReal :=
  layer (fun k => x0 (ix2 (y 0) k)) (fun k => x1 (ix2 (y 0) k)) (fun k j => x2 (ix2 k j)) (fun j => x3 (ix2 0 j)) (fun j => x4 (ix2 0 j))
    (fun k j => x5 (ix3 0 k j)) (fun k j => x6 (ix3 0 k j)) (fun j => x7 (ix2 0 j)) (fun j => x8 (ix2 0 j)) (y 1)

/-- A half block's row is the layer of that row, its matrices in four chunks. -/
theorem half_at (v0 : FVec Ideal S512x1024 .f32) (v3 : FVec Ideal S512x1024 .bf16) (o : Fin 1024) (i : Fin 512)
    (h0 : ∀ k, v0 (ix2 i k) = x1 (ix2 o k)) (h3 : ∀ k, v3 (ix2 i k) = x0 (ix2 o k)) (j : Fin 1024) :
    HALF v0 v3 (ldb x2 r0_1) (ldf x3 r0_2) (ldf x4 r0_2) (ldb x5 r0_4) (ldb x6 r0_5) (ldb x5 r0_6) (ldb x6 r0_7)
      (ldb x5 r0_8) (ldb x6 r0_9) (ldb x5 r0_10) (ldb x6 r0_11) (ldf x7 r0_2) (ldf x8 r0_2) (ix2 i j)
      = G x0 x1 x2 x3 x4 x5 x6 x7 x8 (ix2 o j) := by
  have e2 : ∀ k j : Fin 1024, ldb x2 r0_1 (ix2 k j) = x2 (ix2 k j) := fun k j => by pointwise [ldb]
  have e3 : ∀ (x : FVec Ideal S1x1024 .f32) (j : Fin 1024), ldf x r0_2 (ix2 0 j) = x (ix2 0 j) := fun x j => by pointwise [ldf]
  have w1 : ∀ k j : Fin 1024, ldb x5 r0_4 (ix3 0 k j) = x5 (ix3 0 k ⟨j, by omega⟩) := fun k j => by pointwise [ldb]
  have w2 : ∀ k j : Fin 1024, ldb x5 r0_6 (ix3 0 k j) = x5 (ix3 0 k ⟨1024 + j, by omega⟩) := fun k j => by pointwise [ldb]
  have w3 : ∀ k j : Fin 1024, ldb x5 r0_8 (ix3 0 k j) = x5 (ix3 0 k ⟨2048 + j, by omega⟩) := fun k j => by pointwise [ldb]
  have w4 : ∀ k j : Fin 1024, ldb x5 r0_10 (ix3 0 k j) = x5 (ix3 0 k ⟨3072 + j, by omega⟩) := fun k j => by pointwise [ldb]
  have u1 : ∀ k j : Fin 1024, ldb x6 r0_5 (ix3 0 k j) = x6 (ix3 0 ⟨k, by omega⟩ j) := fun k j => by pointwise [ldb]
  have u2 : ∀ k j : Fin 1024, ldb x6 r0_7 (ix3 0 k j) = x6 (ix3 0 ⟨1024 + k, by omega⟩ j) := fun k j => by pointwise [ldb]
  have u3 : ∀ k j : Fin 1024, ldb x6 r0_9 (ix3 0 k j) = x6 (ix3 0 ⟨2048 + k, by omega⟩ j) := fun k j => by pointwise [ldb]
  have u4 : ∀ k j : Fin 1024, ldb x6 r0_11 (ix3 0 k j) = x6 (ix3 0 ⟨3072 + k, by omega⟩ j) := fun k j => by pointwise [ldb]
  rw [HALF, NORM, LN_at]
  simp only [UP_at, hid_at, pay3_at, pay4_at, pay2_at, e2, e3, w1, w2, w3, w4, u1, u2, u3, u4, h0, h3]
  have f3 : ∀ x : FVec Ideal S1x1024 .f32, (fun j : Fin 1024 => ldf x r0_2 (ix2 0 j)) = fun j => x (ix2 0 j) := fun x => funext (e3 x)
  rw [f3 x7, f3 x8, f3 x3, f3 x4]
  refine congrArg (fun f => Row.norm (fun j => x7 (ix2 0 j)) (fun j => x8 (ix2 0 j)) f j) (funext fun j => ?_)
  simp only [mlp, sum4, add_assoc]
  rfl

section
variable (v a : FVec Ideal S512x1024 .f32) (h u : FVec Ideal S512x1024 .bf16) (w w' w'' : FVec Ideal S1x1024x1024 .bf16) (g b : FVec Ideal S1x1024 .f32)
  (v3 : FVec Ideal S512x1024 .bf16) (v5 : FVec Ideal S1024x1024 .bf16)

theorem pay7_eq : k0_pay7 (F := Ideal) v (k0_pay5 (F := Ideal)) v3 v5 g b = k0_pay2 (F := Ideal) v v3 v5 g b := rfl
theorem pay10_eq : k0_pay10 (F := Ideal) v h (k0_pay9 (F := Ideal)) w w' = UP (mulf (k0_pay9 (F := Ideal)) v) (k0_pay6 (F := Ideal) h w) w' := rfl
theorem pay4_eq : mulf (k0_pay9 (F := Ideal)) (k0_pay2 (F := Ideal) v v3 v5 g b) = k0_pay4 (F := Ideal) v v3 v5 g b := rfl
theorem pay11_eq : k0_pay11 (F := Ideal) h a u w w' w'' = UP (UP a u w) (k0_pay6 (F := Ideal) h w') w'' := rfl
theorem pay13_eq : k0_pay13 (F := Ideal) a (k0_pay12 (F := Ideal) h w) w' = UP a (k0_pay6 (F := Ideal) h w) w' := rfl
theorem pay14_eq : k0_pay14 (F := Ideal) h a w w' = UP a (k0_pay6 (F := Ideal) h w) w' := rfl
theorem pay15_eq : k0_pay15 (F := Ideal) h w = k0_pay6 (F := Ideal) h w := rfl
theorem pay17_eq : k0_pay17 (F := Ideal) a (k0_pay16 (F := Ideal) h w w') = UP a (k0_pay6 (F := Ideal) h w) w' := rfl
theorem pay18_eq : k0_pay18 (F := Ideal) h w = k0_pay6 (F := Ideal) h w := rfl
theorem pay19_eq : k0_pay19 (F := Ideal) a u w g b = NORM (UP a u w) g b := rfl
theorem pay1_eq : k0_pay1 (F := Ideal) a u w g b = NORM (UP a u w) g b := rfl
theorem pay20_eq : k0_pay20 (F := Ideal) x0 x1 x2 x3 x4 x5 x6 x7 x8 = k0_pay3 (F := Ideal) (ldf x1 r0_0) (ldb x0 r0_0) (ldb x2 r0_1) (ldf x3 r0_2) (ldf x4 r0_2) := rfl
theorem pay21_eq : k0_pay21 (F := Ideal) x0 x1 x2 x3 x4 x5 x6 x7 x8 = k0_pay5 (F := Ideal) := rfl
theorem pay22_eq : k0_pay22 (F := Ideal) x0 x1 x2 x3 x4 x5 x6 x7 x8 = k0_pay3 (F := Ideal) (ldf x1 r0_3) (ldb x0 r0_3) (ldb x2 r0_1) (ldf x3 r0_2) (ldf x4 r0_2) := rfl
end

/-- What the kernel leaves in a block. -/
theorem out_block (y : S1024x1024.Idx) : out0_9 (F := Ideal) x0 x1 x2 x3 x4 x5 x6 x7 x8 y = G x0 x1 x2 x3 x4 x5 x6 x7 x8 y := by
  unfold out0_9
  rw [pay20_eq, pay22_eq, pay21_eq, pay7_eq, pay10_eq, pay4_eq, pay11_eq, pay13_eq, pay14_eq, pay15_eq, pay17_eq, pay18_eq, pay19_eq, pay1_eq]
  refine View.canon_apply_of_pieces (Val := Elt Ideal) (e := .f32) (G x0 x1 x2 x3 x4 x5 x6 x7 x8) _ (fun p hp x => ?_) y (cover0_9 _ _ y)
  rcases List.mem_cons.1 hp with rfl | hp
  · obtain ⟨i, j, rfl⟩ : ∃ (i : Fin 512) (j : Fin 1024), x = ix2 i j := ⟨x 0, x 1, eq_ix2 x⟩
    refine (half_at x0 x1 x2 x3 x4 x5 x6 x7 x8 (ldf x1 r0_3) (ldb x0 r0_3) ⟨512 + i, by omega⟩ i (fun k => by pointwise [ldf]) (fun k => by pointwise [ldb]) j).trans
      (congrArg _ ?_)
    funext b
    fin_cases b <;> apply Fin.ext <;> simp [Rect.unit, Rect.emb]
  · obtain rfl := List.mem_singleton.1 hp
    obtain ⟨i, j, rfl⟩ : ∃ (i : Fin 512) (j : Fin 1024), x = ix2 i j := ⟨x 0, x 1, eq_ix2 x⟩
    refine (half_at x0 x1 x2 x3 x4 x5 x6 x7 x8 (ldf x1 r0_0) (ldb x0 r0_0) ⟨i, by omega⟩ i (fun k => by pointwise [ldf]) (fun k => by pointwise [ldb]) j).trans
      (congrArg _ ?_)
    funext b
    fin_cases b <;> apply Fin.ext <;> simp [Rect.unit, Rect.emb]

end Cert.Kernel2Ideal.Mlp
-- ==== Proof.MlpResult.lean ====
/- The second kernel's result array: at every row `Row.layer` of the argument arrays' rows. -/
module

public import proofs.«01_k».proof.Proof.Mlp
public import Idealize.ShloMosaic.Lib.Pipeline.ValueKit

@[expose] public section

set_option maxRecDepth 16384

noncomputable section

namespace Cert.Kernel2Ideal.Mlp

open Idealize.ShloMosaic Idealize.ShloMosaic.TcCoe Idealize.SL.Sem
open Idealize.ShloMosaic.Pipeline (Dat)
open Cert.Kernel2Ideal Cert.Kernel2Ideal.Gen Row

/-- The layer of every row: attention output, residual, output matrix, the two norms' gains and biases, the two matrices. -/
def layerF (a : FVec Ideal S8x4096x1024 .bf16) (r : FVec Ideal S32768x1024 .f32) (g1 b1 g2 b2 : FVec Ideal S2x1024 .f32) (w1 : FVec Ideal S2x1024x4096 .f32)
    (w2 : FVec Ideal S2x4096x1024 .f32) (wo : FVec Ideal S1x1024x1024 .f32) (i : Fin 32768) : Fin 1024 → EReal :=
  layer (fun k => shapeCast S32768x1024 a shapeCasts_S8x4096x1024_S32768x1024 (ix2 i k)) (fun k => r (ix2 i k)) (fun k j => wo (ix3 0 k j)) (fun j => g1 (ix2 1 j))
    (fun j => b1 (ix2 1 j)) (fun k j => w1 (ix3 1 k j)) (fun k j => w2 (ix3 1 k j)) (fun j => g2 (ix2 1 j)) (fun j => b2 (ix2 1 j))

variable (m : (ℓ : Loc nD τ sig) → Buf (Elt Ideal) ℓ)

/-- The blocks of a grid point. -/
theorem idx : ∀ t : Fin cfg0.N, win0_0.index t = ![t.val, 0] ∧ win0_1.index t = ![t.val, 0] ∧ win0_2.index t = ![0, 0] ∧ win0_3.index t = ![0, 0]
    ∧ win0_4.index t = ![0, 0] ∧ win0_5.index t = ![1, 0, 0] ∧ win0_6.index t = ![1, 0, 0] ∧ win0_7.index t = ![0, 0] ∧ win0_8.index t = ![0, 0]
    ∧ win0_9.index t = ![t.val, 0] :=
  (by decide +kernel : ∀ t : Fin grid0.N, _)

theorem lt32 (t : Fin cfg0.N) : t.val < 32 := t.isLt.trans_eq (by decide +kernel)

variable (c : Dev nD) (t : Fin cfg0.N)

/-- A row of a grid point's block. -/
def rowOf (i : Fin 1024) : Fin 32768 := ⟨t.val * 1024 + i, by have := lt32 t; omega⟩

theorem V0 : V m c main_v26 = shapeCast S32768x1024 (m ((c : Thread nD τ).loc main_arg0)) shapeCasts_S8x4096x1024_S32768x1024 := by
  dsimp only [V]; after_results; rfl
theorem V2 : V m c main_v28 = (truncf .bf16 (shapeCast S1024x1024 (m ((c : Thread nD τ).loc main_arg8) : FVec Ideal S1x1024x1024 .f32) shapeCasts_S1x1024x1024_S1024x1024
    : FVec Ideal S1024x1024 .f32) bitsLt_bf16_f32 : FVec Ideal S1024x1024 .bf16) := by
  dsimp only [V]; after_results; rfl
theorem V3 : V m c main_v10 = shapeCast S1x1024 (shapeCast S1024 (extractStridedSlice S1x1024 ![1, 0] (m ((c : Thread nD τ).loc main_arg2)) slices_S2x1024_S1x1024_1_0)
    shapeCasts_S1x1024_S1024) shapeCasts_S1024_S1x1024 := by
  dsimp only [V]; after_results; rfl
theorem V4 : V m c main_v13 = shapeCast S1x1024 (shapeCast S1024 (extractStridedSlice S1x1024 ![1, 0] (m ((c : Thread nD τ).loc main_arg3)) slices_S2x1024_S1x1024_1_0)
    shapeCasts_S1x1024_S1024) shapeCasts_S1024_S1x1024 := by
  dsimp only [V]; after_results; rfl
theorem V5 : V m c main_v0 = (truncf .bf16 (m ((c : Thread nD τ).loc main_arg6) : FVec Ideal S2x1024x4096 .f32) bitsLt_bf16_f32 : FVec Ideal S2x1024x4096 .bf16) := by
  dsimp only [V]; after_results
theorem V6 : V m c main_v1 = (truncf .bf16 (m ((c : Thread nD τ).loc main_arg7) : FVec Ideal S2x4096x1024 .f32) bitsLt_bf16_f32 : FVec Ideal S2x4096x1024 .bf16) := by
  dsimp only [V]; after_results
theorem V7 : V m c main_v22 = shapeCast S1x1024 (shapeCast S1024 (extractStridedSlice S1x1024 ![1, 0] (m ((c : Thread nD τ).loc main_arg4)) slices_S2x1024_S1x1024_1_0)
    shapeCasts_S1x1024_S1024) shapeCasts_S1024_S1x1024 := by
  dsimp only [V]; after_results; rfl
theorem V8 : V m c main_v25 = shapeCast S1x1024 (shapeCast S1024 (extractStridedSlice S1x1024 ![1, 0] (m ((c : Thread nD τ).loc main_arg5)) slices_S2x1024_S1x1024_1_0)
    shapeCasts_S1x1024_S1024) shapeCasts_S1024_S1x1024 := by
  dsimp only [V]; after_results; rfl

/-- The second row of a pair of rows. -/
theorem second (x : FVec Ideal S2x1024 .f32) (j : Fin 1024) :
    shapeCast S1x1024 (shapeCast S1024 (extractStridedSlice S1x1024 ![1, 0] x slices_S2x1024_S1x1024_1_0) shapeCasts_S1x1024_S1024) shapeCasts_S1024_S1x1024 (ix2 0 j)
      = x (ix2 1 j) := by
  pointwise

/-- The only one of a stack of matrices. -/
theorem first_mat (x : FVec Ideal S1x1024x1024 .f32) (k j : Fin 1024) :
    shapeCast S1024x1024 x shapeCasts_S1x1024x1024_S1024x1024 (ix2 k j) = x (ix3 0 k j) := by
  pointwise

theorem blk0 (i k : Fin 1024) : iblk m c 0 t (ix2 i k)
    = shapeCast S32768x1024 (m ((c : Thread nD τ).loc main_arg0)) shapeCasts_S8x4096x1024_S32768x1024 (ix2 (rowOf t i) k) := by
  refine Eq.trans ?_ (congrFun (V0 m c) _)
  blk_ext [iblk, rowOf, idx t]
theorem blk1 (i k : Fin 1024) : iblk m c 1 t (ix2 i k) = m ((c : Thread nD τ).loc main_arg1) (ix2 (rowOf t i) k) := by
  blk_ext [iblk, V, rowOf, idx t]
theorem blk2 (k j : Fin 1024) : iblk m c 2 t (ix2 k j) = m ((c : Thread nD τ).loc main_arg8) (ix3 0 k j) := by
  refine Eq.trans (b := V m c main_v28 (ix2 k j)) ?_ ((congrFun (V2 m c) _).trans (first_mat _ k j))
  blk_ext [iblk, idx t]
theorem blk3 (j : Fin 1024) : iblk m c 3 t (ix2 0 j) = m ((c : Thread nD τ).loc main_arg2) (ix2 1 j) := by
  refine Eq.trans (b := V m c main_v10 (ix2 0 j)) ?_ ((congrFun (V3 m c) _).trans (second _ _))
  blk_ext [iblk, idx t]
theorem blk4 (j : Fin 1024) : iblk m c 4 t (ix2 0 j) = m ((c : Thread nD τ).loc main_arg3) (ix2 1 j) := by
  refine Eq.trans (b := V m c main_v13 (ix2 0 j)) ?_ ((congrFun (V4 m c) _).trans (second _ _))
  blk_ext [iblk, idx t]
theorem blk5 (k : Fin 1024) (j : Fin 4096) : iblk m c 5 t (ix3 0 k j) = m ((c : Thread nD τ).loc main_arg6) (ix3 1 k j) := by
  refine Eq.trans (b := V m c main_v0 (ix3 1 k j)) ?_ (congrFun (V5 m c) _)
  blk_ext [iblk, idx t]
theorem blk6 (k : Fin 4096) (j : Fin 1024) : iblk m c 6 t (ix3 0 k j) = m ((c : Thread nD τ).loc main_arg7) (ix3 1 k j) := by
  refine Eq.trans (b := V m c main_v1 (ix3 1 k j)) ?_ (congrFun (V6 m c) _)
  blk_ext [iblk, idx t]
theorem blk7 (j : Fin 1024) : iblk m c 7 t (ix2 0 j) = m ((c : Thread nD τ).loc main_arg4) (ix2 1 j) := by
  refine Eq.trans (b := V m c main_v22 (ix2 0 j)) ?_ ((congrFun (V7 m c) _).trans (second _ _))
  blk_ext [iblk, idx t]
theorem blk8 (j : Fin 1024) : iblk m c 8 t (ix2 0 j) = m ((c : Thread nD τ).loc main_arg5) (ix2 1 j) := by
  refine Eq.trans (b := V m c main_v25 (ix2 0 j)) ?_ ((congrFun (V8 m c) _).trans (second _ _))
  blk_ext [iblk, idx t]

/-- The result as an array of the argument arrays. -/
def resF (y : S32768x1024.Idx) : EReal :=
  layerF (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (y 0) (y 1)

/-- What a grid point writes back is its rows of the result. -/
theorem point (y : S1024x1024.Idx) : (dats m 0 c).after 9 t y = resF m c (((cfg0.win 9).blk t).view.emb y) := by
  rw [after0_9, out_block]
  have e0 : ((((cfg0.win 9).blk t).view.emb y 0 : Fin 32768) : ℕ) = t.val * 1024 + (y 0 : Fin 1024) := by blk_simp [idx t]
  have e1 : ((((cfg0.win 9).blk t).view.emb y 1 : Fin 1024) : ℕ) = (y 1 : Fin 1024) := by blk_simp [idx t]
  have z0 : (((cfg0.win 9).blk t).view.emb y 0 : Fin 32768) = rowOf t (y 0) := Fin.ext e0
  have z1 : (((cfg0.win 9).blk t).view.emb y 1 : Fin 1024) = (y 1 : Fin 1024) := Fin.ext e1
  unfold resF
  rw [z0, z1]
  unfold G layerF
  simp only [blk2, blk3, blk4, blk5, blk6, blk7, blk8]
  exact congrArg₂ (fun a b => layer a b _ _ _ _ _ _ _ (y 1)) (funext fun k => blk0 m c t (y 0) k) (funext fun k => blk1 m c t (y 0) k)

/-- The result array after the run. -/
theorem final : (dats m 0 c).arrAt 9 cfg0.N = resF m c := by
  refine (dats m 0 c).arrAt_eq_of_covers 9 _ (by decide +kernel) fun t hf y => ?_
  blk_simp
  exact point m c t y

end Cert.Kernel2Ideal.Mlp
-- ==== Proof.MlpReference.lean ====
/- The second reference's result array: at every row `Row.layer` of the argument arrays' rows. -/
module

public import proofs.«01_k».proof.Proof.MlpResult
public import proofs.«01_k».proof.Proof.Gen.Reference2Ideal.Run

@[expose] public section

set_option maxRecDepth 16384

noncomputable section

namespace Cert.Reference2Ideal.Mlp

open Idealize.ShloMosaic Idealize.ShloMosaic.TcCoe Idealize.SL.Sem
open Cert.Reference2Ideal Cert.Reference2Ideal.Gen Row
open Cert.Kernel2Ideal.Mlp (layerF)

/-- The mean of each row, as a column. -/
def HMU (X : FVec Ideal S32768x1024 .f32) : FVec Ideal S32768x1 .f32 :=
  Host.divf (broadcastInDim S32768x1 ![0] bcast_S32768_S32768x1_0 (Host.reduceAdd X (constant S_ .f32 0x00000000#32) reducesTo_S32768x1024_S32768_d1 h_S_))
    (broadcastInDim S32768x1 ![] bcast_S_S32768x1 (constant S_ .f32 0x44800000#32))

theorem HMU_at (X : FVec Ideal S32768x1024 .f32) (i : Fin 32768) : HMU X (ix2 i 0) = mean (fun j => X (ix2 i j)) := by
  pointwise [HMU, mean]

/-- Each row less a column. -/
def HCEN (X : FVec Ideal S32768x1024 .f32) (M : FVec Ideal S32768x1 .f32) : FVec Ideal S32768x1024 .f32 :=
  subf X (broadcastInDim S32768x1024 ![0, 1] bcast_S32768x1_S32768x1024_0_1 M)

theorem HCEN_at (X : FVec Ideal S32768x1024 .f32) (M : FVec Ideal S32768x1 .f32) (i : Fin 32768) (j : Fin 1024) :
    HCEN X M (ix2 i j) = (X (ix2 i j) : EReal) - M (ix2 i 0) := by
  pointwise [HCEN]

/-- The second of two rows, for every row. -/
def HROW (g : FVec Ideal S2x1024 .f32) : FVec Ideal S32768x1024 .f32 :=
  broadcastInDim S32768x1024 ![0, 1] bcast_S1x1024_S32768x1024_0_1 (broadcastInDim S1x1024 ![1] bcast_S1024_S1x1024_1
    (shapeCast _ (extractStridedSlice S1x1024 ![1, 0] g slices_S2x1024_S1x1024_1_0) shapeCasts_S1x1024_S1024))

theorem HROW_at (g : FVec Ideal S2x1024 .f32) (i : Fin 32768) (j : Fin 1024) : HROW g (ix2 i j) = g (ix2 1 j) := by
  pointwise [HROW]

/-- Centred rows over their deviations, with gain and bias. -/
def HSCL (C : FVec Ideal S32768x1024 .f32) (D : FVec Ideal S32768x1 .f32) (G B : FVec Ideal S32768x1024 .f32) : FVec Ideal S32768x1024 .f32 :=
  addf (mulf (mulf C (broadcastInDim S32768x1024 ![0, 1] bcast_S32768x1_S32768x1024_0_1
    (Host.rsqrt (addf D (broadcastInDim S32768x1 ![] bcast_S_S32768x1 (constant S_ .f32 0x3727C5AC#32)))))) G) B

theorem HSCL_at (C : FVec Ideal S32768x1024 .f32) (D : FVec Ideal S32768x1 .f32) (G B : FVec Ideal S32768x1024 .f32) (i : Fin 32768) (j : Fin 1024) :
    HSCL C D G B (ix2 i j) = (C (ix2 i j) : EReal) * Ideal.rsqrt (D (ix2 i 0) + Ideal.ofBits .f32 0x3727C5AC#32) * G (ix2 i j) + B (ix2 i j) := by
  pointwise [HSCL]

/-- The layer norm of every row. -/
def HLN (X : FVec Ideal S32768x1024 .f32) (g b : FVec Ideal S2x1024 .f32) : FVec Ideal S32768x1024 .f32 :=
  HSCL (HCEN X (HMU X)) (HMU (mulf (HCEN X (HMU X)) (HCEN X (HMU X)))) (HROW g) (HROW b)

theorem HLN_at (X : FVec Ideal S32768x1024 .f32) (g b : FVec Ideal S2x1024 .f32) (i : Fin 32768) (j : Fin 1024) :
    HLN X g b (ix2 i j) = norm (fun j => g (ix2 1 j)) (fun j => b (ix2 1 j)) (fun j => X (ix2 i j)) j := by
  rw [HLN, HSCL_at, HCEN_at, HMU_at, HMU_at, HROW_at, HROW_at]
  have h : (fun k => mulf (HCEN X (HMU X)) (HCEN X (HMU X)) (ix2 i k)) = fun k : Fin 1024 =>
      ((X (ix2 i k) : EReal) - mean (fun j => X (ix2 i j))) * (X (ix2 i k) - mean (fun j => X (ix2 i j))) := by
    funext k
    show HCEN X _ (ix2 i k) * HCEN X _ (ix2 i k) = _
    rw [HCEN_at, HMU_at]
  rw [h]; rfl

/-- The scaled residual and the product with the output matrix. -/
def HPRE (a : FVec Ideal S8x4096x1024 .bf16) (r : FVec Ideal S32768x1024 .f32) (wo : FVec Ideal S1x1024x1024 .f32) : FVec Ideal S32768x1024 .f32 :=
  addf (mulf (broadcastInDim S32768x1024 ![] bcast_S_S32768x1024 (constant S_ .f32 0x3FB504F3#32)) r)
    (Host.dotGeneral dot_S32768x1024_S1024x1024_S32768x1024_1_0_0_1_n_n none
      (shapeCast _ (extf .f32 a bitsLt_bf16_f32) shapeCasts_S8x4096x1024_S32768x1024) (shapeCast _ wo shapeCasts_S1x1024x1024_S1024x1024))

/-- The product, its left side any array. -/
theorem out_dot (A : FVec Ideal S32768x1024 .f32) (r : FVec Ideal S32768x1024 .f32) (wo : FVec Ideal S1x1024x1024 .f32) (i : Fin 32768) (j : Fin 1024) :
    addf (mulf (broadcastInDim S32768x1024 ![] bcast_S_S32768x1024 (constant S_ .f32 0x3FB504F3#32)) r)
      (Host.dotGeneral dot_S32768x1024_S1024x1024_S32768x1024_1_0_0_1_n_n none A (shapeCast S1024x1024 wo shapeCasts_S1x1024x1024_S1024x1024)) (ix2 i j)
      = Ideal.ofBits .f32 0x3FB504F3#32 * r (ix2 i j) + ∑ k : Fin 1024, (A (ix2 i k) : EReal) * wo (ix3 0 k j) := by
  pointwise

/-- The hidden units, squared. -/
def HHID (X : FVec Ideal S32768x1024 .f32) (w : FVec Ideal S2x1024x4096 .f32) : FVec Ideal S32768x4096 .f32 :=
  mulf (maximumf (Host.dotGeneral dot_S32768x1024_S1024x4096_S32768x4096_1_0_0_1_n_n none X
      (shapeCast _ (extractStridedSlice S1x1024x4096 ![1, 0, 0] w slices_S2x1024x4096_S1x1024x4096_1_0_0) shapeCasts_S1x1024x4096_S1024x4096))
      (broadcastInDim S32768x4096 ![] bcast_S_S32768x4096 (constant S_ .f32 0x00000000#32)))
    (maximumf (Host.dotGeneral dot_S32768x1024_S1024x4096_S32768x4096_1_0_0_1_n_n none X
      (shapeCast _ (extractStridedSlice S1x1024x4096 ![1, 0, 0] w slices_S2x1024x4096_S1x1024x4096_1_0_0) shapeCasts_S1x1024x4096_S1024x4096))
      (broadcastInDim S32768x4096 ![] bcast_S_S32768x4096 (constant S_ .f32 0x00000000#32)))

theorem HHID_at (X : FVec Ideal S32768x1024 .f32) (w : FVec Ideal S2x1024x4096 .f32) (i : Fin 32768) (k : Fin 4096) :
    HHID X w (ix2 i k) = hid (fun j => w (ix3 1 j k)) (fun j => X (ix2 i j)) := by
  pointwise [HHID, hid]

/-- The scaled rows and the hidden units' product. -/
def HUP (X : FVec Ideal S32768x1024 .f32) (U : FVec Ideal S32768x4096 .f32) (w : FVec Ideal S2x4096x1024 .f32) : FVec Ideal S32768x1024 .f32 :=
  addf (mulf (broadcastInDim S32768x1024 ![] bcast_S_S32768x1024 (constant S_ .f32 0x3FB504F3#32)) X)
    (Host.dotGeneral dot_S32768x4096_S4096x1024_S32768x1024_1_0_0_1_n_n none U
      (shapeCast _ (extractStridedSlice S1x4096x1024 ![1, 0, 0] w slices_S2x4096x1024_S1x4096x1024_1_0_0) shapeCasts_S1x4096x1024_S4096x1024))

theorem HUP_at (X : FVec Ideal S32768x1024 .f32) (U : FVec Ideal S32768x4096 .f32) (w : FVec Ideal S2x4096x1024 .f32) (i : Fin 32768) (j : Fin 1024) :
    HUP X U w (ix2 i j) = Ideal.ofBits .f32 0x3FB504F3#32 * X (ix2 i j) + ∑ k : Fin 4096, (U (ix2 i k) : EReal) * w (ix3 1 k j) := by
  pointwise [HUP]

variable (m : (ℓ : Loc nD τ sig) → Buf (Elt Ideal) ℓ) (c : Dev nD)

/-- The reference's term is the steps in turn. -/
theorem res_eq (X Y : FVec Ideal S32768x1024 .f32)
    (hX : X = HPRE (m ((c.tc : Thread nD τ).loc main_arg0)) (m ((c.tc : Thread nD τ).loc main_arg1)) (m ((c.tc : Thread nD τ).loc main_arg8)))
    (hY : Y = HLN X (m ((c.tc : Thread nD τ).loc main_arg2)) (m ((c.tc : Thread nD τ).loc main_arg3))) :
    Value.res_out0 m c = HLN (HUP Y (HHID Y (m ((c.tc : Thread nD τ).loc main_arg6))) (m ((c.tc : Thread nD τ).loc main_arg7)))
      (m ((c.tc : Thread nD τ).loc main_arg4)) (m ((c.tc : Thread nD τ).loc main_arg5)) := by
  subst hY; subst hX; rfl

/-- The reference's result array. -/
theorem result : Value.res_out0 m c = fun y => layerF (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (y 0) (y 1) := by
  obtain ⟨X, hX⟩ : ∃ X, X = HPRE (m ((c.tc : Thread nD τ).loc main_arg0)) (m ((c.tc : Thread nD τ).loc main_arg1)) (m ((c.tc : Thread nD τ).loc main_arg8)) := ⟨_, rfl⟩
  obtain ⟨Y, hY⟩ : ∃ Y, Y = HLN X (m ((c.tc : Thread nD τ).loc main_arg2)) (m ((c.tc : Thread nD τ).loc main_arg3)) := ⟨_, rfl⟩
  rw [res_eq m c X Y hX hY]
  funext y
  obtain ⟨i, j, rfl⟩ : ∃ (i : Fin 32768) (j : Fin 1024), y = ix2 i j := ⟨y 0, y 1, eq_ix2 y⟩
  have hx : ∀ j, X (ix2 i j) = _ := fun j => (congrFun hX _).trans (out_dot _ _ _ i j)
  have hy : ∀ j, Y (ix2 i j) = _ := fun j => (congrFun hY _).trans (HLN_at X _ _ i j)
  rw [HLN_at]
  simp only [HUP_at, HHID_at, hy, hx]
  rfl

end Cert.Reference2Ideal.Mlp
-- ==== Proof.Proj.lean ====
/- One row of the last kernel over the extended reals: the gated row, the root-mean-square norm, and the rotation of a head's
   64 lanes, both as the reference states it and as the kernel computes it on 128 lanes. -/
module

public import proofs.«01_k».proof.Proof.Rows

@[expose] public section

set_option maxRecDepth 16384

noncomputable section

namespace Row

open Idealize.ShloMosaic

/-- The product's first half, gated by the logistic of its second half. -/
def glu (wg : Fin 1024 → Fin 2048 → EReal) (y : Fin 1024 → EReal) (k : Fin 1024) : EReal :=
  (∑ i : Fin 1024, y i * wg i ⟨k, by omega⟩) * Ideal.logistic (∑ i : Fin 1024, y i * wg i ⟨1024 + k, by omega⟩)

/-- The root-mean-square norm of a row, with its gain; `d` is the row's length. -/
def rms {n : ℕ} (d : BitVec 32) (g x : Fin n → EReal) (j : Fin n) : EReal :=
  x j * Ideal.rsqrt (Ideal.div (∑ k : Fin n, x k * x k) (Ideal.ofBits .f32 d) + Ideal.ofBits .f32 0x358637BD#32) * g j

/-- The keys' and values' row before the heads are taken apart. -/
def kv (h : Fin 1024 → EReal) (wa : Fin 1024 → Fin 320 → EReal) (g : Fin 256 → EReal) (wb : Fin 256 → Fin 2048 → EReal) (c : Fin 2048) : EReal :=
  ∑ k : Fin 256, rms 0x43800000#32 g (fun k => ∑ i : Fin 1024, h i * wa i ⟨k, by omega⟩) k * wb k c

/-- The queries' row before the heads are taken apart, scaled. -/
def qr (h : Fin 1024 → EReal) (wa : Fin 1024 → Fin 384 → EReal) (g : Fin 384 → EReal) (wb : Fin 384 → Fin 1536 → EReal) (c : Fin 1536) : EReal :=
  (∑ k : Fin 384, rms 0x43C00000#32 g (fun k => ∑ i : Fin 1024, h i * wa i k) k * wb k c) * Ideal.ofBits .f32 0x3DD53B95#32

/-- The frequency of a rotated pair. -/
def freq (l : Fin 32) : EReal :=
  Ideal.pow (Ideal.ofBits .f32 0x461C4000#32) (Ideal.div (-(((BitVec.ofNat 32 l.val).toInt : ℝ) : EReal)) (Ideal.ofBits .f32 0x42000000#32))

/-- The position of a row, as a number. -/
def posn (p : BitVec 32) : EReal := ((p.toInt : ℝ) : EReal)

/-- The rotation of 64 lanes by the 32 angles of a position. -/
def rot (p : EReal) (x : Fin 64 → EReal) (d : Fin 64) : EReal :=
  if h : d.val < 32 then x ⟨d, by omega⟩ * Ideal.cos (p * freq ⟨d, h⟩) - x ⟨32 + d, by omega⟩ * Ideal.sin (p * freq ⟨d, h⟩)
  else x ⟨d - 32, by omega⟩ * Ideal.sin (p * freq ⟨d - 32, by omega⟩) + x d * Ideal.cos (p * freq ⟨d - 32, by omega⟩)

/-- The rotation on 128 lanes, two heads of 64 beside each other, with signed frequencies. -/
def rot2 (p : EReal) (f x : Fin 128 → EReal) (l : Fin 128) : EReal :=
  x l * Ideal.cos (p * f l) + (if l.val % 64 < 32 then x ⟨(l.val + 32) % 128, Nat.mod_lt _ (by omega)⟩ else x ⟨(l.val + 96) % 128, Nat.mod_lt _ (by omega)⟩)
    * Ideal.sin (p * f l)

/-- The signed frequencies of the 128 lanes. -/
def freq2 (l : Fin 128) : EReal := if l.val % 64 < 32 then -freq ⟨l.val % 32, Nat.mod_lt _ (by omega)⟩ else freq ⟨l.val % 32, Nat.mod_lt _ (by omega)⟩

theorem base_real : ∃ r : ℝ, Ideal.ofBits .f32 0x461C4000#32 = (r : EReal) := by
  simp [Ideal.ofBits, Ideal.ieee]
  exact ⟨_, rfl⟩

theorem half_eq : Ideal.ofBits .f32 0x42000000#32 = ((32 : ℝ) : EReal) := by
  simp [Ideal.ofBits, Ideal.ieee]
  rw [← EReal.coe_mul]
  norm_num

theorem freq_real (l : Fin 32) : ∃ r : ℝ, freq l = (r : EReal) := by
  obtain ⟨b, hb⟩ := base_real
  unfold freq
  rw [hb, half_eq]
  have : Ideal.div (-(((BitVec.ofNat 32 l.val).toInt : ℝ) : EReal)) ((32 : ℝ) : EReal) = ((-((BitVec.ofNat 32 l.val).toInt : ℝ) * (32 : ℝ)⁻¹ : ℝ) : EReal) := by
    rw [Ideal.div, if_neg (by norm_num)]
    rw [← EReal.coe_neg, ← EReal.coe_inv, ← EReal.coe_mul]
  rw [this]
  exact ⟨_, rfl⟩

theorem angle_real (p : BitVec 32) (l : Fin 32) : ∃ r : ℝ, posn p * freq l = (r : EReal) := by
  obtain ⟨f, hf⟩ := freq_real l
  rw [hf, posn, ← EReal.coe_mul]
  exact ⟨_, rfl⟩

theorem cos_neg (r : ℝ) : Ideal.cos (-(r : EReal)) = Ideal.cos r := by
  rw [← EReal.coe_neg]
  exact congrArg (fun x : ℝ => (x : EReal)) (Real.cos_neg r)

theorem sin_neg (r : ℝ) : Ideal.sin (-(r : EReal)) = -Ideal.sin r := by
  rw [← EReal.coe_neg]
  exact (congrArg (fun x : ℝ => (x : EReal)) (Real.sin_neg r)).trans (EReal.coe_neg _)

/-- The 128-lane rotation, read at a head's lane. -/
theorem rot2_eq (p : BitVec 32) (x : Fin 128 → EReal) (o : ℕ) (ho : o = 0 ∨ o = 64) (d : Fin 64) :
    rot2 (posn p) freq2 x ⟨o + d, by omega⟩ = rot (posn p) (fun e => x ⟨o + e, by omega⟩) d := by
  unfold rot2 rot freq2
  by_cases h : d.val < 32
  · have h1 : (o + d.val) % 64 < 32 := by omega
    have h2 : (⟨(o + d.val) % 32, Nat.mod_lt _ (by omega)⟩ : Fin 32) = ⟨d, h⟩ := Fin.ext (show (o + d.val) % 32 = d.val by omega)
    have h3 : (⟨(o + d.val + 32) % 128, Nat.mod_lt _ (by omega)⟩ : Fin 128) = ⟨o + (32 + d), by omega⟩ :=
      Fin.ext (show (o + d.val + 32) % 128 = o + (32 + d.val) by omega)
    obtain ⟨r, hr⟩ := angle_real p ⟨d, h⟩
    simp only [h1, if_true, h2, h3, h, dif_pos]
    rw [mul_neg, hr, cos_neg, sin_neg, mul_neg, sub_eq_add_neg]
  · have h1 : ¬ (o + d.val) % 64 < 32 := by omega
    have h2 : (⟨(o + d.val) % 32, Nat.mod_lt _ (by omega)⟩ : Fin 32) = ⟨d - 32, by omega⟩ := Fin.ext (show (o + d.val) % 32 = d.val - 32 by omega)
    have h3 : (⟨(o + d.val + 96) % 128, Nat.mod_lt _ (by omega)⟩ : Fin 128) = ⟨o + (d - 32), by omega⟩ :=
      Fin.ext (show (o + d.val + 96) % 128 = o + (d.val - 32) by omega)
    simp only [h1, if_false, h2, h3, h, dif_neg, not_false_eq_true]
    rw [add_comm]

/-- Lanes that are zero stay zero. -/
theorem rot2_zero (p : EReal) (f x : Fin 128 → EReal) (l : Fin 128) (h0 : x l = 0)
    (h1 : l.val % 64 < 32 → x ⟨(l.val + 32) % 128, Nat.mod_lt _ (by omega)⟩ = 0) (h2 : ¬ l.val % 64 < 32 → x ⟨(l.val + 96) % 128, Nat.mod_lt _ (by omega)⟩ = 0) :
    rot2 p f x l = 0 := by
  unfold rot2
  split
  · rename_i h; rw [h0, h1 h, zero_mul, zero_mul, add_zero]
  · rename_i h; rw [h0, h2 h, zero_mul, zero_mul, add_zero]

end Row
-- ==== Proof.TailPay.lean ====
/- The last kernel's steps on a half block of 256 rows, each read at one row and lane. -/
module

public import proofs.«01_k».proof.Proof.Proj
public import proofs.«01_k».proof.Proof.Gen.Kernel3Ideal.Skeleton

@[expose] public section

set_option maxRecDepth 16384

noncomputable section

namespace Cert.Kernel3Ideal.Tail

open Idealize.ShloMosaic Idealize.ShloMosaic.TcCoe Idealize.SL.Sem
open Cert.Kernel3Ideal Cert.Kernel3Ideal.Gen Row

/-- The scaled residual and the gated rows' product with the output matrix. -/
def PRE (y : FVec Ideal S256x1024 .bf16) (wg : FVec Ideal S1024x2048 .bf16) (r : FVec Ideal S256x1024 .f32) (wo : FVec Ideal S1024x1024 .bf16) : FVec Ideal S256x1024 .f32 :=
  k0_pay11 (F := Ideal) (k0_pay3 (F := Ideal) y wg) r wo

theorem PRE_at (y : FVec Ideal S256x1024 .bf16) (wg : FVec Ideal S1024x2048 .bf16) (r : FVec Ideal S256x1024 .f32) (wo : FVec Ideal S1024x1024 .bf16)
    (i : Fin 256) (j : Fin 1024) : PRE y wg r wo (ix2 i j)
      = Ideal.ofBits .f32 0x3FB504F3#32 * r (ix2 i j) + ∑ k : Fin 1024, glu (fun a b => wg (ix2 a b)) (fun a => y (ix2 i a)) k * (wo (ix2 k j) : EReal) := by
  pointwise [PRE, k0_pay11, k0_pay3, glu]

/-- A chunk of hidden units. -/
theorem hid_at (h : FVec Ideal S256x1024 .bf16) (w : FVec Ideal S1x1024x1024 .bf16) (i : Fin 256) (k : Fin 1024) :
    k0_pay21 (F := Ideal) h w (ix2 i k) = hid (fun j => w (ix3 0 j k)) (fun j => h (ix2 i j)) := by
  pointwise [k0_pay21, hid]

/-- A chunk of hidden units times its part of the second matrix, added. -/
theorem up_at (a : FVec Ideal S256x1024 .f32) (u : FVec Ideal S256x1024 .bf16) (w : FVec Ideal S1x1024x1024 .bf16) (i : Fin 256) (j : Fin 1024) :
    k0_pay19 (F := Ideal) a u w (ix2 i j) = a (ix2 i j) + ∑ k : Fin 1024, (u (ix2 i k) : EReal) * w (ix3 0 k j) := by
  pointwise [k0_pay19]

/-- The layer norm at this kernel's shapes. -/
abbrev NORM (X : FVec Ideal S256x1024 .f32) (g b : FVec Ideal S1x1024 .f32) : FVec Ideal S256x1024 .f32 :=
  LN X g b shapeCasts_S1x1024_S1x1024 reduces_S256x1024_S256 shapeCasts_S256_S256x1 broadcasts_S256x1_S256x1024 broadcasts_S1x1024_S256x1024

/-- The scaled rows and their squared-ReLU part, in four chunks. -/
def MLP (N : FVec Ideal S256x1024 .f32) (a1 c1 a2 c2 a3 c3 a4 c4 : FVec Ideal S1x1024x1024 .bf16) : FVec Ideal S256x1024 .f32 :=
  k0_pay19 (F := Ideal) (k0_pay19 (F := Ideal) (k0_pay19 (F := Ideal) (k0_pay19 (F := Ideal) (mulf (broadcast S256x1024 (Scalar.ofBits .f32 0x3FB504F3#32)) N)
    (k0_pay21 (F := Ideal) (truncf .bf16 N bitsLt_bf16_f32) a1) c1) (k0_pay21 (F := Ideal) (truncf .bf16 N bitsLt_bf16_f32) a2) c2)
    (k0_pay21 (F := Ideal) (truncf .bf16 N bitsLt_bf16_f32) a3) c3) (k0_pay21 (F := Ideal) (truncf .bf16 N bitsLt_bf16_f32) a4) c4

/-- The product with the joined down projections. -/
def AB (h : FVec Ideal S256x1024 .f32) (w : FVec Ideal S1024x768 .bf16) : FVec Ideal S256x768 .f32 := k0_pay45 (F := Ideal) h w

theorem AB_at (h : FVec Ideal S256x1024 .f32) (w : FVec Ideal S1024x768 .bf16) (i : Fin 256) (c : Fin 768) :
    AB h w (ix2 i c) = ∑ k : Fin 1024, (h (ix2 i k) : EReal) * w (ix2 k c) := by
  pointwise [AB, k0_pay45]

/-- The keys and values. -/
def KVB (a : FVec Ideal S256x768 .f32) (g : FVec Ideal S1x256 .f32) (w : FVec Ideal S256x2048 .bf16) : FVec Ideal S256x2048 .f32 :=
  k0_pay77 (F := Ideal) (k0_pay74 (F := Ideal) a g) w

theorem KVB_at (a : FVec Ideal S256x768 .f32) (g : FVec Ideal S1x256 .f32) (w : FVec Ideal S256x2048 .bf16) (i : Fin 256) (c : Fin 2048) :
    KVB a g w (ix2 i c) = ∑ k : Fin 256, rms 0x43800000#32 (fun k => g (ix2 0 k)) (fun k => a (ix2 i ⟨k, by omega⟩)) k * (w (ix2 k c) : EReal) := by
  pointwise [KVB, k0_pay77, k0_pay74, rms]

/-- The queries, scaled. -/
def QB (a : FVec Ideal S256x768 .f32) (g : FVec Ideal S1x384 .f32) (w : FVec Ideal S384x1536 .bf16) : FVec Ideal S256x1536 .f32 :=
  k0_pay72 (F := Ideal) (k0_pay71 (F := Ideal) (k0_pay43 (F := Ideal) a g) w) (Scalar.ofBits .f32 0x3DD53B95#32)

theorem QB_at (a : FVec Ideal S256x768 .f32) (g : FVec Ideal S1x384 .f32) (w : FVec Ideal S384x1536 .bf16) (i : Fin 256) (c : Fin 1536) :
    QB a g w (ix2 i c) = (∑ k : Fin 384, rms 0x43C00000#32 (fun k => g (ix2 0 k)) (fun k => a (ix2 i ⟨256 + k, by omega⟩)) k * (w (ix2 k c) : EReal))
      * Ideal.ofBits .f32 0x3DD53B95#32 := by
  pointwise [QB, k0_pay72, k0_pay71, k0_pay43, rms]

/-- The lanes whose partner stands 32 lanes on. -/
theorem near_at (i : Fin 256) (l : Fin 128) : k0_pay35 (ix2 i l) = if l.val % 64 < 32 then 1#1 else 0#1 := by
  revert l
  pointwise [k0_pay35]
  decide

/-- The first 64 lanes. -/
theorem low_at (i : Fin 256) (l : Fin 128) : k0_pay36 (ix2 i l) = if l.val < 64 then 1#1 else 0#1 := by
  revert l
  pointwise [k0_pay36]
  decide

/-- The rotation of 128 lanes. -/
def ROPE (a : FVec Ideal S256x128 .f32) (p : FVec Ideal S256x1 .f32) (f : FVec Ideal S1x128 .f32) : FVec Ideal S256x128 .f32 :=
  addf (mulf a (k0_pay37 (F := Ideal) p f)) (mulf (select k0_pay35 (dynamicRotate 1 96#32 none a rotates_S256x128_d1) (dynamicRotate 1 32#32 none a rotates_S256x128_d1))
    (k0_pay38 (F := Ideal) (k0_pay34 (F := Ideal) p f)))

theorem ROPE_at (a : FVec Ideal S256x128 .f32) (p : FVec Ideal S256x1 .f32) (f : FVec Ideal S1x128 .f32) (i : Fin 256) (l : Fin 128) :
    ROPE a p f (ix2 i l) = rot2 (p (ix2 i 0)) (fun l => f (ix2 0 l)) (fun l => a (ix2 i l)) l := by
  pointwise [ROPE, k0_pay37, k0_pay38, k0_pay34, rot2]
  have h1 : (⟨(l.val + 128 - 96) % 128, Nat.mod_lt _ (by omega)⟩ : Fin 128) = ⟨(l.val + 32) % 128, Nat.mod_lt _ (by omega)⟩ :=
    Fin.ext (show (l.val + 128 - 96) % 128 = (l.val + 32) % 128 by omega)
  have h2 : (⟨(l.val + 128 - 32) % 128, Nat.mod_lt _ (by omega)⟩ : Fin 128) = ⟨(l.val + 96) % 128, Nat.mod_lt _ (by omega)⟩ :=
    Fin.ext (show (l.val + 128 - 32) % 128 = (l.val + 96) % 128 by omega)
  rw [near_at, h1, h2]
  split <;> rfl

/-- Part of the lanes. -/
def SL {n : ℕ} (o : ℕ) (a : FVec Ideal ⟨2, ![256, n]⟩ .f32) (h : (⟨2, ![256, n]⟩ : Shape).Slices ![0, o] S256x128) : FVec Ideal S256x128 .f32 :=
  extractStridedSlice S256x128 ![0, o] a h

theorem SL_at {n : ℕ} (o : ℕ) (a : FVec Ideal ⟨2, ![256, n]⟩ .f32) (h) (i : Fin 256) (d : Fin 128) (hd : o + d < n) : SL o a h (ix2 i d) = a (ix2 i ⟨o + d, hd⟩) := by
  pointwise [SL]

/-- A half block as a piece of a head's array. -/
def PC (a : FVec Ideal S256x128 .f32) : FVec Ideal S1x1x256x128 .bf16 :=
  shapeCast S1x1x256x128 (truncf .bf16 a bitsLt_bf16_f32 : FVec Ideal S256x128 .bf16) shapeCasts_S256x128_S1x1x256x128

theorem PC_at (a : FVec Ideal S256x128 .f32) (i : Fin 256) (d : Fin 128) : PC a (ix4 0 0 i d) = a (ix2 i d) := by
  pointwise [PC]

/-- The first 64 lanes, zero beside them. -/
def LOW (a : FVec Ideal S256x128 .f32) : FVec Ideal S256x128 .f32 := select k0_pay36 a (broadcast S256x128 (Scalar.ofBits .f32 0x00000000#32))

theorem LOW_at (a : FVec Ideal S256x128 .f32) (i : Fin 256) (l : Fin 128) : LOW a (ix2 i l) = if l.val < 64 then a (ix2 i l) else 0 := by
  pointwise [LOW]
  rw [low_at]
  split <;> rfl

/-- The lanes rotated by half. -/
def FLIP (a : FVec Ideal S256x128 .f32) : FVec Ideal S256x128 .f32 := dynamicRotate 1 64#32 none a rotates_S256x128_d1

theorem FLIP_at (a : FVec Ideal S256x128 .f32) (i : Fin 256) (l : Fin 128) : FLIP a (ix2 i l) = a (ix2 i ⟨(l.val + 64) % 128, Nat.mod_lt _ (by omega)⟩) := by
  pointwise [FLIP]
  exact congrArg (fun q => a (ix2 i q)) (Fin.ext (show (l.val + 128 - 64) % 128 = (l.val + 64) % 128 by omega))

end Cert.Kernel3Ideal.Tail
-- ==== Proof.Tail.lean ====
/- The last kernel on one block of rows: what it stores in each of its five results, at every row and lane. -/
module

public import proofs.«01_k».proof.Proof.TailPay
public import proofs.«01_k».proof.Proof.Frame3Ideal
public import Idealize.ShloMosaic.Lib.Pipeline.ReadBack

@[expose] public section

set_option maxRecDepth 16384

noncomputable section

namespace Cert.Kernel3Ideal.Tail

open Idealize.ShloMosaic Idealize.ShloMosaic.TcCoe Idealize.SL.Sem
open Cert.Kernel3Ideal Cert.Kernel3Ideal.Gen Row

/-- A load of part of a block. -/
abbrev ldf {s : Shape} (x : FVec Ideal s .f32) (r : Rect s) : FVec Ideal r.shape .f32 := View.ld (Val := Elt Ideal) (e' := .f32) x r

abbrev ldb {s : Shape} (x : FVec Ideal s .bf16) (r : Rect s) : FVec Ideal r.shape .bf16 := View.ld (Val := Elt Ideal) (e' := .bf16) x r

/-- The first result on a half block. -/
def HALF (y : FVec Ideal S256x1024 .bf16) (wg : FVec Ideal S1024x2048 .bf16) (r : FVec Ideal S256x1024 .f32) (wo : FVec Ideal S1024x1024 .bf16) (g1 b1 : FVec Ideal S1x1024 .f32)
    (a1 c1 a2 c2 a3 c3 a4 c4 : FVec Ideal S1x1024x1024 .bf16) (g2 b2 : FVec Ideal S1x1024 .f32) : FVec Ideal S256x1024 .f32 :=
  NORM (MLP (NORM (PRE y wg r wo) g1 b1) a1 c1 a2 c2 a3 c3 a4 c4) g2 b2

variable (x0 : FVec Ideal S512x1024 .bf16) (x1 : FVec Ideal S512x1024 .f32) (x2 : FVec Ideal S512x1 .f32) (x3 : FVec Ideal S1024x2048 .bf16) (x4 : FVec Ideal S1024x1024 .bf16) (x5 : FVec Ideal S1x1024 .f32) (x6 : FVec Ideal S1x1024 .f32) (x7 : FVec Ideal S1x1024x4096 .bf16) (x8 : FVec Ideal S1x4096x1024 .bf16) (x9 : FVec Ideal S1x1024 .f32) (x10 : FVec Ideal S1x1024 .f32) (x11 : FVec Ideal S1x128 .f32) (x12 : FVec Ideal S1024x768 .bf16) (x13 : FVec Ideal S1x256 .f32) (x14 : FVec Ideal S256x2048 .bf16) (x15 : FVec Ideal S1x384 .f32) (x16 : FVec Ideal S384x1536 .bf16)

/-- The first result's row. -/
def HR (i : Fin 512) : Fin 1024 → EReal :=
  layer (glu (fun a b => x3 (ix2 a b)) (fun a => x0 (ix2 i a))) (fun k => x1 (ix2 i k)) (fun k j => x4 (ix2 k j)) (fun j => x5 (ix2 0 j)) (fun j => x6 (ix2 0 j))
    (fun k j => x7 (ix3 0 k j)) (fun k j => x8 (ix3 0 k j)) (fun j => x9 (ix2 0 j)) (fun j => x10 (ix2 0 j))

/-- The row's down projections, joined. -/
def AR (i : Fin 512) (c : Fin 768) : EReal := ∑ k : Fin 1024, HR x0 x1 x3 x4 x5 x6 x7 x8 x9 x10 i k * (x12 (ix2 k c) : EReal)

/-- The row's keys and values. -/
def KVR (i : Fin 512) (c : Fin 2048) : EReal :=
  ∑ k : Fin 256, rms 0x43800000#32 (fun k => x13 (ix2 0 k)) (fun k => AR x0 x1 x3 x4 x5 x6 x7 x8 x9 x10 x12 i ⟨k, by omega⟩) k * (x14 (ix2 k c) : EReal)

/-- The row's queries. -/
def QR (i : Fin 512) (c : Fin 1536) : EReal :=
  (∑ k : Fin 384, rms 0x43C00000#32 (fun k => x15 (ix2 0 k)) (fun k => AR x0 x1 x3 x4 x5 x6 x7 x8 x9 x10 x12 i ⟨256 + k, by omega⟩) k * (x16 (ix2 k c) : EReal))
    * Ideal.ofBits .f32 0x3DD53B95#32

/-- A half block's row, its matrices in four chunks. -/
theorem half_at (y : FVec Ideal S256x1024 .bf16) (r : FVec Ideal S256x1024 .f32) (o : Fin 512) (i : Fin 256)
    (h0 : ∀ k, y (ix2 i k) = x0 (ix2 o k)) (h1 : ∀ k, r (ix2 i k) = x1 (ix2 o k)) (j : Fin 1024) :
    HALF y (ldb x3 r0_1) r (ldb x4 r0_2) (ldf x5 r0_4) (ldf x6 r0_4) (ldb x7 r0_5) (ldb x8 r0_6) (ldb x7 r0_7) (ldb x8 r0_8) (ldb x7 r0_9) (ldb x8 r0_10) (ldb x7 r0_11) (ldb x8 r0_12) (ldf x9 r0_4) (ldf x10 r0_4) (ix2 i j)
      = HR x0 x1 x3 x4 x5 x6 x7 x8 x9 x10 o j := by
  have e3 : (fun a b => ldb x3 r0_1 (ix2 a b)) = fun a b => x3 (ix2 a b) := funext fun a => funext fun b => by pointwise [ldb]
  have e0 : (fun a => y (ix2 i a)) = fun a => x0 (ix2 o a) := funext h0
  have e4 : ∀ k j : Fin 1024, ldb x4 r0_2 (ix2 k j) = x4 (ix2 k j) := fun k j => by pointwise [ldb]
  have e5 : ∀ x : FVec Ideal S1x1024 .f32, (fun j : Fin 1024 => ldf x r0_4 (ix2 0 j)) = fun j => x (ix2 0 j) := fun x => funext fun j => by pointwise [ldf]
  have w1 : ∀ k j : Fin 1024, ldb x7 r0_5 (ix3 0 k j) = x7 (ix3 0 k ⟨j, by omega⟩) := fun k j => by pointwise [ldb]
  have w2 : ∀ k j : Fin 1024, ldb x7 r0_7 (ix3 0 k j) = x7 (ix3 0 k ⟨1024 + j, by omega⟩) := fun k j => by pointwise [ldb]
  have w3 : ∀ k j : Fin 1024, ldb x7 r0_9 (ix3 0 k j) = x7 (ix3 0 k ⟨2048 + j, by omega⟩) := fun k j => by pointwise [ldb]
  have w4 : ∀ k j : Fin 1024, ldb x7 r0_11 (ix3 0 k j) = x7 (ix3 0 k ⟨3072 + j, by omega⟩) := fun k j => by pointwise [ldb]
  have u1 : ∀ k j : Fin 1024, ldb x8 r0_6 (ix3 0 k j) = x8 (ix3 0 ⟨k, by omega⟩ j) := fun k j => by pointwise [ldb]
  have u2 : ∀ k j : Fin 1024, ldb x8 r0_8 (ix3 0 k j) = x8 (ix3 0 ⟨1024 + k, by omega⟩ j) := fun k j => by pointwise [ldb]
  have u3 : ∀ k j : Fin 1024, ldb x8 r0_10 (ix3 0 k j) = x8 (ix3 0 ⟨2048 + k, by omega⟩ j) := fun k j => by pointwise [ldb]
  have u4 : ∀ k j : Fin 1024, ldb x8 r0_12 (ix3 0 k j) = x8 (ix3 0 ⟨3072 + k, by omega⟩ j) := fun k j => by pointwise [ldb]
  have n1 : ∀ j, NORM (PRE y (ldb x3 r0_1) r (ldb x4 r0_2)) (ldf x5 r0_4) (ldf x6 r0_4) (ix2 i j)
      = norm (fun j => x5 (ix2 0 j)) (fun j => x6 (ix2 0 j)) (fun j => Ideal.ofBits .f32 0x3FB504F3#32 * x1 (ix2 o j)
        + ∑ k : Fin 1024, glu (fun a b => x3 (ix2 a b)) (fun a => x0 (ix2 o a)) k * x4 (ix2 k j)) j := fun j => by
    rw [NORM, LN_at, e5 x5, e5 x6]
    simp only [PRE_at, e3, e0, h1, e4]
  rw [HALF, NORM, LN_at, e5 x9, e5 x10]
  refine congrArg (fun f => Row.norm (fun j => x9 (ix2 0 j)) (fun j => x10 (ix2 0 j)) f j) (funext fun j => ?_)
  generalize hN : NORM (PRE y (ldb x3 r0_1) r (ldb x4 r0_2)) (ldf x5 r0_4) (ldf x6 r0_4) = N at n1 ⊢
  have t : ∀ k, (truncf .bf16 N bitsLt_bf16_f32 : FVec Ideal S256x1024 .bf16) (ix2 i k) = N (ix2 i k) := fun k => rfl
  have s : (mulf (broadcast S256x1024 (Scalar.ofBits .f32 0x3FB504F3#32)) N : FVec Ideal S256x1024 .f32) (ix2 i j) = Ideal.ofBits .f32 0x3FB504F3#32 * N (ix2 i j) := rfl
  simp only [MLP, up_at, hid_at, s, t, n1, w1, w2, w3, w4, u1, u2, u3, u4]
  simp only [mlp, sum4, add_assoc]

theorem h1_eq : k0_pay31 (F := Ideal) (k0_pay157 (F := Ideal) x0 x1 x2 x3 x4 x5 x6 x7 x8 x9 x10 x11 x12 x13 x14 x15 x16) (k0_pay158 (F := Ideal) x0 x1 x2 x3 x4 x5 x6 x7 x8 x9 x10 x11 x12 x13 x14 x15 x16) (k0_pay159 (F := Ideal) x0 x1 x2 x3 x4 x5 x6 x7 x8 x9 x10 x11 x12 x13 x14 x15 x16) (k0_pay160 (F := Ideal) x0 x1 x2 x3 x4 x5 x6 x7 x8 x9 x10 x11 x12 x13 x14 x15 x16)
    = HALF (ldb x0 r0_0) (ldb x3 r0_1) (ldf x1 r0_0) (ldb x4 r0_2) (ldf x5 r0_4) (ldf x6 r0_4) (ldb x7 r0_5) (ldb x8 r0_6) (ldb x7 r0_7) (ldb x8 r0_8) (ldb x7 r0_9) (ldb x8 r0_10) (ldb x7 r0_11) (ldb x8 r0_12) (ldf x9 r0_4) (ldf x10 r0_4) := rfl

theorem h2_eq : k0_pay39 (F := Ideal) (k0_pay161 (F := Ideal) x0 x1 x2 x3 x4 x5 x6 x7 x8 x9 x10 x11 x12 x13 x14 x15 x16) (ldf x9 r0_4) (ldf x10 r0_4)
    = HALF (ldb x0 r0_3) (ldb x3 r0_1) (ldf x1 r0_3) (ldb x4 r0_2) (ldf x5 r0_4) (ldf x6 r0_4) (ldb x7 r0_5) (ldb x8 r0_6) (ldb x7 r0_7) (ldb x8 r0_8) (ldb x7 r0_9) (ldb x8 r0_10) (ldb x7 r0_11) (ldb x8 r0_12) (ldf x9 r0_4) (ldf x10 r0_4) := rfl

theorem a1_eq : k0_pay162 (F := Ideal) x0 x1 x2 x3 x4 x5 x6 x7 x8 x9 x10 x11 x12 x13 x14 x15 x16 = AB (HALF (ldb x0 r0_0) (ldb x3 r0_1) (ldf x1 r0_0) (ldb x4 r0_2) (ldf x5 r0_4) (ldf x6 r0_4) (ldb x7 r0_5) (ldb x8 r0_6) (ldb x7 r0_7) (ldb x8 r0_8) (ldb x7 r0_9) (ldb x8 r0_10) (ldb x7 r0_11) (ldb x8 r0_12) (ldf x9 r0_4) (ldf x10 r0_4)) (ldb x12 r0_13) := rfl

theorem a2_eq : k0_pay169 (F := Ideal) x0 x1 x2 x3 x4 x5 x6 x7 x8 x9 x10 x11 x12 x13 x14 x15 x16 = AB (HALF (ldb x0 r0_3) (ldb x3 r0_1) (ldf x1 r0_3) (ldb x4 r0_2) (ldf x5 r0_4) (ldf x6 r0_4) (ldb x7 r0_5) (ldb x8 r0_6) (ldb x7 r0_7) (ldb x8 r0_8) (ldb x7 r0_9) (ldb x8 r0_10) (ldb x7 r0_11) (ldb x8 r0_12) (ldf x9 r0_4) (ldf x10 r0_4)) (ldb x12 r0_13) := rfl

theorem k1_eq : k0_pay168 (F := Ideal) x0 x1 x2 x3 x4 x5 x6 x7 x8 x9 x10 x11 x12 x13 x14 x15 x16 = KVB (k0_pay162 (F := Ideal) x0 x1 x2 x3 x4 x5 x6 x7 x8 x9 x10 x11 x12 x13 x14 x15 x16) (ldf x13 r0_17) (ldb x14 r0_19) := rfl

theorem k2_eq : k0_pay178 (F := Ideal) x0 x1 x2 x3 x4 x5 x6 x7 x8 x9 x10 x11 x12 x13 x14 x15 x16 = KVB (k0_pay169 (F := Ideal) x0 x1 x2 x3 x4 x5 x6 x7 x8 x9 x10 x11 x12 x13 x14 x15 x16) (ldf x13 r0_17) (ldb x14 r0_19) := rfl

theorem q1_eq : k0_pay176 (F := Ideal) x0 x1 x2 x3 x4 x5 x6 x7 x8 x9 x10 x11 x12 x13 x14 x15 x16 = QB (k0_pay162 (F := Ideal) x0 x1 x2 x3 x4 x5 x6 x7 x8 x9 x10 x11 x12 x13 x14 x15 x16) (ldf x15 r0_18) (ldb x16 r0_29) := rfl

theorem q2_eq : k0_pay179 (F := Ideal) x0 x1 x2 x3 x4 x5 x6 x7 x8 x9 x10 x11 x12 x13 x14 x15 x16 = QB (k0_pay169 (F := Ideal) x0 x1 x2 x3 x4 x5 x6 x7 x8 x9 x10 x11 x12 x13 x14 x15 x16) (ldf x15 r0_18) (ldb x16 r0_29) := rfl

theorem h1_at (i : Fin 256) (j : Fin 1024) : HALF (ldb x0 r0_0) (ldb x3 r0_1) (ldf x1 r0_0) (ldb x4 r0_2) (ldf x5 r0_4) (ldf x6 r0_4) (ldb x7 r0_5) (ldb x8 r0_6) (ldb x7 r0_7) (ldb x8 r0_8) (ldb x7 r0_9) (ldb x8 r0_10) (ldb x7 r0_11) (ldb x8 r0_12) (ldf x9 r0_4) (ldf x10 r0_4) (ix2 i j) = HR x0 x1 x3 x4 x5 x6 x7 x8 x9 x10 ⟨i, by omega⟩ j :=
  half_at x0 x1 x3 x4 x5 x6 x7 x8 x9 x10 (ldb x0 r0_0) (ldf x1 r0_0) ⟨i, by omega⟩ i (fun k => by pointwise [ldb]) (fun k => by pointwise [ldf]) j

theorem h2_at (i : Fin 256) (j : Fin 1024) : HALF (ldb x0 r0_3) (ldb x3 r0_1) (ldf x1 r0_3) (ldb x4 r0_2) (ldf x5 r0_4) (ldf x6 r0_4) (ldb x7 r0_5) (ldb x8 r0_6) (ldb x7 r0_7) (ldb x8 r0_8) (ldb x7 r0_9) (ldb x8 r0_10) (ldb x7 r0_11) (ldb x8 r0_12) (ldf x9 r0_4) (ldf x10 r0_4) (ix2 i j) = HR x0 x1 x3 x4 x5 x6 x7 x8 x9 x10 ⟨256 + i, by omega⟩ j :=
  half_at x0 x1 x3 x4 x5 x6 x7 x8 x9 x10 (ldb x0 r0_3) (ldf x1 r0_3) ⟨256 + i, by omega⟩ i (fun k => by pointwise [ldb]) (fun k => by pointwise [ldf]) j

theorem ld12 (k : Fin 1024) (c : Fin 768) : ldb x12 r0_13 (ix2 k c) = x12 (ix2 k c) := by pointwise [ldb]
theorem ld13 (k : Fin 256) : ldf x13 r0_17 (ix2 0 k) = x13 (ix2 0 k) := by pointwise [ldf]
theorem ld14 (k : Fin 256) (c : Fin 2048) : ldb x14 r0_19 (ix2 k c) = x14 (ix2 k c) := by pointwise [ldb]
theorem ld15 (k : Fin 384) : ldf x15 r0_18 (ix2 0 k) = x15 (ix2 0 k) := by pointwise [ldf]
theorem ld16 (k : Fin 384) (c : Fin 1536) : ldb x16 r0_29 (ix2 k c) = x16 (ix2 k c) := by pointwise [ldb]

theorem ab_of (h : FVec Ideal S256x1024 .f32) (w : FVec Ideal S1024x768 .bf16) (i : Fin 256) (o : Fin 512) (hh : ∀ k, h (ix2 i k) = HR x0 x1 x3 x4 x5 x6 x7 x8 x9 x10 o k)
    (hw : ∀ k c, w (ix2 k c) = x12 (ix2 k c)) (c : Fin 768) : AB h w (ix2 i c) = AR x0 x1 x3 x4 x5 x6 x7 x8 x9 x10 x12 o c := by
  rw [AB_at]
  simp only [hh, hw]
  rfl

theorem kv_of (a : FVec Ideal S256x768 .f32) (g : FVec Ideal S1x256 .f32) (w : FVec Ideal S256x2048 .bf16) (i : Fin 256) (o : Fin 512)
    (ha : ∀ c, a (ix2 i c) = AR x0 x1 x3 x4 x5 x6 x7 x8 x9 x10 x12 o c) (hg : ∀ k, g (ix2 0 k) = x13 (ix2 0 k)) (hw : ∀ k c, w (ix2 k c) = x14 (ix2 k c)) (c : Fin 2048) :
    KVB a g w (ix2 i c) = KVR x0 x1 x3 x4 x5 x6 x7 x8 x9 x10 x12 x13 x14 o c := by
  rw [KVB_at]
  simp only [ha, hg, hw]
  rfl

theorem q_of (a : FVec Ideal S256x768 .f32) (g : FVec Ideal S1x384 .f32) (w : FVec Ideal S384x1536 .bf16) (i : Fin 256) (o : Fin 512)
    (ha : ∀ c, a (ix2 i c) = AR x0 x1 x3 x4 x5 x6 x7 x8 x9 x10 x12 o c) (hg : ∀ k, g (ix2 0 k) = x15 (ix2 0 k)) (hw : ∀ k c, w (ix2 k c) = x16 (ix2 k c)) (c : Fin 1536) :
    QB a g w (ix2 i c) = QR x0 x1 x3 x4 x5 x6 x7 x8 x9 x10 x12 x15 x16 o c := by
  rw [QB_at]
  simp only [ha, hg, hw]
  rfl

theorem a1_at (i : Fin 256) (c : Fin 768) : k0_pay162 (F := Ideal) x0 x1 x2 x3 x4 x5 x6 x7 x8 x9 x10 x11 x12 x13 x14 x15 x16 (ix2 i c) = AR x0 x1 x3 x4 x5 x6 x7 x8 x9 x10 x12 ⟨i, by omega⟩ c :=
  (congrFun (a1_eq x0 x1 x2 x3 x4 x5 x6 x7 x8 x9 x10 x11 x12 x13 x14 x15 x16) _).trans (ab_of x0 x1 x3 x4 x5 x6 x7 x8 x9 x10 x12 _ _ i ⟨i, by omega⟩ (h1_at x0 x1 x3 x4 x5 x6 x7 x8 x9 x10 i) (ld12 x12) c)

theorem a2_at (i : Fin 256) (c : Fin 768) : k0_pay169 (F := Ideal) x0 x1 x2 x3 x4 x5 x6 x7 x8 x9 x10 x11 x12 x13 x14 x15 x16 (ix2 i c) = AR x0 x1 x3 x4 x5 x6 x7 x8 x9 x10 x12 ⟨256 + i, by omega⟩ c :=
  (congrFun (a2_eq x0 x1 x2 x3 x4 x5 x6 x7 x8 x9 x10 x11 x12 x13 x14 x15 x16) _).trans (ab_of x0 x1 x3 x4 x5 x6 x7 x8 x9 x10 x12 _ _ i ⟨256 + i, by omega⟩ (h2_at x0 x1 x3 x4 x5 x6 x7 x8 x9 x10 i) (ld12 x12) c)

theorem k1_at (i : Fin 256) (c : Fin 2048) : k0_pay168 (F := Ideal) x0 x1 x2 x3 x4 x5 x6 x7 x8 x9 x10 x11 x12 x13 x14 x15 x16 (ix2 i c) = KVR x0 x1 x3 x4 x5 x6 x7 x8 x9 x10 x12 x13 x14 ⟨i, by omega⟩ c :=
  (congrFun (k1_eq x0 x1 x2 x3 x4 x5 x6 x7 x8 x9 x10 x11 x12 x13 x14 x15 x16) _).trans (kv_of x0 x1 x3 x4 x5 x6 x7 x8 x9 x10 x12 x13 x14 _ _ _ i ⟨i, by omega⟩ (a1_at x0 x1 x2 x3 x4 x5 x6 x7 x8 x9 x10 x11 x12 x13 x14 x15 x16 i) (ld13 x13) (ld14 x14) c)

theorem k2_at (i : Fin 256) (c : Fin 2048) : k0_pay178 (F := Ideal) x0 x1 x2 x3 x4 x5 x6 x7 x8 x9 x10 x11 x12 x13 x14 x15 x16 (ix2 i c) = KVR x0 x1 x3 x4 x5 x6 x7 x8 x9 x10 x12 x13 x14 ⟨256 + i, by omega⟩ c :=
  (congrFun (k2_eq x0 x1 x2 x3 x4 x5 x6 x7 x8 x9 x10 x11 x12 x13 x14 x15 x16) _).trans (kv_of x0 x1 x3 x4 x5 x6 x7 x8 x9 x10 x12 x13 x14 _ _ _ i ⟨256 + i, by omega⟩ (a2_at x0 x1 x2 x3 x4 x5 x6 x7 x8 x9 x10 x11 x12 x13 x14 x15 x16 i) (ld13 x13) (ld14 x14) c)

theorem q1_at (i : Fin 256) (c : Fin 1536) : k0_pay176 (F := Ideal) x0 x1 x2 x3 x4 x5 x6 x7 x8 x9 x10 x11 x12 x13 x14 x15 x16 (ix2 i c) = QR x0 x1 x3 x4 x5 x6 x7 x8 x9 x10 x12 x15 x16 ⟨i, by omega⟩ c :=
  (congrFun (q1_eq x0 x1 x2 x3 x4 x5 x6 x7 x8 x9 x10 x11 x12 x13 x14 x15 x16) _).trans (q_of x0 x1 x3 x4 x5 x6 x7 x8 x9 x10 x12 x15 x16 _ _ _ i ⟨i, by omega⟩ (a1_at x0 x1 x2 x3 x4 x5 x6 x7 x8 x9 x10 x11 x12 x13 x14 x15 x16 i) (ld15 x15) (ld16 x16) c)

theorem q2_at (i : Fin 256) (c : Fin 1536) : k0_pay179 (F := Ideal) x0 x1 x2 x3 x4 x5 x6 x7 x8 x9 x10 x11 x12 x13 x14 x15 x16 (ix2 i c) = QR x0 x1 x3 x4 x5 x6 x7 x8 x9 x10 x12 x15 x16 ⟨256 + i, by omega⟩ c :=
  (congrFun (q2_eq x0 x1 x2 x3 x4 x5 x6 x7 x8 x9 x10 x11 x12 x13 x14 x15 x16) _).trans (q_of x0 x1 x3 x4 x5 x6 x7 x8 x9 x10 x12 x15 x16 _ _ _ i ⟨256 + i, by omega⟩ (a2_at x0 x1 x2 x3 x4 x5 x6 x7 x8 x9 x10 x11 x12 x13 x14 x15 x16 i) (ld15 x15) (ld16 x16) c)

end Cert.Kernel3Ideal.Tail
-- ==== Proof.TailOut.lean ====
/- The last kernel on one block of rows: what it leaves in each of its five results, at every position. -/
module

public import proofs.«01_k».proof.Proof.Tail

@[expose] public section

set_option maxRecDepth 16384

noncomputable section

namespace Cert.Kernel3Ideal.Tail

open Idealize.ShloMosaic Idealize.ShloMosaic.TcCoe Idealize.SL.Sem
open Cert.Kernel3Ideal Cert.Kernel3Ideal.Gen Row

/-- The rows of the two half blocks. -/
abbrev lo (i : Fin 256) : Fin 512 := ⟨i, by omega⟩

abbrev hi (i : Fin 256) : Fin 512 := ⟨256 + i, by omega⟩

/-- A store of 256 rows and 128 lanes of one head: each position holds the result's element there. -/
theorem piece {n : ℕ} (p : FVec Ideal S1x1x256x128 .bf16) (A : FVec Ideal S256x128 .f32) (hp : p = PC A) (G : (⟨4, ![1, 8, 512, n]⟩ : Shape).Idx → EReal) (h o l : ℕ) (k : Fin 8) (f : Fin 256 → Fin 512)
    (g : Fin 128 → Fin n) (hk : k.val = h) (hf : ∀ i, (f i).val = o + i) (hg : ∀ d, (g d).val = l + d) (hA : ∀ i d, A (ix2 i d) = G (ix4 0 k (f i) (g d)))
    (hin) (x : S1x1x256x128.Idx) : p x = G ((Rect.unit (s := ⟨4, ![1, 8, 512, n]⟩) ![0, h, o, l] S1x1x256x128.size hin).emb x) := by
  obtain ⟨a, b, i, d, rfl⟩ : ∃ (a b : Fin 1) (i : Fin 256) (d : Fin 128), x = ix4 a b i d := ⟨x 0, x 1, x 2, x 3, eq_ix4 x⟩
  obtain rfl : a = 0 := Subsingleton.elim _ _
  obtain rfl : b = 0 := Subsingleton.elim _ _
  refine (congrFun hp _).trans ((PC_at A i d).trans ((hA i d).trans (congrArg G ?_)))
  funext e
  have := hf i
  have := hg d
  fin_cases e <;> apply Fin.ext <;> simp_all [Rect.unit, Rect.emb]

/-- The keys' or values' lanes as an array over the heads. -/
def KVL (R : Fin 512 → Fin 2048 → EReal) (b : ℕ) (hb : b ≤ 1024) (i : Fin 512) (h : Fin 8) (l : Fin 128) : EReal := R i ⟨b + h.val * 128 + l.val, by omega⟩

def GKV (R : Fin 512 → Fin 2048 → EReal) (b : ℕ) (hb : b ≤ 1024) (y : S1x8x512x128.Idx) : EReal := KVL R b hb (y 2) (y 1) (y 3)

theorem kv_piece (R : Fin 512 → Fin 2048 → EReal) (K : FVec Ideal S256x2048 .f32) (f : Fin 256 → Fin 512) (hK : ∀ i c, K (ix2 i c) = R (f i) c) (o : ℕ) (hf : ∀ i, (f i).val = o + i)
    (b : ℕ) (hb : b ≤ 1024) (h : ℕ) (hh : h < 8) (e : ℕ) (he : e = b + h * 128) (hs) (p : FVec Ideal S1x1x256x128 .bf16) (hp : p = PC (SL e K hs)) (hin) (x : S1x1x256x128.Idx) :
    p x = GKV R b hb ((Rect.unit (s := S1x8x512x128) ![0, h, o, 0] S1x1x256x128.size hin).emb x) := by
  subst he
  exact piece p _ hp (GKV R b hb) h o 0 ⟨h, hh⟩ f id rfl hf (fun d => (Nat.zero_add _).symm) (fun i d => (SL_at _ K hs i d (by omega)).trans (hK i _)) hin x

/-- A query's lanes: its head's own, its rotated ones, and zeros. -/
def QL (R : Fin 512 → Fin 1536 → EReal) (P : Fin 512 → EReal) (F : Fin 128 → EReal) (i : Fin 512) (h : Fin 8) (l : Fin 256) : EReal :=
  if hl : l.val < 128 then R i ⟨h.val * 128 + l.val, by omega⟩
  else if l.val < 192 then rot2 (P i) F (fun l => R i ⟨1024 + h.val / 2 * 128 + l, by omega⟩) ⟨(h.val % 2 * 64 + (l.val - 128)) % 128, Nat.mod_lt _ (by omega)⟩
  else 0

def GQ (R : Fin 512 → Fin 1536 → EReal) (P : Fin 512 → EReal) (F : Fin 128 → EReal) (y : S1x8x512x256.Idx) : EReal := QL R P F (y 2) (y 1) (y 3)

section

variable (R : Fin 512 → Fin 1536 → EReal) (P : Fin 512 → EReal) (F : Fin 128 → EReal) (Q : FVec Ideal S256x1536 .f32) (f : Fin 256 → Fin 512) (hQ : ∀ i c, Q (ix2 i c) = R (f i) c)
  (o : ℕ) (hf : ∀ i, (f i).val = o + i) (q : FVec Ideal S256x1 .f32) (hq : ∀ i, q (ix2 i 0) = P (f i)) (w : FVec Ideal S1x128 .f32) (hw : ∀ l, w (ix2 0 l) = F l)

include hQ in
theorem near_piece (hf : ∀ i, (f i).val = o + i) (h : ℕ) (hh : h < 8) (e : ℕ) (he : e = h * 128) (hs) (p : FVec Ideal S1x1x256x128 .bf16) (hp : p = PC (SL e Q hs)) (hin) (x : S1x1x256x128.Idx) :
    p x = GQ R P F ((Rect.unit (s := S1x8x512x256) ![0, h, o, 0] S1x1x256x128.size hin).emb x) := by
  subst he
  refine piece p _ hp (GQ R P F) h o 0 ⟨h, hh⟩ f (fun d => ⟨d, by omega⟩) rfl hf (fun d => (Nat.zero_add _).symm) (fun i d => (SL_at _ Q hs i d (by omega)).trans ((hQ i _).trans ?_)) hin x
  show _ = QL R P F (f i) ⟨h, hh⟩ ⟨d, _⟩
  rw [QL, dif_pos d.isLt]

include hQ hq hw in
theorem rope_at (r : ℕ) (e : ℕ) (hr : r < 4) (he : e = 1024 + r * 128) (hs) (i : Fin 256) (l : Fin 128) :
    ROPE (SL e Q hs) q w (ix2 i l) = rot2 (P (f i)) F (fun l => R (f i) ⟨1024 + r * 128 + l, by omega⟩) l := by
  subst he
  rw [ROPE_at, hq]
  simp only [hw]
  refine congrArg (fun a => rot2 (P (f i)) F a l) (funext fun l => ?_)
  exact (SL_at _ Q hs i l (by omega)).trans (hQ i _)

include hQ hq hw in
theorem even_piece (hf : ∀ i, (f i).val = o + i) (h r : ℕ) (hr : r < 4) (hh : h = 2 * r) (e : ℕ) (he : e = 1024 + r * 128) (hs) (p : FVec Ideal S1x1x256x128 .bf16)
    (hp : p = PC (LOW (ROPE (SL e Q hs) q w))) (hin) (x : S1x1x256x128.Idx) :
    p x = GQ R P F ((Rect.unit (s := S1x8x512x256) ![0, h, o, 128] S1x1x256x128.size hin).emb x) := by
  refine piece p _ hp (GQ R P F) h o 128 ⟨h, by omega⟩ f (fun d => ⟨128 + d, by omega⟩) rfl hf (fun d => rfl) (fun i d => ?_) hin x
  rw [LOW_at, rope_at R P F Q f hQ q hq w hw r e hr he]
  show _ = QL R P F (f i) ⟨h, _⟩ ⟨128 + d, _⟩
  rw [QL, dif_neg (by show ¬ 128 + d.val < 128; omega)]
  subst hh
  by_cases hd : d.val < 64
  · rw [if_pos hd, if_pos (by show 128 + d.val < 192; omega)]
    congr 1
    · funext l; congr 1; apply Fin.ext; show 1024 + r * 128 + l.val = 1024 + 2 * r / 2 * 128 + l.val; omega
    · apply Fin.ext; show d.val = (2 * r % 2 * 64 + (128 + d.val - 128)) % 128; omega
  · rw [if_neg hd, if_neg (by show ¬ 128 + d.val < 192; omega)]

include hQ hq hw in
theorem odd_piece (hf : ∀ i, (f i).val = o + i) (h r : ℕ) (hr : r < 4) (hh : h = 2 * r + 1) (e : ℕ) (he : e = 1024 + r * 128) (hs) (p : FVec Ideal S1x1x256x128 .bf16)
    (hp : p = PC (LOW (FLIP (ROPE (SL e Q hs) q w)))) (hin) (x : S1x1x256x128.Idx) :
    p x = GQ R P F ((Rect.unit (s := S1x8x512x256) ![0, h, o, 128] S1x1x256x128.size hin).emb x) := by
  refine piece p _ hp (GQ R P F) h o 128 ⟨h, by omega⟩ f (fun d => ⟨128 + d, by omega⟩) rfl hf (fun d => rfl) (fun i d => ?_) hin x
  rw [LOW_at, FLIP_at, rope_at R P F Q f hQ q hq w hw r e hr he]
  show _ = QL R P F (f i) ⟨h, _⟩ ⟨128 + d, _⟩
  rw [QL, dif_neg (by show ¬ 128 + d.val < 128; omega)]
  subst hh
  by_cases hd : d.val < 64
  · rw [if_pos hd, if_pos (by show 128 + d.val < 192; omega)]
    congr 1
    · funext l; congr 1; apply Fin.ext; show 1024 + r * 128 + l.val = 1024 + (2 * r + 1) / 2 * 128 + l.val; omega
    · apply Fin.ext; show (d.val + 64) % 128 = ((2 * r + 1) % 2 * 64 + (128 + d.val - 128)) % 128; omega
  · rw [if_neg hd, if_neg (by show ¬ 128 + d.val < 192; omega)]

end

variable (x0 : FVec Ideal S512x1024 .bf16) (x1 : FVec Ideal S512x1024 .f32) (x2 : FVec Ideal S512x1 .f32) (x3 : FVec Ideal S1024x2048 .bf16) (x4 : FVec Ideal S1024x1024 .bf16) (x5 : FVec Ideal S1x1024 .f32) (x6 : FVec Ideal S1x1024 .f32) (x7 : FVec Ideal S1x1024x4096 .bf16) (x8 : FVec Ideal S1x4096x1024 .bf16) (x9 : FVec Ideal S1x1024 .f32) (x10 : FVec Ideal S1x1024 .f32) (x11 : FVec Ideal S1x128 .f32) (x12 : FVec Ideal S1024x768 .bf16) (x13 : FVec Ideal S1x256 .f32) (x14 : FVec Ideal S256x2048 .bf16) (x15 : FVec Ideal S1x384 .f32) (x16 : FVec Ideal S384x1536 .bf16)

theorem pos_lo (i : Fin 256) : ldf x2 r0_14 (ix2 i 0) = x2 (ix2 (lo i) 0) := by pointwise [ldf]

theorem pos_hi (i : Fin 256) : ldf x2 r0_20 (ix2 i 0) = x2 (ix2 (hi i) 0) := by pointwise [ldf]

theorem freq_ld (l : Fin 128) : ldf x11 r0_15 (ix2 0 l) = x11 (ix2 0 l) := by pointwise [ldf]

/-- The first result's block. -/
def G17 (y : S512x1024.Idx) : EReal := HR x0 x1 x3 x4 x5 x6 x7 x8 x9 x10 (y 0) (y 1)

theorem out17 (y : S512x1024.Idx) : out0_17 (F := Ideal) x0 x1 x2 x3 x4 x5 x6 x7 x8 x9 x10 x11 x12 x13 x14 x15 x16 y = G17 x0 x1 x3 x4 x5 x6 x7 x8 x9 x10 y := by
  unfold out0_17
  refine View.canon_apply_of_pieces (Val := Elt Ideal) (e := .f32) (G17 x0 x1 x3 x4 x5 x6 x7 x8 x9 x10) _ (fun p hp x => ?_) y (cover0_17 _ _ y)
  rcases List.mem_cons.1 hp with rfl | hp
  · obtain ⟨i, j, rfl⟩ : ∃ (i : Fin 256) (j : Fin 1024), x = ix2 i j := ⟨x 0, x 1, eq_ix2 x⟩
    refine (congrFun (h2_eq x0 x1 x2 x3 x4 x5 x6 x7 x8 x9 x10 x11 x12 x13 x14 x15 x16) _).trans ((h2_at x0 x1 x3 x4 x5 x6 x7 x8 x9 x10 i j).trans (b := G17 x0 x1 x3 x4 x5 x6 x7 x8 x9 x10 (ix2 (hi i) j)) (congrArg (G17 x0 x1 x3 x4 x5 x6 x7 x8 x9 x10) ?_))
    funext b
    fin_cases b <;> apply Fin.ext <;> simp [Rect.unit, Rect.emb]
  · obtain rfl := List.mem_singleton.1 hp
    obtain ⟨i, j, rfl⟩ : ∃ (i : Fin 256) (j : Fin 1024), x = ix2 i j := ⟨x 0, x 1, eq_ix2 x⟩
    refine (congrFun (h1_eq x0 x1 x2 x3 x4 x5 x6 x7 x8 x9 x10 x11 x12 x13 x14 x15 x16) _).trans ((h1_at x0 x1 x3 x4 x5 x6 x7 x8 x9 x10 i j).trans (b := G17 x0 x1 x3 x4 x5 x6 x7 x8 x9 x10 (ix2 (lo i) j)) (congrArg (G17 x0 x1 x3 x4 x5 x6 x7 x8 x9 x10) ?_))
    funext b
    fin_cases b <;> apply Fin.ext <;> simp [Rect.unit, Rect.emb]

/-- The shared rotated key's block. -/
def G20 (y : S1x512x128.Idx) : EReal := rot2 (x2 (ix2 (y 1) 0)) (fun l => x11 (ix2 0 l)) (fun l => AR x0 x1 x3 x4 x5 x6 x7 x8 x9 x10 x12 (y 1) ⟨640 + l, by omega⟩) (y 2)

/-- Half of that block. -/
def PC3 (a : FVec Ideal S256x128 .f32) : FVec Ideal S1x256x128 .bf16 := shapeCast S1x256x128 (truncf .bf16 a bitsLt_bf16_f32 : FVec Ideal S256x128 .bf16) shapeCasts_S256x128_S1x256x128

theorem PC3_at (a : FVec Ideal S256x128 .f32) (i : Fin 256) (d : Fin 128) : PC3 a (ix3 0 i d) = a (ix2 i d) := by
  pointwise [PC3]

theorem rope20 (A : FVec Ideal S256x768 .f32) (f : Fin 256 → Fin 512) (hA : ∀ i c, A (ix2 i c) = AR x0 x1 x3 x4 x5 x6 x7 x8 x9 x10 x12 (f i) c) (q : FVec Ideal S256x1 .f32) (hq : ∀ i, q (ix2 i 0) = x2 (ix2 (f i) 0))
    (w : FVec Ideal S1x128 .f32) (hw : ∀ l, w (ix2 0 l) = x11 (ix2 0 l)) (hs) (i : Fin 256) (l : Fin 128) :
    PC3 (ROPE (SL 640 A hs) q w) (ix3 0 i l) = G20 x0 x1 x2 x3 x4 x5 x6 x7 x8 x9 x10 x11 x12 (ix3 0 (f i) l) := by
  rw [PC3_at, ROPE_at, hq]
  simp only [hw]
  refine congrArg (fun a => rot2 (x2 (ix2 (f i) 0)) (fun l => x11 (ix2 0 l)) a l) (funext fun l => ?_)
  exact (SL_at _ A hs i l (by omega)).trans (hA i _)

theorem out20 (y : S1x512x128.Idx) : out0_20 (F := Ideal) x0 x1 x2 x3 x4 x5 x6 x7 x8 x9 x10 x11 x12 x13 x14 x15 x16 y = G20 x0 x1 x2 x3 x4 x5 x6 x7 x8 x9 x10 x11 x12 y := by
  unfold out0_20
  refine View.canon_apply_of_pieces (Val := Elt Ideal) (e := .bf16) (G20 x0 x1 x2 x3 x4 x5 x6 x7 x8 x9 x10 x11 x12) _ (fun p hp x => ?_) y (cover0_20 _ _ y)
  rcases List.mem_cons.1 hp with rfl | hp
  · obtain ⟨a, i, j, rfl⟩ : ∃ (a : Fin 1) (i : Fin 256) (j : Fin 128), x = ix3 a i j := ⟨x 0, x 1, x 2, eq_ix3 x⟩
    obtain rfl : a = 0 := Subsingleton.elim _ _
    refine (rope20 x0 x1 x2 x3 x4 x5 x6 x7 x8 x9 x10 x11 x12 _ hi (a2_at x0 x1 x2 x3 x4 x5 x6 x7 x8 x9 x10 x11 x12 x13 x14 x15 x16) _ (pos_hi x2) _ (freq_ld x11) (by decide) i j).trans (congrArg _ ?_)
    funext b
    fin_cases b <;> apply Fin.ext <;> simp [Rect.unit, Rect.emb]
  · obtain rfl := List.mem_singleton.1 hp
    obtain ⟨a, i, j, rfl⟩ : ∃ (a : Fin 1) (i : Fin 256) (j : Fin 128), x = ix3 a i j := ⟨x 0, x 1, x 2, eq_ix3 x⟩
    obtain rfl : a = 0 := Subsingleton.elim _ _
    refine (rope20 x0 x1 x2 x3 x4 x5 x6 x7 x8 x9 x10 x11 x12 _ lo (a1_at x0 x1 x2 x3 x4 x5 x6 x7 x8 x9 x10 x11 x12 x13 x14 x15 x16) _ (pos_lo x2) _ (freq_ld x11) (by decide) i j).trans (congrArg _ ?_)
    funext b
    fin_cases b <;> apply Fin.ext <;> simp [Rect.unit, Rect.emb]

/-- The keys. -/
theorem out19 (y : S1x8x512x128.Idx) : out0_19 (F := Ideal) x0 x1 x2 x3 x4 x5 x6 x7 x8 x9 x10 x11 x12 x13 x14 x15 x16 y = GKV (KVR x0 x1 x3 x4 x5 x6 x7 x8 x9 x10 x12 x13 x14) 0 (by omega) y := by
  unfold out0_19
  refine View.canon_apply_of_pieces (Val := Elt Ideal) (e := .bf16) (GKV (KVR x0 x1 x3 x4 x5 x6 x7 x8 x9 x10 x12 x13 x14) 0 (by omega)) _ ?_ y (cover0_19 _ _ _ _ _ _ _ _ _ _ _ _ _ _ _ _ y)
  refine List.forall_mem_cons.2 ⟨kv_piece _ _ hi (k2_at x0 x1 x2 x3 x4 x5 x6 x7 x8 x9 x10 x11 x12 x13 x14 x15 x16) 256 (fun i => rfl) 0 (by omega) 7 (by omega) 896 rfl (by decide) _ rfl inb_S1x8x512x128_S1x1x256x128_0_7_256_0, ?_⟩
  refine List.forall_mem_cons.2 ⟨kv_piece _ _ hi (k2_at x0 x1 x2 x3 x4 x5 x6 x7 x8 x9 x10 x11 x12 x13 x14 x15 x16) 256 (fun i => rfl) 0 (by omega) 6 (by omega) 768 rfl (by decide) _ rfl inb_S1x8x512x128_S1x1x256x128_0_6_256_0, ?_⟩
  refine List.forall_mem_cons.2 ⟨kv_piece _ _ hi (k2_at x0 x1 x2 x3 x4 x5 x6 x7 x8 x9 x10 x11 x12 x13 x14 x15 x16) 256 (fun i => rfl) 0 (by omega) 5 (by omega) 640 rfl (by decide) _ rfl inb_S1x8x512x128_S1x1x256x128_0_5_256_0, ?_⟩
  refine List.forall_mem_cons.2 ⟨kv_piece _ _ hi (k2_at x0 x1 x2 x3 x4 x5 x6 x7 x8 x9 x10 x11 x12 x13 x14 x15 x16) 256 (fun i => rfl) 0 (by omega) 4 (by omega) 512 rfl (by decide) _ rfl inb_S1x8x512x128_S1x1x256x128_0_4_256_0, ?_⟩
  refine List.forall_mem_cons.2 ⟨kv_piece _ _ hi (k2_at x0 x1 x2 x3 x4 x5 x6 x7 x8 x9 x10 x11 x12 x13 x14 x15 x16) 256 (fun i => rfl) 0 (by omega) 3 (by omega) 384 rfl (by decide) _ rfl inb_S1x8x512x128_S1x1x256x128_0_3_256_0, ?_⟩
  refine List.forall_mem_cons.2 ⟨kv_piece _ _ hi (k2_at x0 x1 x2 x3 x4 x5 x6 x7 x8 x9 x10 x11 x12 x13 x14 x15 x16) 256 (fun i => rfl) 0 (by omega) 2 (by omega) 256 rfl (by decide) _ rfl inb_S1x8x512x128_S1x1x256x128_0_2_256_0, ?_⟩
  refine List.forall_mem_cons.2 ⟨kv_piece _ _ hi (k2_at x0 x1 x2 x3 x4 x5 x6 x7 x8 x9 x10 x11 x12 x13 x14 x15 x16) 256 (fun i => rfl) 0 (by omega) 1 (by omega) 128 rfl (by decide) _ rfl inb_S1x8x512x128_S1x1x256x128_0_1_256_0, ?_⟩
  refine List.forall_mem_cons.2 ⟨kv_piece _ _ hi (k2_at x0 x1 x2 x3 x4 x5 x6 x7 x8 x9 x10 x11 x12 x13 x14 x15 x16) 256 (fun i => rfl) 0 (by omega) 0 (by omega) 0 rfl (by decide) _ rfl inb_S1x8x512x128_S1x1x256x128_0_0_256_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 7 (by omega) 896 rfl (by decide) _ rfl inb_S1x8x512x128_S1x1x256x128_0_7_0_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 6 (by omega) 768 rfl (by decide) _ rfl inb_S1x8x512x128_S1x1x256x128_0_6_0_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 5 (by omega) 640 rfl (by decide) _ rfl inb_S1x8x512x128_S1x1x256x128_0_5_0_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 4 (by omega) 512 rfl (by decide) _ rfl inb_S1x8x512x128_S1x1x256x128_0_4_0_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 3 (by omega) 384 rfl (by decide) _ rfl inb_S1x8x512x128_S1x1x256x128_0_3_0_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 2 (by omega) 256 rfl (by decide) _ rfl inb_S1x8x512x128_S1x1x256x128_0_2_0_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 1 (by omega) 128 rfl (by decide) _ rfl inb_S1x8x512x128_S1x1x256x128_0_1_0_0, ?_⟩
  refine List.forall_mem_cons.2 ⟨kv_piece _ _ lo (k1_at x0 x1 x2 x3 x4 x5 x6 x7 x8 x9 x10 x11 x12 x13 x14 x15 x16) 0 (fun i => (Nat.zero_add _).symm) 0 (by omega) 0 (by omega) 0 rfl (by decide) _ rfl inb_S1x8x512x128_S1x1x256x128_0_0_0_0, ?_⟩
  exact fun _ h => absurd h List.not_mem_nil

/-- The values. -/
theorem out21 (y : S1x8x512x128.Idx) : out0_21 (F := Ideal) x0 x1 x2 x3 x4 x5 x6 x7 x8 x9 x10 x11 x12 x13 x14 x15 x16 y = GKV (KVR x0 x1 x3 x4 x5 x6 x7 x8 x9 x10 x12 x13 x14) 1024 (by omega) y := by
  unfold out0_21
  refine View.canon_apply_of_pieces (Val := Elt Ideal) (e := .bf16) (GKV (KVR x0 x1 x3 x4 x5 x6 x7 x8 x9 x10 x12 x13 x14) 1024 (by omega)) _ ?_ y (cover0_21 _ _ _ _ _ _ _ _ _ _ _ _ _ _ _ _ y)
  refine List.forall_mem_cons.2 ⟨kv_piece _ _ hi (k2_at x0 x1 x2 x3 x4 x5 x6 x7 x8 x9 x10 x11 x12 x13 x14 x15 x16) 256 (fun i => rfl) 1024 (by omega) 7 (by omega) 1920 rfl (by decide) _ rfl inb_S1x8x512x128_S1x1x256x128_0_7_256_0, ?_⟩
  refine List.forall_mem_cons.2 ⟨kv_piece _ _ hi (k2_at x0 x1 x2 x3 x4 x5 x6 x7 x8 x9 x10 x11 x12 x13 x14 x15 x16) 256 (fun i => rfl) 1024 (by omega) 6 (by omega) 1792 rfl (by decide) _ rfl inb_S1x8x512x128_S1x1x256x128_0_6_256_0, ?_⟩
  refine List.forall_mem_cons.2 ⟨kv_piece _ _ hi (k2_at x0 x1 x2 x3 x4 x5 x6 x7 x8 x9 x10 x11 x12 x13 x14 x15 x16) 256 (fun i => rfl) 1024 (by omega) 5 (by omega) 1664 rfl (by decide) _ rfl inb_S1x8x512x128_S1x1x256x128_0_5_256_0, ?_⟩
  refine List.forall_mem_cons.2 ⟨kv_piece _ _ hi (k2_at x0 x1 x2 x3 x4 x5 x6 x7 x8 x9 x10 x11 x12 x13 x14 x15 x16) 256 (fun i => rfl) 1024 (by omega) 4 (by omega) 1536 rfl (by decide) _ rfl inb_S1x8x512x128_S1x1x256x128_0_4_256_0, ?_⟩
  refine List.forall_mem_cons.2 ⟨kv_piece _ _ hi (k2_at x0 x1 x2 x3 x4 x5 x6 x7 x8 x9 x10 x11 x12 x13 x14 x15 x16) 256 (fun i => rfl) 1024 (by omega) 3 (by omega) 1408 rfl (by decide) _ rfl inb_S1x8x512x128_S1x1x256x128_0_3_256_0, ?_⟩
  refine List.forall_mem_cons.2 ⟨kv_piece _ _ hi (k2_at x0 x1 x2 x3 x4 x5 x6 x7 x8 x9 x10 x11 x12 x13 x14 x15 x16) 256 (fun i => rfl) 1024 (by omega) 2 (by omega) 1280 rfl (by decide) _ rfl inb_S1x8x512x128_S1x1x256x128_0_2_256_0, ?_⟩
  refine List.forall_mem_cons.2 ⟨kv_piece _ _ hi (k2_at x0 x1 x2 x3 x4 x5 x6 x7 x8 x9 x10 x11 x12 x13 x14 x15 x16) 256 (fun i => rfl) 1024 (by omega) 1 (by omega) 1152 rfl (by decide) _ rfl inb_S1x8x512x128_S1x1x256x128_0_1_256_0, ?_⟩
  refine List.forall_mem_cons.2 ⟨kv_piece _ _ hi (k2_at x0 x1 x2 x3 x4 x5 x6 x7 x8 x9 x10 x11 x12 x13 x14 x15 x16) 256 (fun i => rfl) 1024 (by omega) 0 (by omega) 1024 rfl (by decide) _ rfl inb_S1x8x512x128_S1x1x256x128_0_0_256_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 7 (by omega) 1920 rfl (by decide) _ rfl inb_S1x8x512x128_S1x1x256x128_0_7_0_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 6 (by omega) 1792 rfl (by decide) _ rfl inb_S1x8x512x128_S1x1x256x128_0_6_0_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 5 (by omega) 1664 rfl (by decide) _ rfl inb_S1x8x512x128_S1x1x256x128_0_5_0_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 4 (by omega) 1536 rfl (by decide) _ rfl inb_S1x8x512x128_S1x1x256x128_0_4_0_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 3 (by omega) 1408 rfl (by decide) _ rfl inb_S1x8x512x128_S1x1x256x128_0_3_0_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 2 (by omega) 1280 rfl (by decide) _ rfl inb_S1x8x512x128_S1x1x256x128_0_2_0_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 1 (by omega) 1152 rfl (by decide) _ rfl inb_S1x8x512x128_S1x1x256x128_0_1_0_0, ?_⟩
  refine List.forall_mem_cons.2 ⟨kv_piece _ _ lo (k1_at x0 x1 x2 x3 x4 x5 x6 x7 x8 x9 x10 x11 x12 x13 x14 x15 x16) 0 (fun i => (Nat.zero_add _).symm) 1024 (by omega) 0 (by omega) 1024 rfl (by decide) _ rfl inb_S1x8x512x128_S1x1x256x128_0_0_0_0, ?_⟩
  exact fun _ h => absurd h List.not_mem_nil

/-- The queries. -/
theorem out18 (y : S1x8x512x256.Idx) : out0_18 (F := Ideal) x0 x1 x2 x3 x4 x5 x6 x7 x8 x9 x10 x11 x12 x13 x14 x15 x16 y = GQ (QR x0 x1 x3 x4 x5 x6 x7 x8 x9 x10 x12 x15 x16) (fun i => x2 (ix2 i 0)) (fun l => x11 (ix2 0 l)) y := by
  unfold out0_18
  refine View.canon_apply_of_pieces (Val := Elt Ideal) (e := .bf16) (GQ (QR x0 x1 x3 x4 x5 x6 x7 x8 x9 x10 x12 x15 x16) (fun i => x2 (ix2 i 0)) (fun l => x11 (ix2 0 l))) _ ?_ y (cover0_18 _ _ _ _ _ _ _ _ _ _ _ _ _ _ _ _ _ _ _ _ _ _ _ _ _ _ _ _ _ _ _ _ y)
  refine List.forall_mem_cons.2 ⟨odd_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 7 3 (by omega) rfl 1408 rfl (by decide) _ rfl inb_S1x8x512x256_S1x1x256x128_0_7_256_128, ?_⟩
  refine List.forall_mem_cons.2 ⟨even_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 6 3 (by omega) rfl 1408 rfl (by decide) _ rfl inb_S1x8x512x256_S1x1x256x128_0_6_256_128, ?_⟩
  refine List.forall_mem_cons.2 ⟨odd_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 5 2 (by omega) rfl 1280 rfl (by decide) _ rfl inb_S1x8x512x256_S1x1x256x128_0_5_256_128, ?_⟩
  refine List.forall_mem_cons.2 ⟨even_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 4 2 (by omega) rfl 1280 rfl (by decide) _ rfl inb_S1x8x512x256_S1x1x256x128_0_4_256_128, ?_⟩
  refine List.forall_mem_cons.2 ⟨odd_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 3 1 (by omega) rfl 1152 rfl (by decide) _ rfl inb_S1x8x512x256_S1x1x256x128_0_3_256_128, ?_⟩
  refine List.forall_mem_cons.2 ⟨even_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 2 1 (by omega) rfl 1152 rfl (by decide) _ rfl inb_S1x8x512x256_S1x1x256x128_0_2_256_128, ?_⟩
  refine List.forall_mem_cons.2 ⟨odd_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 1 0 (by omega) rfl 1024 rfl (by decide) _ rfl inb_S1x8x512x256_S1x1x256x128_0_1_256_128, ?_⟩
  refine List.forall_mem_cons.2 ⟨even_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (ldf x2 r0_20) (pos_hi x2) (ldf x11 r0_15) (freq_ld x11) (fun i => rfl) 0 0 (by omega) rfl 1024 rfl (by decide) _ rfl inb_S1x8x512x256_S1x1x256x128_0_0_256_128, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 7 (by omega) 896 rfl (by decide) _ rfl inb_S1x8x512x256_S1x1x256x128_0_7_256_0, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 6 (by omega) 768 rfl (by decide) _ rfl inb_S1x8x512x256_S1x1x256x128_0_6_256_0, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 5 (by omega) 640 rfl (by decide) _ rfl inb_S1x8x512x256_S1x1x256x128_0_5_256_0, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 4 (by omega) 512 rfl (by decide) _ rfl inb_S1x8x512x256_S1x1x256x128_0_4_256_0, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 3 (by omega) 384 rfl (by decide) _ rfl inb_S1x8x512x256_S1x1x256x128_0_3_256_0, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 2 (by omega) 256 rfl (by decide) _ rfl inb_S1x8x512x256_S1x1x256x128_0_2_256_0, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 1 (by omega) 128 rfl (by decide) _ rfl inb_S1x8x512x256_S1x1x256x128_0_1_256_0, ?_⟩
  refine List.forall_mem_cons.2 ⟨near_piece (QR x0 x1 x3 x4 x5 x6 x7 x8 x9 x10 x12 x15 x16) (fun i => x2 (ix2 i 0)) (fun l => x11 (ix2 0 l)) _ hi (q2_at x0 x1 x2 x3 x4 x5 x6 x7 x8 x9 x10 x11 x12 x13 x14 x15 x16) 256 (fun i => rfl) 0 (by omega) 0 rfl (by decide) _ rfl inb_S1x8x512x256_S1x1x256x128_0_0_256_0, ?_⟩
  refine List.forall_mem_cons.2 ⟨odd_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 7 3 (by omega) rfl 1408 rfl (by decide) _ rfl inb_S1x8x512x256_S1x1x256x128_0_7_0_128, ?_⟩
  refine List.forall_mem_cons.2 ⟨even_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 6 3 (by omega) rfl 1408 rfl (by decide) _ rfl inb_S1x8x512x256_S1x1x256x128_0_6_0_128, ?_⟩
  refine List.forall_mem_cons.2 ⟨odd_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 5 2 (by omega) rfl 1280 rfl (by decide) _ rfl inb_S1x8x512x256_S1x1x256x128_0_5_0_128, ?_⟩
  refine List.forall_mem_cons.2 ⟨even_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 4 2 (by omega) rfl 1280 rfl (by decide) _ rfl inb_S1x8x512x256_S1x1x256x128_0_4_0_128, ?_⟩
  refine List.forall_mem_cons.2 ⟨odd_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 3 1 (by omega) rfl 1152 rfl (by decide) _ rfl inb_S1x8x512x256_S1x1x256x128_0_3_0_128, ?_⟩
  refine List.forall_mem_cons.2 ⟨even_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 2 1 (by omega) rfl 1152 rfl (by decide) _ rfl inb_S1x8x512x256_S1x1x256x128_0_2_0_128, ?_⟩
  refine List.forall_mem_cons.2 ⟨odd_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 1 0 (by omega) rfl 1024 rfl (by decide) _ rfl inb_S1x8x512x256_S1x1x256x128_0_1_0_128, ?_⟩
  refine List.forall_mem_cons.2 ⟨even_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (ldf x2 r0_14) (pos_lo x2) (ldf x11 r0_15) (freq_ld x11) (fun i => (Nat.zero_add _).symm) 0 0 (by omega) rfl 1024 rfl (by decide) _ rfl inb_S1x8x512x256_S1x1x256x128_0_0_0_128, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 7 (by omega) 896 rfl (by decide) _ rfl inb_S1x8x512x256_S1x1x256x128_0_7_0_0, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 6 (by omega) 768 rfl (by decide) _ rfl inb_S1x8x512x256_S1x1x256x128_0_6_0_0, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 5 (by omega) 640 rfl (by decide) _ rfl inb_S1x8x512x256_S1x1x256x128_0_5_0_0, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 4 (by omega) 512 rfl (by decide) _ rfl inb_S1x8x512x256_S1x1x256x128_0_4_0_0, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 3 (by omega) 384 rfl (by decide) _ rfl inb_S1x8x512x256_S1x1x256x128_0_3_0_0, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 2 (by omega) 256 rfl (by decide) _ rfl inb_S1x8x512x256_S1x1x256x128_0_2_0_0, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 1 (by omega) 128 rfl (by decide) _ rfl inb_S1x8x512x256_S1x1x256x128_0_1_0_0, ?_⟩
  refine List.forall_mem_cons.2 ⟨near_piece (QR x0 x1 x3 x4 x5 x6 x7 x8 x9 x10 x12 x15 x16) (fun i => x2 (ix2 i 0)) (fun l => x11 (ix2 0 l)) _ lo (q1_at x0 x1 x2 x3 x4 x5 x6 x7 x8 x9 x10 x11 x12 x13 x14 x15 x16) 0 (fun i => (Nat.zero_add _).symm) 0 (by omega) 0 rfl (by decide) _ rfl inb_S1x8x512x256_S1x1x256x128_0_0_0_0, ?_⟩
  exact fun _ h => absurd h List.not_mem_nil

end Cert.Kernel3Ideal.Tail
-- ==== Proof.TailArrays.lean ====
/- What the last kernel's program computes of its arguments before the region, and each grid point's blocks of it as elements
   of the argument arrays. -/
module

public import proofs.«01_k».proof.Proof.TailOut
public import Idealize.ShloMosaic.Lib.Pipeline.ValueKit

@[expose] public section

set_option maxRecDepth 16384

noncomputable section

namespace Cert.Kernel3Ideal.Tail

open Idealize.ShloMosaic Idealize.ShloMosaic.TcCoe Idealize.SL.Sem
open Idealize.ShloMosaic.Pipeline (Dat)
open Cert.Kernel3Ideal Cert.Kernel3Ideal.Gen Row

/-- The frequencies of 32 pairs. -/
def FR : FVec Ideal S32 .f32 :=
  Host.powf (broadcastInDim S32 ![] bcast_S_S32 (constant S_ .f32 0x461C4000#32 : FVec Ideal S_ .f32))
    (Host.divf (Host.negf (sitofp .f32 (iotaInDim S32 32 0) : FVec Ideal S32 .f32)) (broadcastInDim S32 ![] bcast_S_S32 (constant S_ .f32 0x42000000#32 : FVec Ideal S_ .f32)))

theorem FR_at (l : Fin 32) : FR (ix1 l) = freq l := by
  pointwise [FR, freq]
  rfl

/-- The signed frequencies, twice beside each other. -/
def FR2 (f : FVec Ideal S32 .f32) : FVec Ideal S1x128 .f32 :=
  shapeCast S1x128 (shapeCast S128 (broadcastInDim S2x64 ![0, 1] bcast_S1x64_S2x64_0_1 (shapeCast S1x64 (concatenate S64 0 [⟨S32, (Host.negf f : FVec Ideal S32 .f32)⟩, ⟨S32, f⟩]
    concatenates_S32_S32_S64_d0) shapeCasts_S64_S1x64)) shapeCasts_S2x64_S128) shapeCasts_S128_S1x128

theorem FR2_at (f : FVec Ideal S32 .f32) (l : Fin 128) :
    FR2 f (ix2 0 l) = if l.val % 64 < 32 then -f (ix1 ⟨l.val % 32, Nat.mod_lt _ (by omega)⟩) else f (ix1 ⟨l.val % 32, Nat.mod_lt _ (by omega)⟩) := by
  pointwise [FR2]
  by_cases h : l.val % 64 < 32
  · rw [dif_pos h, if_pos h]
    exact congrArg (fun c => -f (ix1 c)) (Fin.ext (by dsimp only; omega))
  · rw [dif_neg h, if_neg h]
    exact congrArg (fun c => f (ix1 c)) (Fin.ext (by dsimp only; omega))

/-- The three down projections beside each other, zeros to the right. -/
def WA (a : FVec Ideal S1024x320 .f32) (b : FVec Ideal S1x1024x384 .f32) : FVec Ideal S1024x768 .f32 :=
  concatenate S1024x768 1 [⟨S1024x256, extractStridedSlice S1024x256 ![0, 0] a slices_S1024x320_S1024x256_0_0⟩, ⟨S1024x384, shapeCast S1024x384 b shapeCasts_S1x1024x384_S1024x384⟩,
    ⟨S1024x64, extractStridedSlice S1024x64 ![0, 256] a slices_S1024x320_S1024x64_0_256⟩,
    ⟨S1024x64, broadcastInDim S1024x64 ![] bcast_S_S1024x64 (constant S_ .f32 0x00000000#32 : FVec Ideal S_ .f32)⟩] concatenates_S1024x256_S1024x384_S1024x64_S1024x64_S1024x768_d1

variable (a : FVec Ideal S1024x320 .f32) (b : FVec Ideal S1x1024x384 .f32) (k : Fin 1024)

theorem WA_kv (c : Fin 256) : WA a b (ix2 k ⟨c, by omega⟩) = a (ix2 k ⟨c, by omega⟩) := by
  pointwise [WA]

theorem WA_q (c : Fin 384) : WA a b (ix2 k ⟨256 + c, by omega⟩) = b (ix3 0 k c) := by
  pointwise [WA]

theorem WA_r (l : Fin 64) : WA a b (ix2 k ⟨640 + l, by omega⟩) = a (ix2 k ⟨256 + l, by omega⟩) := by
  pointwise [WA]
  rw [dif_neg (by omega), dif_neg (by omega), dif_pos (by omega)]
  exact congrArg (fun c => a (ix2 k c)) (Fin.ext (by dsimp only; omega))

theorem WA_z (l : Fin 64) : WA a b (ix2 k ⟨704 + l, by omega⟩) = 0 := by
  pointwise [WA]
  rw [dif_neg (by omega), dif_neg (by omega), dif_neg (by omega)]

/-- The keys' columns of every head, then the values'. -/
def WKV (a : FVec Ideal S256x2048 .f32) : FVec Ideal S256x2048 .f32 :=
  concatenate S256x2048 1 [⟨S256x1024, shapeCast S256x1024 (extractStridedSlice S256x8x128 ![0, 0, 0] (shapeCast S256x8x256 a shapeCasts_S256x2048_S256x8x256) slices_S256x8x256_S256x8x128_0_0_0)
      shapeCasts_S256x8x128_S256x1024⟩,
    ⟨S256x1024, shapeCast S256x1024 (extractStridedSlice S256x8x128 ![0, 0, 128] (shapeCast S256x8x256 a shapeCasts_S256x2048_S256x8x256) slices_S256x8x256_S256x8x128_0_0_128)
      shapeCasts_S256x8x128_S256x1024⟩] concatenates_S256x1024_S256x1024_S256x2048_d1

theorem WKV_k (a : FVec Ideal S256x2048 .f32) (k : Fin 256) (h : Fin 8) (d : Fin 128) :
    WKV a (ix2 k ⟨h.val * 128 + d.val, by omega⟩) = a (ix2 k ⟨h.val * 256 + d.val, by omega⟩) := by
  pointwise [WKV]
  rw [dif_pos (by omega)]

theorem WKV_v (a : FVec Ideal S256x2048 .f32) (k : Fin 256) (h : Fin 8) (d : Fin 128) :
    WKV a (ix2 k ⟨1024 + h.val * 128 + d.val, by omega⟩) = a (ix2 k ⟨h.val * 256 + 128 + d.val, by omega⟩) := by
  pointwise [WKV]
  rw [dif_neg (by omega)]
  exact congrArg (fun c => a (ix2 k c)) (Fin.ext (by dsimp only; omega))

/-- The queries' own columns of every head, then the rotated ones. -/
def WQ (a : FVec Ideal S1x384x1536 .f32) : FVec Ideal S384x1536 .f32 :=
  concatenate S384x1536 1 [⟨S384x1024, shapeCast S384x1024 (extractStridedSlice S384x8x128 ![0, 0, 0] (shapeCast S384x8x192 (shapeCast S384x1536 a shapeCasts_S1x384x1536_S384x1536)
      shapeCasts_S384x1536_S384x8x192) slices_S384x8x192_S384x8x128_0_0_0) shapeCasts_S384x8x128_S384x1024⟩,
    ⟨S384x512, shapeCast S384x512 (extractStridedSlice S384x8x64 ![0, 0, 128] (shapeCast S384x8x192 (shapeCast S384x1536 a shapeCasts_S1x384x1536_S384x1536)
      shapeCasts_S384x1536_S384x8x192) slices_S384x8x192_S384x8x64_0_0_128) shapeCasts_S384x8x64_S384x512⟩] concatenates_S384x1024_S384x512_S384x1536_d1

theorem WQ_n (a : FVec Ideal S1x384x1536 .f32) (k : Fin 384) (h : Fin 8) (d : Fin 128) :
    WQ a (ix2 k ⟨h.val * 128 + d.val, by omega⟩) = a (ix3 0 k ⟨h.val * 192 + d.val, by omega⟩) := by
  pointwise [WQ]
  rw [dif_pos (by omega)]

theorem WQ_r (a : FVec Ideal S1x384x1536 .f32) (k : Fin 384) (h : Fin 8) (d : Fin 64) :
    WQ a (ix2 k ⟨1024 + h.val / 2 * 128 + (h.val % 2 * 64 + d.val), by omega⟩) = a (ix3 0 k ⟨h.val * 192 + 128 + d.val, by omega⟩) := by
  pointwise [WQ]
  rw [dif_neg (by omega)]
  exact congrArg (fun c => a (ix3 0 k c)) (Fin.ext (by dsimp only; omega))

/-- The first row of a pair of rows. -/
theorem first_row (x : FVec Ideal S2x1024 .f32) (j : Fin 1024) :
    shapeCast S1x1024 (shapeCast S1024 (extractStridedSlice S1x1024 ![0, 0] x slices_S2x1024_S1x1024_0_0) shapeCasts_S1x1024_S1024) shapeCasts_S1024_S1x1024 (ix2 0 j)
      = x (ix2 0 j) := by
  pointwise

/-- The only one of a stack of matrices. -/
theorem only_gate (x : FVec Ideal S1x1024x2048 .f32) (k : Fin 1024) (j : Fin 2048) :
    shapeCast S1024x2048 x shapeCasts_S1x1024x2048_S1024x2048 (ix2 k j) = x (ix3 0 k j) := by
  pointwise

theorem only_out (x : FVec Ideal S1x1024x1024 .f32) (k j : Fin 1024) :
    shapeCast S1024x1024 x shapeCasts_S1x1024x1024_S1024x1024 (ix2 k j) = x (ix3 0 k j) := by
  pointwise

theorem gain (x : FVec Ideal S256 .f32) (j : Fin 256) : shapeCast S1x256 x shapeCasts_S256_S1x256 (ix2 0 j) = x (ix1 j) := by
  pointwise

theorem only_gain (x : FVec Ideal S1x384 .f32) (j : Fin 384) :
    shapeCast S1x384 (shapeCast S384 x shapeCasts_S1x384_S384) shapeCasts_S384_S1x384 (ix2 0 j) = x (ix2 0 j) := by
  pointwise

/-- The positions as numbers, one to a row. -/
theorem pos_at (x : IVec S8x4096 32) (r : Fin 32768) :
    shapeCast S32768x1 (sitofp .f32 x : FVec Ideal S8x4096 .f32) shapeCasts_S8x4096_S32768x1 (ix2 r 0)
      = posn (x (ix2 ⟨r.val / 4096, by omega⟩ ⟨r.val % 4096, by omega⟩)) := by
  pointwise
  rfl

variable (m : (ℓ : Loc nD τ sig) → Buf (Elt Ideal) ℓ) (c : Dev nD) (t : Fin cfg0.N)

theorem V0 : V m c main_v62 = shapeCast S32768x1024 (m ((c : Thread nD τ).loc main_arg0)) shapeCasts_S8x4096x1024_S32768x1024 := by
  dsimp only [V]; after_results; rfl

theorem V1 : V m c main_v16 = shapeCast S32768x1024 (m ((c : Thread nD τ).loc main_arg1)) shapeCasts_S8x4096x1024_S32768x1024 := by
  dsimp only [V]; after_results; rfl

theorem V2 : V m c main_v1 = shapeCast S32768x1 (sitofp .f32 (m ((c : Thread nD τ).loc main_arg2) : IVec S8x4096 32) : FVec Ideal S8x4096 .f32) shapeCasts_S8x4096_S32768x1 := by
  dsimp only [V]; after_results; rfl

theorem V3 : V m c main_v64 = (truncf .bf16 (shapeCast S1024x2048 (m ((c : Thread nD τ).loc main_arg9) : FVec Ideal S1x1024x2048 .f32) shapeCasts_S1x1024x2048_S1024x2048 : FVec Ideal S1024x2048 .f32) bitsLt_bf16_f32 : FVec Ideal S1024x2048 .bf16) := by
  dsimp only [V]; after_results; rfl

theorem V4 : V m c main_v66 = (truncf .bf16 (shapeCast S1024x1024 (m ((c : Thread nD τ).loc main_arg10) : FVec Ideal S1x1024x1024 .f32) shapeCasts_S1x1024x1024_S1024x1024 : FVec Ideal S1024x1024 .f32) bitsLt_bf16_f32 : FVec Ideal S1024x1024 .bf16) := by
  dsimp only [V]; after_results; rfl

theorem V5 : V m c main_v19 = shapeCast S1x1024 (shapeCast S1024 (extractStridedSlice S1x1024 ![0, 0] (m ((c : Thread nD τ).loc main_arg3)) slices_S2x1024_S1x1024_0_0)
    shapeCasts_S1x1024_S1024) shapeCasts_S1024_S1x1024 := by
  dsimp only [V]; after_results; rfl

theorem V6 : V m c main_v22 = shapeCast S1x1024 (shapeCast S1024 (extractStridedSlice S1x1024 ![0, 0] (m ((c : Thread nD τ).loc main_arg4)) slices_S2x1024_S1x1024_0_0)
    shapeCasts_S1x1024_S1024) shapeCasts_S1024_S1x1024 := by
  dsimp only [V]; after_results; rfl

theorem V7 : V m c main_v14 = (truncf .bf16 (m ((c : Thread nD τ).loc main_arg7) : FVec Ideal S2x1024x4096 .f32) bitsLt_bf16_f32 : FVec Ideal S2x1024x4096 .bf16) := by
  dsimp only [V]; after_results

theorem V8 : V m c main_v15 = (truncf .bf16 (m ((c : Thread nD τ).loc main_arg8) : FVec Ideal S2x4096x1024 .f32) bitsLt_bf16_f32 : FVec Ideal S2x4096x1024 .bf16) := by
  dsimp only [V]; after_results

theorem V9 : V m c main_v31 = shapeCast S1x1024 (shapeCast S1024 (extractStridedSlice S1x1024 ![0, 0] (m ((c : Thread nD τ).loc main_arg5)) slices_S2x1024_S1x1024_0_0)
    shapeCasts_S1x1024_S1024) shapeCasts_S1024_S1x1024 := by
  dsimp only [V]; after_results; rfl

theorem V10 : V m c main_v34 = shapeCast S1x1024 (shapeCast S1024 (extractStridedSlice S1x1024 ![0, 0] (m ((c : Thread nD τ).loc main_arg6)) slices_S2x1024_S1x1024_0_0)
    shapeCasts_S1x1024_S1024) shapeCasts_S1024_S1x1024 := by
  dsimp only [V]; after_results; rfl

theorem V11 : V m c main_v13 = FR2 FR := by
  dsimp only [V]; after_results; rfl

theorem V12 : V m c main_v59 = (truncf .bf16 (WA (m ((c : Thread nD τ).loc main_arg11)) (m ((c : Thread nD τ).loc main_arg14)) : FVec Ideal S1024x768 .f32) bitsLt_bf16_f32 : FVec Ideal S1024x768 .bf16) := by
  dsimp only [V]; after_results; rfl

theorem V13 : V m c main_v67 = shapeCast S1x256 (m ((c : Thread nD τ).loc main_arg12) : FVec Ideal S256 .f32) shapeCasts_S256_S1x256 := by
  dsimp only [V]; after_results; rfl

theorem V14 : V m c main_v60 = (truncf .bf16 (WKV (m ((c : Thread nD τ).loc main_arg13)) : FVec Ideal S256x2048 .f32) bitsLt_bf16_f32 : FVec Ideal S256x2048 .bf16) := by
  dsimp only [V]; after_results; rfl

theorem V15 : V m c main_v69 = shapeCast S1x384 (shapeCast S384 (m ((c : Thread nD τ).loc main_arg15) : FVec Ideal S1x384 .f32) shapeCasts_S1x384_S384) shapeCasts_S384_S1x384 := by
  dsimp only [V]; after_results; rfl

theorem V16 : V m c main_v61 = (truncf .bf16 (WQ (m ((c : Thread nD τ).loc main_arg16)) : FVec Ideal S384x1536 .f32) bitsLt_bf16_f32 : FVec Ideal S384x1536 .bf16) := by
  dsimp only [V]; after_results; rfl

end Cert.Kernel3Ideal.Tail
-- ==== Proof.TailResult.lean ====
/- The last kernel's five result arrays, at every position, as functions of the argument arrays. -/
module

public import proofs.«01_k».proof.Proof.TailArrays

@[expose] public section

set_option maxRecDepth 16384

noncomputable section

namespace Cert.Kernel3Ideal.Tail

open Idealize.ShloMosaic Idealize.ShloMosaic.TcCoe Idealize.SL.Sem
open Idealize.ShloMosaic.Pipeline (Dat)
open Cert.Kernel3Ideal Cert.Kernel3Ideal.Gen Row

section

variable (a0 : FVec Ideal S8x4096x1024 .bf16) (a1 : FVec Ideal S8x4096x1024 .f32) (a2 : IVec S8x4096 32) (a3 a4 a5 a6 : FVec Ideal S2x1024 .f32) (a7 : FVec Ideal S2x1024x4096 .f32)
  (a8 : FVec Ideal S2x4096x1024 .f32) (a9 : FVec Ideal S1x1024x2048 .f32) (a10 : FVec Ideal S1x1024x1024 .f32) (a11 : FVec Ideal S1024x320 .f32) (a12 : FVec Ideal S256 .f32)
  (a13 : FVec Ideal S256x2048 .f32) (a14 : FVec Ideal S1x1024x384 .f32) (a15 : FVec Ideal S1x384 .f32) (a16 : FVec Ideal S1x384x1536 .f32)

/-- The row of a sequence's position. -/
def rowAt (b : Fin 8) (s : Fin 4096) : Fin 32768 := ⟨b.val * 4096 + s.val, by omega⟩

/-- The layer's row. -/
def HF (r : Fin 32768) : Fin 1024 → EReal :=
  layer (glu (fun k j => a9 (ix3 0 k j)) (fun k => shapeCast S32768x1024 a0 shapeCasts_S8x4096x1024_S32768x1024 (ix2 r k)))
    (fun k => shapeCast S32768x1024 a1 shapeCasts_S8x4096x1024_S32768x1024 (ix2 r k)) (fun k j => a10 (ix3 0 k j)) (fun j => a3 (ix2 0 j)) (fun j => a4 (ix2 0 j))
    (fun k j => a7 (ix3 0 k j)) (fun k j => a8 (ix3 0 k j)) (fun j => a5 (ix2 0 j)) (fun j => a6 (ix2 0 j))

/-- The row's keys and values, head after head. -/
def KVF (r : Fin 32768) (c : Fin 2048) : EReal :=
  kv (HF a0 a1 a3 a4 a5 a6 a7 a8 a9 a10 r) (fun k c => a11 (ix2 k c)) (fun k => a12 (ix1 k)) (fun k c => a13 (ix2 k c)) c

/-- The row's queries, head after head. -/
def QF (r : Fin 32768) (c : Fin 1536) : EReal :=
  qr (HF a0 a1 a3 a4 a5 a6 a7 a8 a9 a10 r) (fun k c => a14 (ix3 0 k c)) (fun k => a15 (ix2 0 k)) (fun k c => a16 (ix3 0 k c)) c

/-- The row's position. -/
def PF (r : Fin 32768) : EReal := posn (a2 (ix2 ⟨r.val / 4096, by omega⟩ ⟨r.val % 4096, by omega⟩))

/-- The queries: a head's own lanes, its rotated ones, zeros. -/
def QO (b : Fin 8) (h : Fin 8) (s : Fin 4096) (l : Fin 256) : EReal :=
  if hl : l.val < 128 then QF a0 a1 a3 a4 a5 a6 a7 a8 a9 a10 a14 a15 a16 (rowAt b s) ⟨h.val * 192 + l.val, by omega⟩
  else if hm : l.val < 192 then rot (PF a2 (rowAt b s)) (fun e => QF a0 a1 a3 a4 a5 a6 a7 a8 a9 a10 a14 a15 a16 (rowAt b s) ⟨h.val * 192 + 128 + e.val, by omega⟩) ⟨l.val - 128, by omega⟩
  else 0

/-- The keys. -/
def KO (b : Fin 8) (h : Fin 8) (s : Fin 4096) (d : Fin 128) : EReal := KVF a0 a1 a3 a4 a5 a6 a7 a8 a9 a10 a11 a12 a13 (rowAt b s) ⟨h.val * 256 + d.val, by omega⟩

/-- The values. -/
def VO (b : Fin 8) (h : Fin 8) (s : Fin 4096) (d : Fin 128) : EReal := KVF a0 a1 a3 a4 a5 a6 a7 a8 a9 a10 a11 a12 a13 (rowAt b s) ⟨h.val * 256 + 128 + d.val, by omega⟩

/-- The shared rotated key: 64 lanes, then zeros. -/
def RO (b : Fin 8) (s : Fin 4096) (d : Fin 128) : EReal :=
  if hd : d.val < 64 then rot (PF a2 (rowAt b s)) (fun e => ∑ i : Fin 1024, HF a0 a1 a3 a4 a5 a6 a7 a8 a9 a10 (rowAt b s) i * a11 (ix2 i ⟨256 + e.val, by omega⟩)) ⟨d, hd⟩ else 0

end

variable (m : (ℓ : Loc nD τ sig) → Buf (Elt Ideal) ℓ)

/-- The blocks of a grid point. -/
theorem idx : ∀ t : Fin cfg0.N, win0_0.index t = ![t.val, 0]
    ∧ win0_1.index t = ![t.val, 0]
    ∧ win0_2.index t = ![t.val, 0]
    ∧ win0_3.index t = ![0, 0]
    ∧ win0_4.index t = ![0, 0]
    ∧ win0_5.index t = ![0, 0]
    ∧ win0_6.index t = ![0, 0]
    ∧ win0_7.index t = ![0, 0, 0]
    ∧ win0_8.index t = ![0, 0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![t.val, 0]
    ∧ win0_18.index t = ![t.val / 8, 0, t.val % 8, 0]
    ∧ win0_19.index t = ![t.val / 8, 0, t.val % 8, 0]
    ∧ win0_20.index t = ![t.val / 8, t.val % 8, 0]
    ∧ win0_21.index t = ![t.val / 8, 0, t.val % 8, 0] :=
  (by decide +kernel : ∀ t : Fin grid0.N, _)

theorem lt64 (t : Fin cfg0.N) : t.val < 64 := t.isLt.trans_eq (by decide +kernel)

variable (c : Dev nD) (t : Fin cfg0.N)

/-- A row of a grid point's block, and its place in its sequence. -/
def rowOf (i : Fin 512) : Fin 32768 := ⟨t.val * 512 + i, by have := lt64 t; omega⟩

def bOf : Fin 8 := ⟨t.val / 8, by have := lt64 t; omega⟩

def sOf (i : Fin 512) : Fin 4096 := ⟨t.val % 8 * 512 + i, by omega⟩

theorem rowAt_of (i : Fin 512) : rowAt (bOf t) (sOf t i) = rowOf t i :=
  Fin.ext (show t.val / 8 * 4096 + (t.val % 8 * 512 + i.val) = t.val * 512 + i.val by omega)

theorem blk0 (i : Fin 512) (k : Fin 1024) : iblk m c 0 t (ix2 i k) = shapeCast S32768x1024 (m ((c : Thread nD τ).loc main_arg0)) shapeCasts_S8x4096x1024_S32768x1024 (ix2 (rowOf t i) k) := by
  refine Eq.trans (b := V m c main_v62 (ix2 (rowOf t i) k)) ?_ ((congrFun (V0 m c) _).trans rfl)
  blk_ext [iblk, idx t, rowOf]
theorem blk1 (i : Fin 512) (k : Fin 1024) : iblk m c 1 t (ix2 i k) = shapeCast S32768x1024 (m ((c : Thread nD τ).loc main_arg1)) shapeCasts_S8x4096x1024_S32768x1024 (ix2 (rowOf t i) k) := by
  refine Eq.trans (b := V m c main_v16 (ix2 (rowOf t i) k)) ?_ ((congrFun (V1 m c) _).trans rfl)
  blk_ext [iblk, idx t, rowOf]
theorem blk2 (i : Fin 512) : iblk m c 2 t (ix2 i 0) = PF (m ((c : Thread nD τ).loc main_arg2)) (rowOf t i) := by
  refine Eq.trans (b := V m c main_v1 (ix2 (rowOf t i) 0)) ?_ ((congrFun (V2 m c) _).trans (pos_at _ _))
  blk_ext [iblk, idx t, rowOf]
theorem blk3 (k : Fin 1024) (j : Fin 2048) : iblk m c 3 t (ix2 k j) = (m ((c : Thread nD τ).loc main_arg9)) (ix3 0 k j) := by
  refine Eq.trans (b := V m c main_v64 (ix2 k j)) ?_ ((congrFun (V3 m c) _).trans (only_gate _ k j))
  blk_ext [iblk, idx t]
theorem blk4 (k j : Fin 1024) : iblk m c 4 t (ix2 k j) = (m ((c : Thread nD τ).loc main_arg10)) (ix3 0 k j) := by
  refine Eq.trans (b := V m c main_v66 (ix2 k j)) ?_ ((congrFun (V4 m c) _).trans (only_out _ k j))
  blk_ext [iblk, idx t]
theorem blk5 (j : Fin 1024) : iblk m c 5 t (ix2 0 j) = (m ((c : Thread nD τ).loc main_arg3)) (ix2 0 j) := by
  refine Eq.trans (b := V m c main_v19 (ix2 0 j)) ?_ ((congrFun (V5 m c) _).trans (first_row _ j))
  blk_ext [iblk, idx t]
theorem blk6 (j : Fin 1024) : iblk m c 6 t (ix2 0 j) = (m ((c : Thread nD τ).loc main_arg4)) (ix2 0 j) := by
  refine Eq.trans (b := V m c main_v22 (ix2 0 j)) ?_ ((congrFun (V6 m c) _).trans (first_row _ j))
  blk_ext [iblk, idx t]
theorem blk9 (j : Fin 1024) : iblk m c 9 t (ix2 0 j) = (m ((c : Thread nD τ).loc main_arg5)) (ix2 0 j) := by
  refine Eq.trans (b := V m c main_v31 (ix2 0 j)) ?_ ((congrFun (V9 m c) _).trans (first_row _ j))
  blk_ext [iblk, idx t]
theorem blk10 (j : Fin 1024) : iblk m c 10 t (ix2 0 j) = (m ((c : Thread nD τ).loc main_arg6)) (ix2 0 j) := by
  refine Eq.trans (b := V m c main_v34 (ix2 0 j)) ?_ ((congrFun (V10 m c) _).trans (first_row _ j))
  blk_ext [iblk, idx t]
theorem blk7 (k : Fin 1024) (j : Fin 4096) : iblk m c 7 t (ix3 0 k j) = (m ((c : Thread nD τ).loc main_arg7)) (ix3 0 k j) := by
  refine Eq.trans (b := V m c main_v14 (ix3 0 k j)) ?_ ((congrFun (V7 m c) _).trans rfl)
  blk_ext [iblk, idx t]
theorem blk8 (k : Fin 4096) (j : Fin 1024) : iblk m c 8 t (ix3 0 k j) = (m ((c : Thread nD τ).loc main_arg8)) (ix3 0 k j) := by
  refine Eq.trans (b := V m c main_v15 (ix3 0 k j)) ?_ ((congrFun (V8 m c) _).trans rfl)
  blk_ext [iblk, idx t]
theorem blk11 (l : Fin 128) : iblk m c 11 t (ix2 0 l) = freq2 l := by
  refine Eq.trans (b := V m c main_v13 (ix2 0 l)) ?_ ((congrFun (V11 m c) _).trans ((FR2_at FR l).trans (by simp only [FR_at, freq2])))
  blk_ext [iblk, idx t]
theorem blk12 (k : Fin 1024) (j : Fin 768) : iblk m c 12 t (ix2 k j) = WA (m ((c : Thread nD τ).loc main_arg11)) (m ((c : Thread nD τ).loc main_arg14)) (ix2 k j) := by
  refine Eq.trans (b := V m c main_v59 (ix2 k j)) ?_ ((congrFun (V12 m c) _).trans rfl)
  blk_ext [iblk, idx t]
theorem blk13 (j : Fin 256) : iblk m c 13 t (ix2 0 j) = (m ((c : Thread nD τ).loc main_arg12)) (ix1 j) := by
  refine Eq.trans (b := V m c main_v67 (ix2 0 j)) ?_ ((congrFun (V13 m c) _).trans (gain _ j))
  blk_ext [iblk, idx t]
theorem blk14 (k : Fin 256) (j : Fin 2048) : iblk m c 14 t (ix2 k j) = WKV (m ((c : Thread nD τ).loc main_arg13)) (ix2 k j) := by
  refine Eq.trans (b := V m c main_v60 (ix2 k j)) ?_ ((congrFun (V14 m c) _).trans rfl)
  blk_ext [iblk, idx t]
theorem blk15 (j : Fin 384) : iblk m c 15 t (ix2 0 j) = (m ((c : Thread nD τ).loc main_arg15)) (ix2 0 j) := by
  refine Eq.trans (b := V m c main_v69 (ix2 0 j)) ?_ ((congrFun (V15 m c) _).trans (only_gain _ j))
  blk_ext [iblk, idx t]
theorem blk16 (k : Fin 384) (j : Fin 1536) : iblk m c 16 t (ix2 k j) = WQ (m ((c : Thread nD τ).loc main_arg16)) (ix2 k j) := by
  refine Eq.trans (b := V m c main_v61 (ix2 k j)) ?_ ((congrFun (V16 m c) _).trans rfl)
  blk_ext [iblk, idx t]

theorem hr_eq (i : Fin 512) : HR (iblk m c 0 t) (iblk m c 1 t) (iblk m c 3 t) (iblk m c 4 t) (iblk m c 5 t) (iblk m c 6 t) (iblk m c 7 t) (iblk m c 8 t) (iblk m c 9 t) (iblk m c 10 t) i = HF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t i) := by
  unfold HR HF
  simp only [blk3, blk4, blk5, blk6, blk7, blk8, blk9, blk10]
  exact congrArg₂ (fun a b => layer (glu _ a) b _ _ _ _ _ _ _) (funext fun k => blk0 m c t i k) (funext fun k => blk1 m c t i k)

/-- A down projection of a row. -/
theorem ar_eq (i : Fin 512) (j : Fin 768) : AR (iblk m c 0 t) (iblk m c 1 t) (iblk m c 3 t) (iblk m c 4 t) (iblk m c 5 t) (iblk m c 6 t) (iblk m c 7 t) (iblk m c 8 t) (iblk m c 9 t) (iblk m c 10 t) (iblk m c 12 t) i j = ∑ k : Fin 1024, HF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t i) k * WA (m ((c : Thread nD τ).loc main_arg11)) (m ((c : Thread nD τ).loc main_arg14)) (ix2 k j) :=
  Finset.sum_congr rfl fun k _ => congrArg₂ (fun a b : EReal => a * b) (congrFun (hr_eq m c t i) k) (blk12 m c t k j)

theorem kvr_eq (i : Fin 512) (j j' : Fin 2048) (h : ∀ k, WKV (m ((c : Thread nD τ).loc main_arg13)) (ix2 k j) = (m ((c : Thread nD τ).loc main_arg13)) (ix2 k j')) :
    KVR (iblk m c 0 t) (iblk m c 1 t) (iblk m c 3 t) (iblk m c 4 t) (iblk m c 5 t) (iblk m c 6 t) (iblk m c 7 t) (iblk m c 8 t) (iblk m c 9 t) (iblk m c 10 t) (iblk m c 12 t) (iblk m c 13 t) (iblk m c 14 t) i j = KVF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (rowOf t i) j' :=
  Finset.sum_congr rfl fun k _ => congrArg₂ (fun a b : EReal => a * b) (congrArg₂ (fun g a => rms 0x43800000#32 g a k) (funext fun k => blk13 m c t k)
    (funext fun k => (ar_eq m c t i _).trans (Finset.sum_congr rfl fun l _ => congrArg₂ (fun a b : EReal => a * b) rfl (WA_kv _ _ l k)))) ((blk14 m c t k j).trans (h k))

theorem qr_eq (i : Fin 512) (j j' : Fin 1536) (h : ∀ k, WQ (m ((c : Thread nD τ).loc main_arg16)) (ix2 k j) = (m ((c : Thread nD τ).loc main_arg16)) (ix3 0 k j')) :
    QR (iblk m c 0 t) (iblk m c 1 t) (iblk m c 3 t) (iblk m c 4 t) (iblk m c 5 t) (iblk m c 6 t) (iblk m c 7 t) (iblk m c 8 t) (iblk m c 9 t) (iblk m c 10 t) (iblk m c 12 t) (iblk m c 15 t) (iblk m c 16 t) i j = QF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (rowOf t i) j' :=
  congrArg (fun a : EReal => a * Ideal.ofBits .f32 0x3DD53B95#32) (Finset.sum_congr rfl fun k _ => congrArg₂ (fun a b : EReal => a * b) (congrArg₂ (fun g a => rms 0x43C00000#32 g a k)
    (funext fun k => blk15 m c t k)
    (funext fun k => (ar_eq m c t i _).trans (Finset.sum_congr rfl fun l _ => congrArg₂ (fun a b : EReal => a * b) rfl (WA_q _ _ l k)))) ((blk16 m c t k j).trans (h k)))

/-- The queries of a block. -/
theorem ql_eq (i : Fin 512) (h : Fin 8) (l : Fin 256) :
    QL (QR (iblk m c 0 t) (iblk m c 1 t) (iblk m c 3 t) (iblk m c 4 t) (iblk m c 5 t) (iblk m c 6 t) (iblk m c 7 t) (iblk m c 8 t) (iblk m c 9 t) (iblk m c 10 t) (iblk m c 12 t) (iblk m c 15 t) (iblk m c 16 t)) (fun i => (iblk m c 2 t) (ix2 i 0)) (fun l => (iblk m c 11 t) (ix2 0 l)) i h l
      = QO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (bOf t) h (sOf t i) l := by
  unfold QL QO
  rw [rowAt_of]
  by_cases hl : l.val < 128
  · rw [dif_pos hl, dif_pos hl]
    exact qr_eq m c t i _ _ fun k => WQ_n _ k h ⟨l, hl⟩
  · rw [dif_neg hl, dif_neg hl]
    by_cases hm : l.val < 192
    · rw [if_pos hm, dif_pos hm]
      show rot2 ((iblk m c 2 t) (ix2 i 0)) _ _ _ = _
      rw [blk2]
      have hf : (fun l : Fin 128 => (iblk m c 11 t) (ix2 0 l)) = freq2 := funext fun l => blk11 m c t l
      rw [hf]
      have hi : (⟨(h.val % 2 * 64 + (l.val - 128)) % 128, Nat.mod_lt _ (by omega)⟩ : Fin 128) = ⟨h.val % 2 * 64 + (⟨l.val - 128, by omega⟩ : Fin 64).val, by dsimp only; omega⟩ :=
        Fin.ext (by dsimp only; omega)
      rw [hi]
      refine (rot2_eq _ _ (h.val % 2 * 64) (by omega) ⟨l.val - 128, by omega⟩).trans (congrArg (fun a => rot (PF (m ((c : Thread nD τ).loc main_arg2)) (rowOf t i)) a ⟨l.val - 128, by omega⟩) (funext fun e => ?_))
      exact qr_eq m c t i _ _ fun k => WQ_r _ k h e
    · rw [if_neg hm, dif_neg hm]

theorem kl_eq (i : Fin 512) (h : Fin 8) (d : Fin 128) :
    KVL (KVR (iblk m c 0 t) (iblk m c 1 t) (iblk m c 3 t) (iblk m c 4 t) (iblk m c 5 t) (iblk m c 6 t) (iblk m c 7 t) (iblk m c 8 t) (iblk m c 9 t) (iblk m c 10 t) (iblk m c 12 t) (iblk m c 13 t) (iblk m c 14 t)) 0 (by omega) i h d = KO (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (bOf t) h (sOf t i) d := by
  unfold KVL KO
  rw [rowAt_of]
  exact kvr_eq m c t i _ _ fun k => (congrArg (fun j => WKV (m ((c : Thread nD τ).loc main_arg13)) (ix2 k j)) (Fin.ext (show 0 + h.val * 128 + d.val = h.val * 128 + d.val by omega))).trans (WKV_k _ k h d)

theorem vl_eq (i : Fin 512) (h : Fin 8) (d : Fin 128) :
    KVL (KVR (iblk m c 0 t) (iblk m c 1 t) (iblk m c 3 t) (iblk m c 4 t) (iblk m c 5 t) (iblk m c 6 t) (iblk m c 7 t) (iblk m c 8 t) (iblk m c 9 t) (iblk m c 10 t) (iblk m c 12 t) (iblk m c 13 t) (iblk m c 14 t)) 1024 (by omega) i h d = VO (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (bOf t) h (sOf t i) d := by
  unfold KVL VO
  rw [rowAt_of]
  exact kvr_eq m c t i _ _ fun k => WKV_v _ k h d

/-- The rotated key's lanes before the rotation: 64 of them, then zeros. -/
theorem kr_in (i : Fin 512) (e : Fin 64) : AR (iblk m c 0 t) (iblk m c 1 t) (iblk m c 3 t) (iblk m c 4 t) (iblk m c 5 t) (iblk m c 6 t) (iblk m c 7 t) (iblk m c 8 t) (iblk m c 9 t) (iblk m c 10 t) (iblk m c 12 t) i ⟨640 + e, by omega⟩ = ∑ k : Fin 1024, HF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (rowOf t i) k * (m ((c : Thread nD τ).loc main_arg11)) (ix2 k ⟨256 + e, by omega⟩) :=
  (ar_eq m c t i _).trans (Finset.sum_congr rfl fun k _ => congrArg₂ (fun a b : EReal => a * b) rfl (WA_r _ _ k e))

theorem kr_out (i : Fin 512) (l : Fin 128) (hl : 64 ≤ l.val) : AR (iblk m c 0 t) (iblk m c 1 t) (iblk m c 3 t) (iblk m c 4 t) (iblk m c 5 t) (iblk m c 6 t) (iblk m c 7 t) (iblk m c 8 t) (iblk m c 9 t) (iblk m c 10 t) (iblk m c 12 t) i ⟨640 + l, by omega⟩ = 0 := by
  rw [ar_eq]
  refine Finset.sum_eq_zero fun k _ => ?_
  have h : (⟨640 + l.val, by omega⟩ : Fin 768) = ⟨704 + (⟨l.val - 64, by omega⟩ : Fin 64).val, by dsimp only; omega⟩ := Fin.ext (by dsimp only; omega)
  rw [h, WA_z, mul_zero]

theorem rl_eq (i : Fin 512) (d : Fin 128) :
    rot2 ((iblk m c 2 t) (ix2 i 0)) (fun l => (iblk m c 11 t) (ix2 0 l)) (fun l => AR (iblk m c 0 t) (iblk m c 1 t) (iblk m c 3 t) (iblk m c 4 t) (iblk m c 5 t) (iblk m c 6 t) (iblk m c 7 t) (iblk m c 8 t) (iblk m c 9 t) (iblk m c 10 t) (iblk m c 12 t) i ⟨640 + l, by omega⟩) d
      = RO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (bOf t) (sOf t i) d := by
  have hf : (fun l : Fin 128 => (iblk m c 11 t) (ix2 0 l)) = freq2 := funext fun l => blk11 m c t l
  rw [hf, blk2]
  unfold RO
  rw [rowAt_of]
  by_cases hd : d.val < 64
  · rw [dif_pos hd]
    have hi : d = ⟨0 + (⟨d.val, hd⟩ : Fin 64).val, by dsimp only; omega⟩ := Fin.ext (by dsimp only; omega)
    refine Eq.trans (congrArg _ hi) ((rot2_eq _ _ 0 (by omega) ⟨d.val, hd⟩).trans (congrArg (fun a => rot (PF (m ((c : Thread nD τ).loc main_arg2)) (rowOf t i)) a ⟨d.val, hd⟩) (funext fun e => ?_)))
    refine Eq.trans (congrArg _ (Fin.ext (by dsimp only; omega))) (kr_in m c t i e)
  · rw [dif_neg hd]
    exact rot2_zero _ _ _ d (kr_out m c t i d (by omega)) (fun h => kr_out m c t i _ (by dsimp only; omega)) (fun h => kr_out m c t i _ (by dsimp only; omega))

def res17 (y : S32768x1024.Idx) : EReal := HF (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (y 0) (y 1)

theorem point17 (y : S512x1024.Idx) : (dats m 0 c).after 17 t y = res17 m c (((cfg0.win 17).blk t).view.emb y) := by
  rw [after0_17, out17]
  have e0 : ((((cfg0.win 17).blk t).view.emb y 0 : Fin 32768) : ℕ) = t.val * 512 + (y 0 : Fin 512) := by blk_simp [idx t]
  have z0 : (((cfg0.win 17).blk t).view.emb y 0 : Fin 32768) = rowOf t (y 0) := Fin.ext e0
  have e1 : ((((cfg0.win 17).blk t).view.emb y 1 : Fin 1024) : ℕ) = (y 1 : Fin 1024) := by blk_simp [idx t]
  have z1 : (((cfg0.win 17).blk t).view.emb y 1 : Fin 1024) = (y 1 : Fin 1024) := Fin.ext e1
  unfold res17
  rw [z0, z1]
  exact congrFun (hr_eq m c t (y 0)) (y 1)

theorem final17 : (dats m 0 c).arrAt 17 cfg0.N = res17 m c := by
  refine (dats m 0 c).arrAt_eq_of_covers 17 _ (by decide +kernel) fun t hf y => ?_
  blk_simp
  exact point17 m c t y

def res18 (y : S8x8x4096x256.Idx) : EReal := QO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg14)) (m ((c : Thread nD τ).loc main_arg15)) (m ((c : Thread nD τ).loc main_arg16)) (y 0) (y 1) (y 2) (y 3)

theorem point18 (y : S1x8x512x256.Idx) : (dats m 0 c).after 18 t y = res18 m c (((cfg0.win 18).blk t).view.emb y) := by
  rw [after0_18, out18]
  have e0 : ((((cfg0.win 18).blk t).view.emb y 0 : Fin 8) : ℕ) = t.val / 8 := by blk_simp [idx t]
  have z0 : (((cfg0.win 18).blk t).view.emb y 0 : Fin 8) = bOf t := Fin.ext e0
  have e1 : ((((cfg0.win 18).blk t).view.emb y 1 : Fin 8) : ℕ) = (y 1 : Fin 8) := by blk_simp [idx t]
  have z1 : (((cfg0.win 18).blk t).view.emb y 1 : Fin 8) = (y 1 : Fin 8) := Fin.ext e1
  have e2 : ((((cfg0.win 18).blk t).view.emb y 2 : Fin 4096) : ℕ) = t.val % 8 * 512 + (y 2 : Fin 512) := by blk_simp [idx t]
  have z2 : (((cfg0.win 18).blk t).view.emb y 2 : Fin 4096) = sOf t (y 2) := Fin.ext e2
  have e3 : ((((cfg0.win 18).blk t).view.emb y 3 : Fin 256) : ℕ) = (y 3 : Fin 256) := by blk_simp [idx t]
  have z3 : (((cfg0.win 18).blk t).view.emb y 3 : Fin 256) = (y 3 : Fin 256) := Fin.ext e3
  unfold res18
  rw [z0, z1, z2, z3]
  exact ql_eq m c t (y 2) (y 1) (y 3)

theorem final18 : (dats m 0 c).arrAt 18 cfg0.N = res18 m c := by
  refine (dats m 0 c).arrAt_eq_of_covers 18 _ (by decide +kernel) fun t hf y => ?_
  blk_simp
  exact point18 m c t y

def res19 (y : S8x8x4096x128.Idx) : EReal := KO (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (y 0) (y 1) (y 2) (y 3)

theorem point19 (y : S1x8x512x128.Idx) : (dats m 0 c).after 19 t y = res19 m c (((cfg0.win 19).blk t).view.emb y) := by
  rw [after0_19, out19]
  have e0 : ((((cfg0.win 19).blk t).view.emb y 0 : Fin 8) : ℕ) = t.val / 8 := by blk_simp [idx t]
  have z0 : (((cfg0.win 19).blk t).view.emb y 0 : Fin 8) = bOf t := Fin.ext e0
  have e1 : ((((cfg0.win 19).blk t).view.emb y 1 : Fin 8) : ℕ) = (y 1 : Fin 8) := by blk_simp [idx t]
  have z1 : (((cfg0.win 19).blk t).view.emb y 1 : Fin 8) = (y 1 : Fin 8) := Fin.ext e1
  have e2 : ((((cfg0.win 19).blk t).view.emb y 2 : Fin 4096) : ℕ) = t.val % 8 * 512 + (y 2 : Fin 512) := by blk_simp [idx t]
  have z2 : (((cfg0.win 19).blk t).view.emb y 2 : Fin 4096) = sOf t (y 2) := Fin.ext e2
  have e3 : ((((cfg0.win 19).blk t).view.emb y 3 : Fin 128) : ℕ) = (y 3 : Fin 128) := by blk_simp [idx t]
  have z3 : (((cfg0.win 19).blk t).view.emb y 3 : Fin 128) = (y 3 : Fin 128) := Fin.ext e3
  unfold res19
  rw [z0, z1, z2, z3]
  exact kl_eq m c t (y 2) (y 1) (y 3)

theorem final19 : (dats m 0 c).arrAt 19 cfg0.N = res19 m c := by
  refine (dats m 0 c).arrAt_eq_of_covers 19 _ (by decide +kernel) fun t hf y => ?_
  blk_simp
  exact point19 m c t y

def res20 (y : S8x4096x128.Idx) : EReal := RO (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (y 0) (y 1) (y 2)

theorem point20 (y : S1x512x128.Idx) : (dats m 0 c).after 20 t y = res20 m c (((cfg0.win 20).blk t).view.emb y) := by
  rw [after0_20, out20]
  have e0 : ((((cfg0.win 20).blk t).view.emb y 0 : Fin 8) : ℕ) = t.val / 8 := by blk_simp [idx t]
  have z0 : (((cfg0.win 20).blk t).view.emb y 0 : Fin 8) = bOf t := Fin.ext e0
  have e1 : ((((cfg0.win 20).blk t).view.emb y 1 : Fin 4096) : ℕ) = t.val % 8 * 512 + (y 1 : Fin 512) := by blk_simp [idx t]
  have z1 : (((cfg0.win 20).blk t).view.emb y 1 : Fin 4096) = sOf t (y 1) := Fin.ext e1
  have e2 : ((((cfg0.win 20).blk t).view.emb y 2 : Fin 128) : ℕ) = (y 2 : Fin 128) := by blk_simp [idx t]
  have z2 : (((cfg0.win 20).blk t).view.emb y 2 : Fin 128) = (y 2 : Fin 128) := Fin.ext e2
  unfold res20
  rw [z0, z1, z2]
  exact rl_eq m c t (y 1) (y 2)

theorem final20 : (dats m 0 c).arrAt 20 cfg0.N = res20 m c := by
  refine (dats m 0 c).arrAt_eq_of_covers 20 _ (by decide +kernel) fun t hf y => ?_
  blk_simp
  exact point20 m c t y

def res21 (y : S8x8x4096x128.Idx) : EReal := VO (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (y 0) (y 1) (y 2) (y 3)

theorem point21 (y : S1x8x512x128.Idx) : (dats m 0 c).after 21 t y = res21 m c (((cfg0.win 21).blk t).view.emb y) := by
  rw [after0_21, out21]
  have e0 : ((((cfg0.win 21).blk t).view.emb y 0 : Fin 8) : ℕ) = t.val / 8 := by blk_simp [idx t]
  have z0 : (((cfg0.win 21).blk t).view.emb y 0 : Fin 8) = bOf t := Fin.ext e0
  have e1 : ((((cfg0.win 21).blk t).view.emb y 1 : Fin 8) : ℕ) = (y 1 : Fin 8) := by blk_simp [idx t]
  have z1 : (((cfg0.win 21).blk t).view.emb y 1 : Fin 8) = (y 1 : Fin 8) := Fin.ext e1
  have e2 : ((((cfg0.win 21).blk t).view.emb y 2 : Fin 4096) : ℕ) = t.val % 8 * 512 + (y 2 : Fin 512) := by blk_simp [idx t]
  have z2 : (((cfg0.win 21).blk t).view.emb y 2 : Fin 4096) = sOf t (y 2) := Fin.ext e2
  have e3 : ((((cfg0.win 21).blk t).view.emb y 3 : Fin 128) : ℕ) = (y 3 : Fin 128) := by blk_simp [idx t]
  have z3 : (((cfg0.win 21).blk t).view.emb y 3 : Fin 128) = (y 3 : Fin 128) := Fin.ext e3
  unfold res21
  rw [z0, z1, z2, z3]
  exact vl_eq m c t (y 2) (y 1) (y 3)

theorem final21 : (dats m 0 c).arrAt 21 cfg0.N = res21 m c := by
  refine (dats m 0 c).arrAt_eq_of_covers 21 _ (by decide +kernel) fun t hf y => ?_
  blk_simp
  exact point21 m c t y

end Cert.Kernel3Ideal.Tail
-- ==== Proof.TailReference.lean ====
/- The last reference's five result arrays, at every position, as the functions of the argument arrays that the kernel's are. -/
module

public import proofs.«01_k».proof.Proof.TailResult
public import proofs.«01_k».proof.Proof.MlpReference
public import proofs.«01_k».proof.Proof.Gen.Reference3Ideal.Run

@[expose] public section

set_option maxRecDepth 16384

noncomputable section

namespace Cert.Reference3Ideal.Tail

open Idealize.ShloMosaic Idealize.ShloMosaic.TcCoe Idealize.SL.Sem Idealize.ShloMosaic.StableHlo
open Cert.Reference3Ideal Cert.Reference3Ideal.Gen Row
open Cert.Kernel3Ideal.Tail (HF KVF QF PF QO KO VO RO rowAt)
open Cert.Reference2Ideal.Mlp (HMU HCEN HSCL HMU_at HCEN_at HSCL_at)

/-- The first of two rows, for every row. -/
def HROW (g : FVec Ideal S2x1024 .f32) : FVec Ideal S32768x1024 .f32 :=
  broadcastInDim S32768x1024 ![0, 1] bcast_S1x1024_S32768x1024_0_1 (broadcastInDim S1x1024 ![1] bcast_S1024_S1x1024_1
    (shapeCast _ (extractStridedSlice S1x1024 ![0, 0] g slices_S2x1024_S1x1024_0_0) shapeCasts_S1x1024_S1024))

theorem HROW_at (g : FVec Ideal S2x1024 .f32) (i : Fin 32768) (j : Fin 1024) : HROW g (ix2 i j) = g (ix2 0 j) := by
  pointwise [HROW]

/-- The layer norm of every row. -/
def HLN (X : FVec Ideal S32768x1024 .f32) (g b : FVec Ideal S2x1024 .f32) : FVec Ideal S32768x1024 .f32 :=
  HSCL (HCEN X (HMU X)) (HMU (mulf (HCEN X (HMU X)) (HCEN X (HMU X)))) (HROW g) (HROW b)

theorem HLN_at (X : FVec Ideal S32768x1024 .f32) (g b : FVec Ideal S2x1024 .f32) (i : Fin 32768) (j : Fin 1024) :
    HLN X g b (ix2 i j) = norm (fun j => g (ix2 0 j)) (fun j => b (ix2 0 j)) (fun j => X (ix2 i j)) j := by
  rw [HLN, HSCL_at, HCEN_at, HMU_at, HMU_at, HROW_at, HROW_at]
  have h : (fun k => mulf (HCEN X (HMU X)) (HCEN X (HMU X)) (ix2 i k)) = fun k : Fin 1024 =>
      ((X (ix2 i k) : EReal) - mean (fun j => X (ix2 i j))) * (X (ix2 i k) - mean (fun j => X (ix2 i j))) := by
    funext k
    show HCEN X _ (ix2 i k) * HCEN X _ (ix2 i k) = _
    rw [HCEN_at, HMU_at]
  rw [h]; rfl

/-- The product with the gate matrix. -/
def HG (Y : FVec Ideal S32768x1024 .f32) (w : FVec Ideal S1x1024x2048 .f32) : FVec Ideal S32768x2048 .f32 :=
  Host.dotGeneral dot_S32768x1024_S1024x2048_S32768x2048_1_0_0_1_n_n none Y (shapeCast _ w shapeCasts_S1x1024x2048_S1024x2048)

theorem HG_at (Y : FVec Ideal S32768x1024 .f32) (w : FVec Ideal S1x1024x2048 .f32) (i : Fin 32768) (k : Fin 2048) :
    HG Y w (ix2 i k) = ∑ j : Fin 1024, (Y (ix2 i j) : EReal) * w (ix3 0 j k) := by
  pointwise [HG]

/-- The gated rows. -/
def HGLU (P : FVec Ideal S32768x2048 .f32) : FVec Ideal S32768x1024 .f32 :=
  mulf (extractStridedSlice S32768x1024 ![0, 0] P slices_S32768x2048_S32768x1024_0_0) (Host.divf (broadcastInDim S32768x1024 ![] bcast_S_S32768x1024 (constant S_ .f32 0x3F800000#32))
    (addf (broadcastInDim S32768x1024 ![] bcast_S_S32768x1024 (constant S_ .f32 0x3F800000#32)) (Host.exp (Host.negf (extractStridedSlice S32768x1024 ![0, 1024] P slices_S32768x2048_S32768x1024_0_1024)))))

theorem HGLU_at (P : FVec Ideal S32768x2048 .f32) (i : Fin 32768) (k : Fin 1024) :
    HGLU P (ix2 i k) = (P (ix2 i ⟨k, by omega⟩) : EReal) * Ideal.logistic (P (ix2 i ⟨1024 + k, by omega⟩)) := by
  pointwise [HGLU]
  rfl

/-- The scaled residual and the product with the output matrix. -/
def HOUT (X Y : FVec Ideal S32768x1024 .f32) (w : FVec Ideal S1x1024x1024 .f32) : FVec Ideal S32768x1024 .f32 :=
  addf (mulf (broadcastInDim S32768x1024 ![] bcast_S_S32768x1024 (constant S_ .f32 0x3FB504F3#32)) X)
    (Host.dotGeneral dot_S32768x1024_S1024x1024_S32768x1024_1_0_0_1_n_n none Y (shapeCast _ w shapeCasts_S1x1024x1024_S1024x1024))

theorem HOUT_at (X Y : FVec Ideal S32768x1024 .f32) (w : FVec Ideal S1x1024x1024 .f32) (i : Fin 32768) (j : Fin 1024) :
    HOUT X Y w (ix2 i j) = Ideal.ofBits .f32 0x3FB504F3#32 * X (ix2 i j) + ∑ k : Fin 1024, (Y (ix2 i k) : EReal) * w (ix3 0 k j) := by
  pointwise [HOUT]

/-- The hidden units before squaring. -/
def HHID (X : FVec Ideal S32768x1024 .f32) (w : FVec Ideal S2x1024x4096 .f32) : FVec Ideal S32768x4096 .f32 :=
  maximumf (Host.dotGeneral dot_S32768x1024_S1024x4096_S32768x4096_1_0_0_1_n_n none X
      (shapeCast _ (extractStridedSlice S1x1024x4096 ![0, 0, 0] w slices_S2x1024x4096_S1x1024x4096_0_0_0) shapeCasts_S1x1024x4096_S1024x4096))
      (broadcastInDim S32768x4096 ![] bcast_S_S32768x4096 (constant S_ .f32 0x00000000#32))

theorem HHID_at (X : FVec Ideal S32768x1024 .f32) (w : FVec Ideal S2x1024x4096 .f32) (i : Fin 32768) (k : Fin 4096) :
    (HHID X w (ix2 i k) : EReal) * HHID X w (ix2 i k) = hid (fun j => w (ix3 0 j k)) (fun j => X (ix2 i j)) := by
  pointwise [HHID, hid]

/-- The scaled rows and the squared hidden units' product. -/
def HUP (X : FVec Ideal S32768x1024 .f32) (U : FVec Ideal S32768x4096 .f32) (w : FVec Ideal S2x4096x1024 .f32) : FVec Ideal S32768x1024 .f32 :=
  addf (mulf (broadcastInDim S32768x1024 ![] bcast_S_S32768x1024 (constant S_ .f32 0x3FB504F3#32)) X)
    (Host.dotGeneral dot_S32768x4096_S4096x1024_S32768x1024_1_0_0_1_n_n none (mulf U U)
      (shapeCast _ (extractStridedSlice S1x4096x1024 ![0, 0, 0] w slices_S2x4096x1024_S1x4096x1024_0_0_0) shapeCasts_S1x4096x1024_S4096x1024))

theorem HUP_at (X : FVec Ideal S32768x1024 .f32) (U : FVec Ideal S32768x4096 .f32) (w : FVec Ideal S2x4096x1024 .f32) (i : Fin 32768) (j : Fin 1024) :
    HUP X U w (ix2 i j) = Ideal.ofBits .f32 0x3FB504F3#32 * X (ix2 i j) + ∑ k : Fin 4096, (U (ix2 i k) : EReal) * U (ix2 i k) * w (ix3 0 k j) := by
  pointwise [HUP]

/-- The angle of every row and pair. -/
def HANG (p : IVec S8x4096 32) : FVec Ideal S32768x32 .f32 :=
  mulf (broadcastInDim S32768x32 ![0, 1] bcast_S32768x1_S32768x32_0_1 (shapeCast _ (sitofp .f32 p : FVec Ideal S8x4096 .f32) shapeCasts_S8x4096_S32768x1))
    (broadcastInDim S32768x32 ![0, 1] bcast_S1x32_S32768x32_0_1 (broadcastInDim S1x32 ![1] bcast_S32_S1x32_1 Cert.Kernel3Ideal.Tail.FR))

theorem HANG_at (p : IVec S8x4096 32) (i : Fin 32768) (l : Fin 32) : HANG p (ix2 i l) = PF p i * freq l := by
  rw [← Cert.Kernel3Ideal.Tail.FR_at]
  pointwise [HANG, PF]
  rfl

/-- The keys' and values' down projection. -/
def HKA (X : FVec Ideal S32768x1024 .f32) (w : FVec Ideal S1024x320 .f32) : FVec Ideal S32768x320 .f32 :=
  Host.dotGeneral dot_S32768x1024_S1024x320_S32768x320_1_0_0_1_n_n none X w

theorem HKA_at (X : FVec Ideal S32768x1024 .f32) (w : FVec Ideal S1024x320 .f32) (i : Fin 32768) (j : Fin 320) :
    HKA X w (ix2 i j) = ∑ k : Fin 1024, (X (ix2 i k) : EReal) * w (ix2 k j) := by
  pointwise [HKA]

/-- The queries' down projection. -/
def HQA (X : FVec Ideal S32768x1024 .f32) (w : FVec Ideal S1x1024x384 .f32) : FVec Ideal S32768x384 .f32 :=
  Host.dotGeneral dot_S32768x1024_S1024x384_S32768x384_1_0_0_1_n_n none X (shapeCast _ w shapeCasts_S1x1024x384_S1024x384)

theorem HQA_at (X : FVec Ideal S32768x1024 .f32) (w : FVec Ideal S1x1024x384 .f32) (i : Fin 32768) (j : Fin 384) :
    HQA X w (ix2 i j) = ∑ k : Fin 1024, (X (ix2 i k) : EReal) * w (ix3 0 k j) := by
  pointwise [HQA]

/-- The normed down projection's product, head after head. -/
def HKV (X : FVec Ideal S32768x256 .f32) (g : FVec Ideal S256 .f32) (w : FVec Ideal S256x2048 .f32) : FVec Ideal S32768x2048 .f32 :=
  Host.dotGeneral dot_S32768x256_S256x2048_S32768x2048_1_0_0_1_n_n none (mulf (mulf X (broadcastInDim S32768x256 ![0, 1] bcast_S32768x1_S32768x256_0_1
    (Host.rsqrt (addf (Host.divf (broadcastInDim S32768x1 ![0] bcast_S32768_S32768x1_0 (Host.reduceAdd (mulf X X) (constant S_ .f32 0x00000000#32) reducesTo_S32768x256_S32768_d1 h_S_))
      (broadcastInDim S32768x1 ![] bcast_S_S32768x1 (constant S_ .f32 0x43800000#32))) (broadcastInDim S32768x1 ![] bcast_S_S32768x1 (constant S_ .f32 0x358637BD#32))))))
    (broadcastInDim S32768x256 ![0, 1] bcast_S1x256_S32768x256_0_1 (broadcastInDim S1x256 ![1] bcast_S256_S1x256_1 g))) w

theorem HKV_at (X : FVec Ideal S32768x256 .f32) (g : FVec Ideal S256 .f32) (w : FVec Ideal S256x2048 .f32) (i : Fin 32768) (c : Fin 2048) :
    HKV X g w (ix2 i c) = ∑ k : Fin 256, rms 0x43800000#32 (fun k => g (ix1 k)) (fun k => X (ix2 i k)) k * (w (ix2 k c) : EReal) := by
  pointwise [HKV, rms]

def HQ (X : FVec Ideal S32768x384 .f32) (g : FVec Ideal S1x384 .f32) (w : FVec Ideal S1x384x1536 .f32) : FVec Ideal S32768x1536 .f32 :=
  mulf (Host.dotGeneral dot_S32768x384_S384x1536_S32768x1536_1_0_0_1_n_n none (mulf (mulf X (broadcastInDim S32768x384 ![0, 1] bcast_S32768x1_S32768x384_0_1
    (Host.rsqrt (addf (Host.divf (broadcastInDim S32768x1 ![0] bcast_S32768_S32768x1_0 (Host.reduceAdd (mulf X X) (constant S_ .f32 0x00000000#32) reducesTo_S32768x384_S32768_d1 h_S_))
      (broadcastInDim S32768x1 ![] bcast_S_S32768x1 (constant S_ .f32 0x43C00000#32))) (broadcastInDim S32768x1 ![] bcast_S_S32768x1 (constant S_ .f32 0x358637BD#32))))))
    (broadcastInDim S32768x384 ![0, 1] bcast_S1x384_S32768x384_0_1 (broadcastInDim S1x384 ![1] bcast_S384_S1x384_1 (shapeCast _ g shapeCasts_S1x384_S384))))
      (shapeCast _ w shapeCasts_S1x384x1536_S384x1536)) (broadcastInDim S32768x1536 ![] bcast_S_S32768x1536 (constant S_ .f32 0x3DD53B95#32))

theorem HQ_at (X : FVec Ideal S32768x384 .f32) (g : FVec Ideal S1x384 .f32) (w : FVec Ideal S1x384x1536 .f32) (i : Fin 32768) (c : Fin 1536) :
    HQ X g w (ix2 i c) = (∑ k : Fin 384, rms 0x43C00000#32 (fun k => g (ix2 0 k)) (fun k => X (ix2 i k)) k * (w (ix3 0 k c) : EReal)) * Ideal.ofBits .f32 0x3DD53B95#32 := by
  pointwise [HQ, rms]

/-- The keys or the values of every head. -/
def HK (K : FVec Ideal S32768x2048 .f32) : FVec Ideal S8x8x4096x128 .bf16 :=
  truncf .bf16 (transpose S8x8x4096x128 [0, 2, 1, 3] (extractStridedSlice S8x4096x8x128 ![0, 0, 0, 0] (shapeCast S8x4096x8x256 K shapeCasts_S32768x2048_S8x4096x8x256)
    slices_S8x4096x8x256_S8x4096x8x128_0_0_0_0) transposes_S8x4096x8x128_S8x8x4096x128_0_2_1_3 : FVec Ideal S8x8x4096x128 .f32) bitsLt_bf16_f32

theorem HK_at (K : FVec Ideal S32768x2048 .f32) (b h : Fin 8) (s : Fin 4096) (d : Fin 128) : HK K (ix4 b h s d) = K (ix2 (rowAt b s) ⟨h.val * 256 + d.val, by omega⟩) := by
  pointwise [HK, rowAt]

def HV (K : FVec Ideal S32768x2048 .f32) : FVec Ideal S8x8x4096x128 .bf16 :=
  truncf .bf16 (transpose S8x8x4096x128 [0, 2, 1, 3] (extractStridedSlice S8x4096x8x128 ![0, 0, 0, 128] (shapeCast S8x4096x8x256 K shapeCasts_S32768x2048_S8x4096x8x256)
    slices_S8x4096x8x256_S8x4096x8x128_0_0_0_128) transposes_S8x4096x8x128_S8x8x4096x128_0_2_1_3 : FVec Ideal S8x8x4096x128 .f32) bitsLt_bf16_f32

theorem HV_at (K : FVec Ideal S32768x2048 .f32) (b h : Fin 8) (s : Fin 4096) (d : Fin 128) : HV K (ix4 b h s d) = K (ix2 (rowAt b s) ⟨h.val * 256 + 128 + d.val, by omega⟩) := by
  pointwise [HV, rowAt]
  exact congrArg (fun c => K (ix2 _ c)) (Fin.ext (by dsimp only; omega))

/-- The rotated shared key of every row. -/
def HRK (x : FVec Ideal S32768x64 .f32) (A : FVec Ideal S32768x32 .f32) : FVec Ideal S32768x64 .f32 :=
  let u := extractStridedSlice S32768x32 ![0, 0] x slices_S32768x64_S32768x32_0_0
  let v := extractStridedSlice S32768x32 ![0, 32] x slices_S32768x64_S32768x32_0_32
  concatenate S32768x64 1 [⟨S32768x32, (subf (mulf u (Host.cos A)) (mulf v (Host.sin A)) : FVec Ideal S32768x32 .f32)⟩,
    ⟨S32768x32, (addf (mulf u (Host.sin A)) (mulf v (Host.cos A)) : FVec Ideal S32768x32 .f32)⟩] concatenates_S32768x32_S32768x32_S32768x64_d1

/-- The second of a pair of lanes, from the first. -/
theorem lane (e : Fin 64) (h : ¬ e.val < 32) (hb : 32 + (e.val - 32) < 64) : (⟨32 + (e.val - 32), hb⟩ : Fin 64) = e := Fin.ext (by dsimp only; omega)

theorem HRK_at (x : FVec Ideal S32768x64 .f32) (A : FVec Ideal S32768x32 .f32) (p : EReal) (i : Fin 32768) (e : Fin 64) (hA : ∀ l, A (ix2 i l) = p * freq l) :
    HRK x A (ix2 i e) = rot p (fun e => x (ix2 i e)) e := by
  unfold rot
  simp only [← hA]
  pointwise [HRK]
  by_cases h : e.val < 32
  · rw [dif_pos h, dif_pos h]
  · rw [dif_neg h, dif_neg h, lane e h]

/-- The shared key with zeros to the right, a sequence after another. -/
def HRO (R : FVec Ideal S32768x64 .f32) : FVec Ideal S8x4096x128 .bf16 :=
  truncf .bf16 (shapeCast S8x4096x128 (concatenate S32768x128 1 [⟨S32768x64, R⟩,
    ⟨S32768x64, broadcastInDim S32768x64 ![] bcast_S_S32768x64 (constant S_ .f32 0x00000000#32 : FVec Ideal S_ .f32)⟩] concatenates_S32768x64_S32768x64_S32768x128_d1)
    shapeCasts_S32768x128_S8x4096x128 : FVec Ideal S8x4096x128 .f32) bitsLt_bf16_f32

theorem HRO_at (R : FVec Ideal S32768x64 .f32) (b : Fin 8) (s : Fin 4096) (d : Fin 128) :
    HRO R (ix3 b s d) = if hd : d.val < 64 then R (ix2 (rowAt b s) ⟨d, hd⟩) else 0 := by
  pointwise [HRO, rowAt]

/-- The last 64 columns of the keys' and values' down projection. -/
def HK2 (K : FVec Ideal S32768x320 .f32) : FVec Ideal S32768x64 .f32 := extractStridedSlice S32768x64 ![0, 256] K slices_S32768x320_S32768x64_0_256

theorem HK2_at (K : FVec Ideal S32768x320 .f32) (i : Fin 32768) (e : Fin 64) : HK2 K (ix2 i e) = K (ix2 i ⟨256 + e.val, by omega⟩) := by
  pointwise [HK2]

/-- The queries, a head after another. -/
def HQ3 (Q : FVec Ideal S32768x1536 .f32) : FVec Ideal S32768x8x192 .f32 := shapeCast S32768x8x192 Q shapeCasts_S32768x1536_S32768x8x192

theorem HQ3_at (Q : FVec Ideal S32768x1536 .f32) (i : Fin 32768) (h : Fin 8) (e : Fin 192) : HQ3 Q (ix3 i h e) = Q (ix2 i ⟨h.val * 192 + e.val, by omega⟩) := by
  pointwise [HQ3]

/-- The lanes of every head that are rotated. -/
def HQ2 (q : FVec Ideal S32768x8x192 .f32) : FVec Ideal S32768x8x64 .f32 := extractStridedSlice S32768x8x64 ![0, 0, 128] q slices_S32768x8x192_S32768x8x64_0_0_128

theorem HQ2_at (q : FVec Ideal S32768x8x192 .f32) (i : Fin 32768) (h : Fin 8) (e : Fin 64) : HQ2 q (ix3 i h e) = q (ix3 i h ⟨128 + e.val, by omega⟩) := by
  pointwise [HQ2]

/-- The rotated lanes of every head. -/
def HRQ (x : FVec Ideal S32768x8x64 .f32) (A : FVec Ideal S32768x32 .f32) : FVec Ideal S32768x8x64 .f32 :=
  let u := extractStridedSlice S32768x8x32 ![0, 0, 0] x slices_S32768x8x64_S32768x8x32_0_0_0
  let v := extractStridedSlice S32768x8x32 ![0, 0, 32] x slices_S32768x8x64_S32768x8x32_0_0_32
  let C := broadcastInDim S32768x8x32 ![0, 1, 2] bcast_S32768x1x32_S32768x8x32_0_1_2 (broadcastInDim S32768x1x32 ![0, 2] bcast_S32768x32_S32768x1x32_0_2 (Host.cos A))
  let S := broadcastInDim S32768x8x32 ![0, 1, 2] bcast_S32768x1x32_S32768x8x32_0_1_2 (broadcastInDim S32768x1x32 ![0, 2] bcast_S32768x32_S32768x1x32_0_2 (Host.sin A))
  concatenate S32768x8x64 2 [⟨S32768x8x32, (subf (mulf u C) (mulf v S) : FVec Ideal S32768x8x32 .f32)⟩, ⟨S32768x8x32, (addf (mulf u S) (mulf v C) : FVec Ideal S32768x8x32 .f32)⟩]
    concatenates_S32768x8x32_S32768x8x32_S32768x8x64_d2

theorem HRQ_at (x : FVec Ideal S32768x8x64 .f32) (A : FVec Ideal S32768x32 .f32) (p : EReal) (i : Fin 32768) (h : Fin 8) (e : Fin 64) (hA : ∀ l, A (ix2 i l) = p * freq l) :
    HRQ x A (ix3 i h e) = rot p (fun e => x (ix3 i h e)) e := by
  unfold rot
  simp only [← hA]
  pointwise [HRQ]
  by_cases he : e.val < 32
  · rw [dif_pos he, dif_pos he]
  · rw [dif_neg he, dif_neg he, lane e he]

/-- The queries of every head: the head's own lanes, the rotated ones, zeros. -/
def HCAT (q : FVec Ideal S32768x8x192 .f32) (R : FVec Ideal S32768x8x64 .f32) : FVec Ideal S32768x8x256 .f32 :=
  concatenate S32768x8x256 2 [⟨S32768x8x128, extractStridedSlice S32768x8x128 ![0, 0, 0] q slices_S32768x8x192_S32768x8x128_0_0_0⟩, ⟨S32768x8x64, R⟩,
    ⟨S32768x8x64, broadcastInDim S32768x8x64 ![] bcast_S_S32768x8x64 (constant S_ .f32 0x00000000#32 : FVec Ideal S_ .f32)⟩] concatenates_S32768x8x128_S32768x8x64_S32768x8x64_S32768x8x256_d2

theorem HCAT_at (q : FVec Ideal S32768x8x192 .f32) (R : FVec Ideal S32768x8x64 .f32) (i : Fin 32768) (h : Fin 8) (l : Fin 256) :
    HCAT q R (ix3 i h l) = if hl : l.val < 128 then q (ix3 i h ⟨l, by omega⟩) else if hm : l.val < 192 then R (ix3 i h ⟨l.val - 128, by omega⟩) else 0 := by
  pointwise [HCAT]
  by_cases hl : l.val < 128
  · rw [dif_pos hl, dif_pos hl]
  · rw [dif_neg hl, dif_neg hl]
    by_cases hm : l.val < 192
    · rw [dif_pos (by omega), dif_pos hm]
    · rw [dif_neg (by omega), dif_neg hm]

/-- The heads before the positions. -/
def HTR (x : FVec Ideal S32768x8x256 .f32) : FVec Ideal S8x8x4096x256 .bf16 :=
  truncf .bf16 (transpose S8x8x4096x256 [0, 2, 1, 3] (shapeCast S8x4096x8x256 x shapeCasts_S32768x8x256_S8x4096x8x256) transposes_S8x4096x8x256_S8x8x4096x256_0_2_1_3 :
    FVec Ideal S8x8x4096x256 .f32) bitsLt_bf16_f32

theorem HTR_at (x : FVec Ideal S32768x8x256 .f32) (b h : Fin 8) (s : Fin 4096) (l : Fin 256) : HTR x (ix4 b h s l) = x (ix3 (rowAt b s) h l) := by
  pointwise [HTR, rowAt]

theorem first_lanes (K : FVec Ideal S32768x320 .f32) (i : Fin 32768) (k : Fin 256) :
    extractStridedSlice S32768x256 ![0, 0] K slices_S32768x320_S32768x256_0_0 (ix2 i k) = K (ix2 i ⟨k, by omega⟩) := by
  pointwise

variable (V0 : Valuation τ sig (Elt Ideal))

/-- The reference's layer. -/
def H : FVec Ideal S32768x1024 .f32 := Value.res_main_v85 V0

theorem r4 : Value.res_main_v4 V0 = HG (shapeCast S32768x1024 (extf .f32 (V0 (Proc.devRef .tc main_arg0)) bitsLt_bf16_f32 : FVec Ideal S8x4096x1024 .f32) shapeCasts_S8x4096x1024_S32768x1024) (V0 (Proc.devRef .tc main_arg9)) := rfl

theorem r18 : Value.res_main_v18 V0 = HOUT (shapeCast S32768x1024 (V0 (Proc.devRef .tc main_arg1)) shapeCasts_S8x4096x1024_S32768x1024) (HGLU (Value.res_main_v4 V0)) (V0 (Proc.devRef .tc main_arg10)) := rfl

theorem r46 : Value.res_main_v46 V0 = HLN (Value.res_main_v18 V0) (V0 (Proc.devRef .tc main_arg3)) (V0 (Proc.devRef .tc main_arg4)) := rfl

theorem r57 : Value.res_main_v57 V0 = HUP (Value.res_main_v46 V0) (HHID (Value.res_main_v46 V0) (V0 (Proc.devRef .tc main_arg7))) (V0 (Proc.devRef .tc main_arg8)) := rfl

theorem r85 : Value.res_main_v85 V0 = HLN (Value.res_main_v57 V0) (V0 (Proc.devRef .tc main_arg5)) (V0 (Proc.devRef .tc main_arg6)) := rfl

theorem r97 : Value.res_main_v97 V0 = HANG (V0 (Proc.devRef .tc main_arg2)) := rfl

theorem r126 : Value.res_main_v126 V0 = shapeCast S8x4096x8x256 (HKV (extractStridedSlice S32768x256 ![0, 0] (HKA (H V0) (V0 (Proc.devRef .tc main_arg11))) slices_S32768x320_S32768x256_0_0) (V0 (Proc.devRef .tc main_arg12)) (V0 (Proc.devRef .tc main_arg13)))
    shapeCasts_S32768x2048_S8x4096x8x256 := rfl

theorem r149 : Value.res_main_v149 V0 = shapeCast S32768x8x192 (HQ (HQA (H V0) (V0 (Proc.devRef .tc main_arg14))) (V0 (Proc.devRef .tc main_arg15)) (V0 (Proc.devRef .tc main_arg16))) shapeCasts_S32768x1536_S32768x8x192 := rfl

/-- The layer's rows are the kernel's. -/
theorem h_at (i : Fin 32768) (j : Fin 1024) : H V0 (ix2 i j) = HF (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) i j := by
  have e4 : ∀ k, Value.res_main_v4 V0 (ix2 i k) = _ := fun k => (congrFun (r4 V0) _).trans (HG_at _ _ i k)
  have e18 : ∀ j, Value.res_main_v18 V0 (ix2 i j) = _ := fun j => (congrFun (r18 V0) _).trans (HOUT_at _ _ _ i j)
  have e46 : ∀ j, Value.res_main_v46 V0 (ix2 i j) = _ := fun j => (congrFun (r46 V0) _).trans (HLN_at _ _ _ i j)
  have e57 : ∀ j, Value.res_main_v57 V0 (ix2 i j) = _ := fun j => (congrFun (r57 V0) _).trans (HUP_at _ _ _ i j)
  refine (congrFun (r85 V0) _).trans ((HLN_at _ _ _ i j).trans ?_)
  simp only [e57, HHID_at, e46, e18, HGLU_at, e4]
  rfl

theorem kv_at (i : Fin 32768) (j : Fin 2048) :
    HKV (extractStridedSlice S32768x256 ![0, 0] (HKA (H V0) (V0 (Proc.devRef .tc main_arg11))) slices_S32768x320_S32768x256_0_0) (V0 (Proc.devRef .tc main_arg12)) (V0 (Proc.devRef .tc main_arg13)) (ix2 i j)
      = KVF (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) i j := by
  have e : ∀ k : Fin 256, extractStridedSlice S32768x256 ![0, 0] (HKA (H V0) (V0 (Proc.devRef .tc main_arg11))) slices_S32768x320_S32768x256_0_0 (ix2 i k) = HKA (H V0) (V0 (Proc.devRef .tc main_arg11)) (ix2 i ⟨k, by omega⟩) :=
    fun k => first_lanes _ i k
  rw [HKV_at]
  simp only [e, HKA_at, h_at]
  rfl

theorem q_at (i : Fin 32768) (j : Fin 1536) :
    HQ (HQA (H V0) (V0 (Proc.devRef .tc main_arg14))) (V0 (Proc.devRef .tc main_arg15)) (V0 (Proc.devRef .tc main_arg16)) (ix2 i j) = QF (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg14)) (V0 (Proc.devRef .tc main_arg15)) (V0 (Proc.devRef .tc main_arg16)) i j := by
  rw [HQ_at]
  simp only [HQA_at, h_at]
  rfl

/-- The results, each at every position. -/
theorem res0 : Value.res_main_v85 V0 = fun y => HF (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (y 0) (y 1) :=
  funext fun y => (congrArg (H V0) (eq_ix2 y)).trans (h_at V0 (y 0) (y 1))

/-- The queries before the heads are laid out. -/
abbrev RQ : FVec Ideal S32768x8x192 .f32 := HQ3 (HQ (HQA (H V0) (V0 (Proc.devRef .tc main_arg14))) (V0 (Proc.devRef .tc main_arg15)) (V0 (Proc.devRef .tc main_arg16)))

theorem rq_at (i : Fin 32768) (h : Fin 8) (e : Fin 192) : RQ V0 (ix3 i h e) = QF (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg14)) (V0 (Proc.devRef .tc main_arg15)) (V0 (Proc.devRef .tc main_arg16)) i ⟨h.val * 192 + e.val, by omega⟩ :=
  (HQ3_at _ i h e).trans (q_at V0 _ _)

theorem angle (i : Fin 32768) (l : Fin 32) : Value.res_main_v97 V0 (ix2 i l) = PF (V0 (Proc.devRef .tc main_arg2)) i * freq l := (congrFun (r97 V0) _).trans (HANG_at _ _ l)

theorem rotq_at (i : Fin 32768) (h : Fin 8) (d : Fin 64) : HRQ (HQ2 (RQ V0)) (Value.res_main_v97 V0) (ix3 i h d)
    = rot (PF (V0 (Proc.devRef .tc main_arg2)) i) (fun e => QF (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg14)) (V0 (Proc.devRef .tc main_arg15)) (V0 (Proc.devRef .tc main_arg16)) i ⟨h.val * 192 + 128 + e.val, by omega⟩) d := by
  rw [HRQ_at _ _ _ _ _ _ (angle V0 _)]
  refine congrFun (congrArg (rot _) (funext fun e => ?_)) d
  rw [HQ2_at, rq_at]
  exact congrArg (QF _ _ _ _ _ _ _ _ _ _ _ _ _ _) (Fin.ext (Nat.add_assoc _ _ _).symm)

theorem rq_out (b h : Fin 8) (s : Fin 4096) (l : Fin 256) : HTR (HCAT (RQ V0) (HRQ (HQ2 (RQ V0)) (Value.res_main_v97 V0))) (ix4 b h s l)
    = QO (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg14)) (V0 (Proc.devRef .tc main_arg15)) (V0 (Proc.devRef .tc main_arg16)) b h s l := by
  rw [HTR_at, HCAT_at]
  simp only [rotq_at, rq_at]
  rfl

theorem res1 : HTR (HCAT (RQ V0) (HRQ (HQ2 (RQ V0)) (Value.res_main_v97 V0))) = fun y => QO (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg14)) (V0 (Proc.devRef .tc main_arg15)) (V0 (Proc.devRef .tc main_arg16)) (y 0) (y 1) (y 2) (y 3) :=
  funext fun y => (congrArg _ (eq_ix4 y)).trans (rq_out V0 (y 0) (y 1) (y 2) (y 3))

theorem res2 : HK (HKV (extractStridedSlice S32768x256 ![0, 0] (HKA (H V0) (V0 (Proc.devRef .tc main_arg11))) slices_S32768x320_S32768x256_0_0) (V0 (Proc.devRef .tc main_arg12)) (V0 (Proc.devRef .tc main_arg13)))
    = fun y => KO (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (y 0) (y 1) (y 2) (y 3) :=
  funext fun y => (congrArg _ (eq_ix4 y)).trans ((HK_at _ (y 0) (y 1) (y 2) (y 3)).trans (kv_at V0 _ _))

theorem res3 : HRO (HRK (HK2 (HKA (H V0) (V0 (Proc.devRef .tc main_arg11)))) (Value.res_main_v97 V0)) = fun y => RO (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (y 0) (y 1) (y 2) := by
  funext y
  refine (congrArg _ (eq_ix3 y)).trans ((HRO_at _ (y 0) (y 1) (y 2)).trans ?_)
  simp only [HRK_at _ _ _ _ _ (angle V0 _), HK2_at, HKA_at, h_at]
  rfl

theorem res4 : HV (HKV (extractStridedSlice S32768x256 ![0, 0] (HKA (H V0) (V0 (Proc.devRef .tc main_arg11))) slices_S32768x320_S32768x256_0_0) (V0 (Proc.devRef .tc main_arg12)) (V0 (Proc.devRef .tc main_arg13)))
    = fun y => VO (V0 (Proc.devRef .tc main_arg0)) (V0 (Proc.devRef .tc main_arg1)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (y 0) (y 1) (y 2) (y 3) :=
  funext fun y => (congrArg _ (eq_ix4 y)).trans ((HV_at _ (y 0) (y 1) (y 2) (y 3)).trans (kv_at V0 _ _))

/-- The five arrays the reference ends with. -/
theorem run_at (m : (ℓ : Loc nD τ sig) → Buf (Elt Ideal) ℓ) (ρ : Dev nD → PrngReg) : θ_run defs (onTc (τ := τ) (main (F := Ideal))) ⟨m, fun _ => 0, ρ⟩ fun r => ∀ c : Dev nD,
    r.2.mem ((c.tc : Thread nD τ).loc main_v85) = (fun y => HF (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (y 0) (y 1))
    ∧ r.2.mem ((c.tc : Thread nD τ).loc main_v173) = (fun y => QO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg14)) (m ((c.tc : Thread nD τ).loc main_arg15)) (m ((c.tc : Thread nD τ).loc main_arg16)) (y 0) (y 1) (y 2) (y 3))
    ∧ r.2.mem ((c.tc : Thread nD τ).loc main_v175) = (fun y => KO (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (y 0) (y 1) (y 2) (y 3))
    ∧ r.2.mem ((c.tc : Thread nD τ).loc main_v177) = (fun y => RO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (y 0) (y 1) (y 2))
    ∧ r.2.mem ((c.tc : Thread nD τ).loc main_v179) = (fun y => VO (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (y 0) (y 1) (y 2) (y 3))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16) :=
  (θ_run defs _ _).mono (fun _ h c => ⟨(h c).1.trans (res0 (launchContents m c)), (h c).2.1.trans (res1 (launchContents m c)), (h c).2.2.1.trans (res2 (launchContents m c)),
    (h c).2.2.2.1.trans (res3 (launchContents m c)), (h c).2.2.2.2.1.trans (res4 (launchContents m c)), (h c).2.2.2.2.2⟩) (Value.run (F := Ideal) m ρ)

end Cert.Reference3Ideal.Tail
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal.Value
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Frame3
public import proofs.«01_k».proof.Proof.Value3
public import proofs.«01_k».proof.Proof.Gen.Reference3Ideal.Run
public import proofs.«01_k».proof.Proof.Gen.Reference2Ideal.Run
public import proofs.«01_k».proof.Proof.Result
public import proofs.«01_k».proof.Proof.Reference
public import proofs.«01_k».proof.Proof.Finite
public import proofs.«01_k».proof.Proof.MlpReference
public import proofs.«01_k».proof.Proof.TailResult
public import proofs.«01_k».proof.Proof.TailReference
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs, keeps its arguments and leaves every counter at zero. -/
theorem frame_ri : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The one named constant, the causal mask, is `-∞`. -/
theorem preserves : Cert.preserves_Kernel_KernelIdeal :=
  IdealRules.named_const.statement Cert.KernelIdeal.κ "mask" .f32 0xF149F2CA#32 ⊥ rfl

/-- From real queries and keys the kernel and the reference end with the same array: the causal attention. -/
theorem algebraic : Cert.algebraic_KernelIdeal_ReferenceIdeal_pre_finite_scores (hPre_finite_scores := Cert.Pre_finite_scores.facts) := by
  intro m g m' g' hpre hag
  have hR := fun c => Cert.Pre_finite_scores.decode _ _ _ _ (hpre c)
  refine ⟨fun c => Cert.KernelIdeal.Attn.attF (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg2)),
    (θ_run Cert.KernelIdeal.defs _ _).mono (fun _ h c => ⟨(h c).1.trans (Cert.KernelIdeal.Attn.final m c (hR c)), (h c).2⟩)
      (Cert.KernelIdeal.Value.run_blocks (F := Ideal) m g),
    (θ_run Cert.ReferenceIdeal.defs _ _).mono (fun _ h c => ⟨(h c).1.trans ?_, (h c).2⟩) (Cert.ReferenceIdeal.Value.run (F := Ideal) m' g')⟩
  obtain ⟨h0, h1, h2, h3⟩ := hag c
  rw [Cert.ReferenceIdeal.Attn.result m' c (by rw [h0, h1, h2]; exact hR c), h0, h1, h2, h3]

/-- The second reference runs, keeps its arguments and leaves every counter at zero. -/
theorem frame_ri2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The second kernel and its reference end with the same array: every row's layer. -/
theorem algebraic2 : Cert.algebraic_Kernel2Ideal_Reference2Ideal := by
  intro m g m' g' _ hag
  refine ⟨fun c => Cert.Kernel2Ideal.Mlp.resF m c,
    (θ_run Cert.Kernel2Ideal.defs _ _).mono (fun _ h c => ⟨(h c).1.trans (Cert.Kernel2Ideal.Mlp.final m c), (h c).2⟩)
      (Cert.Kernel2Ideal.Value.run_blocks (F := Ideal) m g),
    (θ_run Cert.Reference2Ideal.defs _ _).mono (fun _ h c => ⟨(h c).1.trans ?_, (h c).2⟩) (Cert.Reference2Ideal.Value.run (F := Ideal) m' g')⟩
  obtain ⟨h0, h1, h2, h3, h4, h5, h6, h7, h8⟩ := hag c
  refine (Cert.Reference2Ideal.Mlp.result m' c).trans ?_
  rw [h0, h1, h2, h3, h4, h5, h6, h7, h8]
  rfl

/-- The third reference runs, keeps its arguments and leaves every counter at zero. -/
theorem frame_ri3 : Cert.quiescent_Reference3Ideal := fun m g _ =>
  (θ_run Cert.Reference3Ideal.defs _ _).mono (fun r h => ⟨fun c => (h c).2.2.2.2.2, sem_eq_zero_of_no_sems (by decide) r.2⟩)
    (Cert.Reference3Ideal.Value.run (F := Ideal) m g)

open Cert.Kernel3Ideal.Tail in
/-- The third kernel and its reference end with the same five arrays: every row's layer, and its queries, keys, rotated key and values. -/
theorem algebraic3 : Cert.algebraic_Kernel3Ideal_Reference3Ideal := by
  intro m g m' g' _ hag
  refine ⟨fun c => res17 m c, fun c => res18 m c, fun c => res19 m c, fun c => res20 m c, fun c => res21 m c,
    (θ_run Cert.Kernel3Ideal.defs _ _).mono (fun _ h c => ⟨(h c).1.trans (final17 m c), (h c).2.1.trans (final18 m c), (h c).2.2.1.trans (final19 m c),
      (h c).2.2.2.1.trans (final20 m c), (h c).2.2.2.2.1.trans (final21 m c), (h c).2.2.2.2.2⟩) (Cert.Kernel3Ideal.Value.run_blocks (F := Ideal) m g),
    (θ_run Cert.Reference3Ideal.defs _ _).mono (fun _ h c => ?_) (Cert.Reference3Ideal.Tail.run_at m' g')⟩
  obtain ⟨h0, h1, h2, h3, h4, h5, h6, h7, h8, h9, h10, h11, h12, h13, h14, h15, h16⟩ := hag c
  obtain ⟨e0, e1, e2, e3, e4, hk⟩ := h c
  rw [h0, h1, h3, h4, h5, h6, h7, h8, h9, h10] at e0 e1 e2 e3 e4
  rw [h2, h14, h15, h16] at e1
  rw [h11, h12, h13] at e2 e4
  rw [h2, h11] at e3
  exact ⟨e0, e1, e2, e3, e4, hk⟩

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite_scores.facts,
    fun m g _ => Cert.Kernel.Gen.frame m g, fun m g _ => Cert.KernelIdeal.Gen.frame m g, fun m g _ => Cert.KernelIdeal.Gen.frame m g,
    frame_ri, fun m g _ => frame_ri m g trivial, fun m g _ => Cert.Kernel2.Gen.frame m g, fun m g _ => Cert.Kernel2Ideal.Gen.frame m g,
    frame_ri2, fun m g _ => Cert.Kernel3.Gen.frame m g, fun m g _ => Cert.Kernel3Ideal.Gen.frame m g, frame_ri3, preserves, algebraic, trivial, algebraic2, trivial, algebraic3⟩

end Cert.Proof

end
